-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_nonneg_KernelIdeal [hPre_scale_nonneg_KernelIdeal : Cert.Pre_scale_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_nonneg_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_nonneg_ReferenceIdeal [hPre_scale_nonneg_ReferenceIdeal : Cert.Pre_scale_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_nonneg_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_nonneg_KernelIdeal [hKernelIdeal : Cert.KernelIdeal.Facts] [hPre_scale_nonneg_KernelIdeal : Cert.Pre_scale_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_nonneg_ReferenceIdeal [hReferenceIdeal : Cert.ReferenceIdeal.Facts] [hPre_scale_nonneg_ReferenceIdeal : Cert.Pre_scale_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_nonneg_KernelIdeal [hKernelIdeal : Cert.KernelIdeal.Facts] [hReferenceIdeal : Cert.ReferenceIdeal.Facts] [hPre_scale_nonneg_KernelIdeal : Cert.Pre_scale_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_nonneg_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_nonneg_KernelIdeal : Cert.Pre_scale_nonneg_KernelIdeal.Facts) (hPre_scale_nonneg_ReferenceIdeal : Cert.Pre_scale_nonneg_ReferenceIdeal.Facts),
    quiescent_Kernel (hKernel := hKernel)
    ∧ quiescent_KernelIdeal (hKernelIdeal := hKernelIdeal)
    ∧ quiescent_KernelIdeal_pre_scale_nonneg_KernelIdeal (hKernelIdeal := hKernelIdeal) (hPre_scale_nonneg_KernelIdeal := hPre_scale_nonneg_KernelIdeal)
    ∧ quiescent_ReferenceIdeal (hReferenceIdeal := hReferenceIdeal)
    ∧ quiescent_ReferenceIdeal_pre_scale_nonneg_ReferenceIdeal (hReferenceIdeal := hReferenceIdeal) (hPre_scale_nonneg_ReferenceIdeal := hPre_scale_nonneg_ReferenceIdeal)
    ∧ preserves_Kernel_KernelIdeal
    ∧ algebraic_KernelIdeal_ReferenceIdeal_pre_scale_nonneg_KernelIdeal (hKernelIdeal := hKernelIdeal) (hReferenceIdeal := hReferenceIdeal) (hPre_scale_nonneg_KernelIdeal := hPre_scale_nonneg_KernelIdeal)
-- ==== Pre_scale_nonneg_KernelIdeal.lean ====
abbrev S4096x512 : Shape := ⟨2, ![4096, 512]⟩
abbrev S512x2048 : Shape := ⟨2, ![512, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x512 .fp8e4m3) (main_arg1 : FVec F S512x2048 .fp8e4m3) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Pre_scale_nonneg_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .fp8e4m3) (main_arg1 : FVec F S4096x2048 .fp8e4m3) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S8x512x256 : Shape := ⟨3, ![8, 512, 256]⟩
abbrev S8x2x512x256 : Shape := ⟨4, ![8, 2, 512, 256]⟩
abbrev S8x2 : Shape := ⟨2, ![8, 2]⟩
abbrev S8x3x512x256 : Shape := ⟨4, ![8, 3, 512, 256]⟩
abbrev S8x3 : Shape := ⟨2, ![8, 3]⟩
abbrev S_ : Shape := ⟨0, ![]⟩
abbrev S512x512 : Shape := ⟨2, ![512, 512]⟩
abbrev S512x256 : Shape := ⟨2, ![512, 256]⟩
abbrev S1x512x256 : Shape := ⟨3, ![1, 512, 256]⟩
abbrev S1x1 : Shape := ⟨2, ![1, 1]⟩
abbrev S1x1x512x256 : Shape := ⟨4, ![1, 1, 512, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .fp8e4m3⟩
  | .hbm, ⟨1, _⟩ => ⟨S512x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e4m3⟩
  | .local _ .vmem, ⟨1, _⟩ => ⟨S512x2048, .fp8e4m3⟩
  | .local _ .vmem, ⟨2, _⟩ => ⟨S1, .f32⟩
  | .local _ .vmem, ⟨3, _⟩ => ⟨S1, .f32⟩
  | .local _ .vmem, ⟨4, _⟩ => ⟨S4096x2048, .f32⟩
  | .local _ .vmem, ⟨5, _⟩ => ⟨S8x512x256, .bf16⟩
  | .local _ .vmem, ⟨6, _⟩ => ⟨S8x2x512x256, .bf16⟩
  | .local _ .vmem, ⟨7, _⟩ => ⟨S8x3x512x256, .bf16⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 41 85 bufScoped semScoped dmaSemScoped tileCredit tileCredit_eq_zero tileCredit_pos).withBarriers [(0, 40)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 40

abbrev nD : Nat := 8
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_25 : BitVec 32 := 1#32
  let v46 : BitVec 32 := Scalar.muli v33 c1_i32_25
  let v47 : BitVec 32 := Scalar.addi c0_i32_26 v46
  v47.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_28 : BitVec 32 := 1#32
  let v48 : BitVec 32 := Scalar.muli v19 c1_i32_28
  let v49 : BitVec 32 := Scalar.addi c0_i32_29 v48
  v49.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32 : BitVec 32 := 512#32
  let v98 : BitVec 32 := Scalar.muli v5 c512_i32
  let v99 : Index := Scalar.indexCast v98
  let c0_53 : Index := 0#32
  ![v99.toNat, 0]
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_64 : BitVec 32 := 1#32
  let v106 : BitVec 32 := Scalar.muli v19 c1_i32_64
  let v107 : BitVec 32 := Scalar.addi c0_i32_65 v106
  v107.toNat
def k0_off2 (d0 : Dev nD) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c512_i32_70 : BitVec 32 := 512#32
  let v116 : BitVec 32 := Scalar.muli v44 c512_i32_70
  let v117 : Index := Scalar.indexCast v116
  let c1024 : Index := 1024#32
  ![v117.toNat, 1024]
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_80 : BitVec 32 := 1#32
  let v124 : BitVec 32 := Scalar.muli v33 c1_i32_80
  let v125 : BitVec 32 := Scalar.addi c0_i32_81 v124
  v125.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_86 : BitVec 32 := 512#32
  let v134 : BitVec 32 := Scalar.muli v5 c512_i32_86
  let v135 : Index := Scalar.indexCast v134
  let c256 : Index := 256#32
  ![v135.toNat, 256]
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_96 : BitVec 32 := 1#32
  let v142 : BitVec 32 := Scalar.muli v19 c1_i32_96
  let v143 : BitVec 32 := Scalar.addi c0_i32_97 v142
  v143.toNat
def k0_off4 (d0 : Dev nD) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c512_i32_102 : BitVec 32 := 512#32
  let v152 : BitVec 32 := Scalar.muli v44 c512_i32_102
  let v153 : Index := Scalar.indexCast v152
  let c1280 : Index := 1280#32
  ![v153.toNat, 1280]
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_112 : BitVec 32 := 1#32
  let v160 : BitVec 32 := Scalar.muli v33 c1_i32_112
  let v161 : BitVec 32 := Scalar.addi c0_i32_113 v160
  v161.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_118 : BitVec 32 := 512#32
  let v170 : BitVec 32 := Scalar.muli v5 c512_i32_118
  let v171 : Index := Scalar.indexCast v170
  let c512 : Index := 512#32
  ![v171.toNat, 512]
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_128 : BitVec 32 := 1#32
  let v178 : BitVec 32 := Scalar.muli v19 c1_i32_128
  let v179 : BitVec 32 := Scalar.addi c0_i32_129 v178
  v179.toNat
def k0_off6 (d0 : Dev nD) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c512_i32_134 : BitVec 32 := 512#32
  let v188 : BitVec 32 := Scalar.muli v44 c512_i32_134
  let v189 : Index := Scalar.indexCast v188
  let c1536 : Index := 1536#32
  ![v189.toNat, 1536]
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_144 : BitVec 32 := 1#32
  let v196 : BitVec 32 := Scalar.muli v33 c1_i32_144
  let v197 : BitVec 32 := Scalar.addi c0_i32_145 v196
  v197.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_150 : BitVec 32 := 512#32
  let v206 : BitVec 32 := Scalar.muli v5 c512_i32_150
  let v207 : Index := Scalar.indexCast v206
  let c768 : Index := 768#32
  ![v207.toNat, 768]
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_160 : BitVec 32 := 1#32
  let v214 : BitVec 32 := Scalar.muli v19 c1_i32_160
  let v215 : BitVec 32 := Scalar.addi c0_i32_161 v214
  v215.toNat
def k0_off8 (d0 : Dev nD) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c512_i32_166 : BitVec 32 := 512#32
  let v224 : BitVec 32 := Scalar.muli v44 c512_i32_166
  let v225 : Index := Scalar.indexCast v224
  let c1792 : Index := 1792#32
  ![v225.toNat, 1792]
def k0_dev10 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_176 : BitVec 32 := 1#32
  let v232 : BitVec 32 := Scalar.muli v33 c1_i32_176
  let v233 : BitVec 32 := Scalar.addi c0_i32_177 v232
  v233.toNat
def k0_off9 (d0 : Dev nD) (c0_i32_223 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v280 : BitVec 32 := Scalar.subi v5 c0_i32_223
  let c1_i32_224 : BitVec 32 := 1#32
  let v281 : BitVec 32 := Scalar.subi v280 c1_i32_224
  let c8_i32_225 : BitVec 32 := 8#32
  let c0_i32_226 : BitVec 32 := 0#32
  let v282 : BitVec 1 := Scalar.cmpi .eq c8_i32_225 c0_i32_226
  let c1_i32_227 : BitVec 32 := 1#32
  let v283 : BitVec 32 := Scalar.select v282 c1_i32_227 c8_i32_225
  let v284 : BitVec 32 := Scalar.remsi v281 v283
  let c0_i32_229 : BitVec 32 := 0#32
  let v286 : BitVec 1 := Scalar.cmpi .slt v284 c0_i32_229
  let c0_i32_230 : BitVec 32 := 0#32
  let v287 : BitVec 1 := Scalar.cmpi .slt v283 c0_i32_230
  let v288 : BitVec 1 := Scalar.xori v286 v287
  let c0_i32_228 : BitVec 32 := 0#32
  let v285 : BitVec 1 := Scalar.cmpi .ne v284 c0_i32_228
  let v289 : BitVec 1 := Scalar.andi v288 v285
  let v290 : BitVec 32 := Scalar.addi v284 v283
  let v291 : BitVec 32 := Scalar.select v289 v290 v284
  let c512_i32_231 : BitVec 32 := 512#32
  let v292 : BitVec 32 := Scalar.muli v291 c512_i32_231
  let v293 : Index := Scalar.indexCast v292
  let c0_232 : Index := 0#32
  ![v293.toNat, 0]
def k0_dev11 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_247 : BitVec 32 := 1#32
  let v304 : BitVec 32 := Scalar.muli v19 c1_i32_247
  let v305 : BitVec 32 := Scalar.addi c0_i32_248 v304
  v305.toNat
def k0_dev12 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_256 : BitVec 32 := 1#32
  let v316 : BitVec 32 := Scalar.muli v33 c1_i32_256
  let v317 : BitVec 32 := Scalar.addi c0_i32_257 v316
  v317.toNat
def k0_off10 (d0 : Dev nD) (c0_i32_283 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v332 : BitVec 32 := Scalar.subi v44 c0_i32_283
  let c1_i32_284 : BitVec 32 := 1#32
  let v333 : BitVec 32 := Scalar.subi v332 c1_i32_284
  let c8_i32_285 : BitVec 32 := 8#32
  let c0_i32_286 : BitVec 32 := 0#32
  let v334 : BitVec 1 := Scalar.cmpi .eq c8_i32_285 c0_i32_286
  let c1_i32_287 : BitVec 32 := 1#32
  let v335 : BitVec 32 := Scalar.select v334 c1_i32_287 c8_i32_285
  let v336 : BitVec 32 := Scalar.remsi v333 v335
  let c0_i32_289 : BitVec 32 := 0#32
  let v338 : BitVec 1 := Scalar.cmpi .slt v336 c0_i32_289
  let c0_i32_290 : BitVec 32 := 0#32
  let v339 : BitVec 1 := Scalar.cmpi .slt v335 c0_i32_290
  let v340 : BitVec 1 := Scalar.xori v338 v339
  let c0_i32_288 : BitVec 32 := 0#32
  let v337 : BitVec 1 := Scalar.cmpi .ne v336 c0_i32_288
  let v341 : BitVec 1 := Scalar.andi v340 v337
  let v342 : BitVec 32 := Scalar.addi v336 v335
  let v343 : BitVec 32 := Scalar.select v341 v342 v336
  let c512_i32_291 : BitVec 32 := 512#32
  let v344 : BitVec 32 := Scalar.muli v343 c512_i32_291
  let v345 : Index := Scalar.indexCast v344
  let c1024_292 : Index := 1024#32
  ![v345.toNat, 1024]
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_307 : BitVec 32 := 1#32
  let v356 : BitVec 32 := Scalar.muli v33 c1_i32_307
  let v357 : BitVec 32 := Scalar.addi c0_i32_308 v356
  v357.toNat
def k0_dev14 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_316 : BitVec 32 := 1#32
  let v368 : BitVec 32 := Scalar.muli v19 c1_i32_316
  let v369 : BitVec 32 := Scalar.addi c0_i32_317 v368
  v369.toNat
def k0_off11 (d0 : Dev nD) (c0_i32_343 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v384 : BitVec 32 := Scalar.subi v5 c0_i32_343
  let c1_i32_344 : BitVec 32 := 1#32
  let v385 : BitVec 32 := Scalar.subi v384 c1_i32_344
  let c8_i32_345 : BitVec 32 := 8#32
  let c0_i32_346 : BitVec 32 := 0#32
  let v386 : BitVec 1 := Scalar.cmpi .eq c8_i32_345 c0_i32_346
  let c1_i32_347 : BitVec 32 := 1#32
  let v387 : BitVec 32 := Scalar.select v386 c1_i32_347 c8_i32_345
  let v388 : BitVec 32 := Scalar.remsi v385 v387
  let c0_i32_349 : BitVec 32 := 0#32
  let v390 : BitVec 1 := Scalar.cmpi .slt v388 c0_i32_349
  let c0_i32_350 : BitVec 32 := 0#32
  let v391 : BitVec 1 := Scalar.cmpi .slt v387 c0_i32_350
  let v392 : BitVec 1 := Scalar.xori v390 v391
  let c0_i32_348 : BitVec 32 := 0#32
  let v389 : BitVec 1 := Scalar.cmpi .ne v388 c0_i32_348
  let v393 : BitVec 1 := Scalar.andi v392 v389
  let v394 : BitVec 32 := Scalar.addi v388 v387
  let v395 : BitVec 32 := Scalar.select v393 v394 v388
  let c512_i32_351 : BitVec 32 := 512#32
  let v396 : BitVec 32 := Scalar.muli v395 c512_i32_351
  let v397 : Index := Scalar.indexCast v396
  let c256_352 : Index := 256#32
  ![v397.toNat, 256]
def k0_dev15 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_367 : BitVec 32 := 1#32
  let v408 : BitVec 32 := Scalar.muli v19 c1_i32_367
  let v409 : BitVec 32 := Scalar.addi c0_i32_368 v408
  v409.toNat
def k0_dev16 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_376 : BitVec 32 := 1#32
  let v420 : BitVec 32 := Scalar.muli v33 c1_i32_376
  let v421 : BitVec 32 := Scalar.addi c0_i32_377 v420
  v421.toNat
def k0_off12 (d0 : Dev nD) (c0_i32_403 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v436 : BitVec 32 := Scalar.subi v44 c0_i32_403
  let c1_i32_404 : BitVec 32 := 1#32
  let v437 : BitVec 32 := Scalar.subi v436 c1_i32_404
  let c8_i32_405 : BitVec 32 := 8#32
  let c0_i32_406 : BitVec 32 := 0#32
  let v438 : BitVec 1 := Scalar.cmpi .eq c8_i32_405 c0_i32_406
  let c1_i32_407 : BitVec 32 := 1#32
  let v439 : BitVec 32 := Scalar.select v438 c1_i32_407 c8_i32_405
  let v440 : BitVec 32 := Scalar.remsi v437 v439
  let c0_i32_409 : BitVec 32 := 0#32
  let v442 : BitVec 1 := Scalar.cmpi .slt v440 c0_i32_409
  let c0_i32_410 : BitVec 32 := 0#32
  let v443 : BitVec 1 := Scalar.cmpi .slt v439 c0_i32_410
  let v444 : BitVec 1 := Scalar.xori v442 v443
  let c0_i32_408 : BitVec 32 := 0#32
  let v441 : BitVec 1 := Scalar.cmpi .ne v440 c0_i32_408
  let v445 : BitVec 1 := Scalar.andi v444 v441
  let v446 : BitVec 32 := Scalar.addi v440 v439
  let v447 : BitVec 32 := Scalar.select v445 v446 v440
  let c512_i32_411 : BitVec 32 := 512#32
  let v448 : BitVec 32 := Scalar.muli v447 c512_i32_411
  let v449 : Index := Scalar.indexCast v448
  let c1280_412 : Index := 1280#32
  ![v449.toNat, 1280]
def k0_dev17 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_427 : BitVec 32 := 1#32
  let v460 : BitVec 32 := Scalar.muli v33 c1_i32_427
  let v461 : BitVec 32 := Scalar.addi c0_i32_428 v460
  v461.toNat
def k0_dev18 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_436 : BitVec 32 := 1#32
  let v472 : BitVec 32 := Scalar.muli v19 c1_i32_436
  let v473 : BitVec 32 := Scalar.addi c0_i32_437 v472
  v473.toNat
def k0_off13 (d0 : Dev nD) (c0_i32_463 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v488 : BitVec 32 := Scalar.subi v5 c0_i32_463
  let c1_i32_464 : BitVec 32 := 1#32
  let v489 : BitVec 32 := Scalar.subi v488 c1_i32_464
  let c8_i32_465 : BitVec 32 := 8#32
  let c0_i32_466 : BitVec 32 := 0#32
  let v490 : BitVec 1 := Scalar.cmpi .eq c8_i32_465 c0_i32_466
  let c1_i32_467 : BitVec 32 := 1#32
  let v491 : BitVec 32 := Scalar.select v490 c1_i32_467 c8_i32_465
  let v492 : BitVec 32 := Scalar.remsi v489 v491
  let c0_i32_469 : BitVec 32 := 0#32
  let v494 : BitVec 1 := Scalar.cmpi .slt v492 c0_i32_469
  let c0_i32_470 : BitVec 32 := 0#32
  let v495 : BitVec 1 := Scalar.cmpi .slt v491 c0_i32_470
  let v496 : BitVec 1 := Scalar.xori v494 v495
  let c0_i32_468 : BitVec 32 := 0#32
  let v493 : BitVec 1 := Scalar.cmpi .ne v492 c0_i32_468
  let v497 : BitVec 1 := Scalar.andi v496 v493
  let v498 : BitVec 32 := Scalar.addi v492 v491
  let v499 : BitVec 32 := Scalar.select v497 v498 v492
  let c512_i32_471 : BitVec 32 := 512#32
  let v500 : BitVec 32 := Scalar.muli v499 c512_i32_471
  let v501 : Index := Scalar.indexCast v500
  let c512_472 : Index := 512#32
  ![v501.toNat, 512]
def k0_dev19 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_487 : BitVec 32 := 1#32
  let v512 : BitVec 32 := Scalar.muli v19 c1_i32_487
  let v513 : BitVec 32 := Scalar.addi c0_i32_488 v512
  v513.toNat
def k0_dev20 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_496 : BitVec 32 := 1#32
  let v524 : BitVec 32 := Scalar.muli v33 c1_i32_496
  let v525 : BitVec 32 := Scalar.addi c0_i32_497 v524
  v525.toNat
def k0_off14 (d0 : Dev nD) (c0_i32_523 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v540 : BitVec 32 := Scalar.subi v44 c0_i32_523
  let c1_i32_524 : BitVec 32 := 1#32
  let v541 : BitVec 32 := Scalar.subi v540 c1_i32_524
  let c8_i32_525 : BitVec 32 := 8#32
  let c0_i32_526 : BitVec 32 := 0#32
  let v542 : BitVec 1 := Scalar.cmpi .eq c8_i32_525 c0_i32_526
  let c1_i32_527 : BitVec 32 := 1#32
  let v543 : BitVec 32 := Scalar.select v542 c1_i32_527 c8_i32_525
  let v544 : BitVec 32 := Scalar.remsi v541 v543
  let c0_i32_529 : BitVec 32 := 0#32
  let v546 : BitVec 1 := Scalar.cmpi .slt v544 c0_i32_529
  let c0_i32_530 : BitVec 32 := 0#32
  let v547 : BitVec 1 := Scalar.cmpi .slt v543 c0_i32_530
  let v548 : BitVec 1 := Scalar.xori v546 v547
  let c0_i32_528 : BitVec 32 := 0#32
  let v545 : BitVec 1 := Scalar.cmpi .ne v544 c0_i32_528
  let v549 : BitVec 1 := Scalar.andi v548 v545
  let v550 : BitVec 32 := Scalar.addi v544 v543
  let v551 : BitVec 32 := Scalar.select v549 v550 v544
  let c512_i32_531 : BitVec 32 := 512#32
  let v552 : BitVec 32 := Scalar.muli v551 c512_i32_531
  let v553 : Index := Scalar.indexCast v552
  let c1536_532 : Index := 1536#32
  ![v553.toNat, 1536]
def k0_dev21 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_547 : BitVec 32 := 1#32
  let v564 : BitVec 32 := Scalar.muli v33 c1_i32_547
  let v565 : BitVec 32 := Scalar.addi c0_i32_548 v564
  v565.toNat
def k0_dev22 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_556 : BitVec 32 := 1#32
  let v576 : BitVec 32 := Scalar.muli v19 c1_i32_556
  let v577 : BitVec 32 := Scalar.addi c0_i32_557 v576
  v577.toNat
def k0_off15 (d0 : Dev nD) (c0_i32_583 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v592 : BitVec 32 := Scalar.subi v5 c0_i32_583
  let c1_i32_584 : BitVec 32 := 1#32
  let v593 : BitVec 32 := Scalar.subi v592 c1_i32_584
  let c8_i32_585 : BitVec 32 := 8#32
  let c0_i32_586 : BitVec 32 := 0#32
  let v594 : BitVec 1 := Scalar.cmpi .eq c8_i32_585 c0_i32_586
  let c1_i32_587 : BitVec 32 := 1#32
  let v595 : BitVec 32 := Scalar.select v594 c1_i32_587 c8_i32_585
  let v596 : BitVec 32 := Scalar.remsi v593 v595
  let c0_i32_589 : BitVec 32 := 0#32
  let v598 : BitVec 1 := Scalar.cmpi .slt v596 c0_i32_589
  let c0_i32_590 : BitVec 32 := 0#32
  let v599 : BitVec 1 := Scalar.cmpi .slt v595 c0_i32_590
  let v600 : BitVec 1 := Scalar.xori v598 v599
  let c0_i32_588 : BitVec 32 := 0#32
  let v597 : BitVec 1 := Scalar.cmpi .ne v596 c0_i32_588
  let v601 : BitVec 1 := Scalar.andi v600 v597
  let v602 : BitVec 32 := Scalar.addi v596 v595
  let v603 : BitVec 32 := Scalar.select v601 v602 v596
  let c512_i32_591 : BitVec 32 := 512#32
  let v604 : BitVec 32 := Scalar.muli v603 c512_i32_591
  let v605 : Index := Scalar.indexCast v604
  let c768_592 : Index := 768#32
  ![v605.toNat, 768]
def k0_dev23 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_607 : BitVec 32 := 1#32
  let v616 : BitVec 32 := Scalar.muli v19 c1_i32_607
  let v617 : BitVec 32 := Scalar.addi c0_i32_608 v616
  v617.toNat
def k0_dev24 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_616 : BitVec 32 := 1#32
  let v628 : BitVec 32 := Scalar.muli v33 c1_i32_616
  let v629 : BitVec 32 := Scalar.addi c0_i32_617 v628
  v629.toNat
def k0_off16 (d0 : Dev nD) (c0_i32_643 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v644 : BitVec 32 := Scalar.subi v44 c0_i32_643
  let c1_i32_644 : BitVec 32 := 1#32
  let v645 : BitVec 32 := Scalar.subi v644 c1_i32_644
  let c8_i32_645 : BitVec 32 := 8#32
  let c0_i32_646 : BitVec 32 := 0#32
  let v646 : BitVec 1 := Scalar.cmpi .eq c8_i32_645 c0_i32_646
  let c1_i32_647 : BitVec 32 := 1#32
  let v647 : BitVec 32 := Scalar.select v646 c1_i32_647 c8_i32_645
  let v648 : BitVec 32 := Scalar.remsi v645 v647
  let c0_i32_649 : BitVec 32 := 0#32
  let v650 : BitVec 1 := Scalar.cmpi .slt v648 c0_i32_649
  let c0_i32_650 : BitVec 32 := 0#32
  let v651 : BitVec 1 := Scalar.cmpi .slt v647 c0_i32_650
  let v652 : BitVec 1 := Scalar.xori v650 v651
  let c0_i32_648 : BitVec 32 := 0#32
  let v649 : BitVec 1 := Scalar.cmpi .ne v648 c0_i32_648
  let v653 : BitVec 1 := Scalar.andi v652 v649
  let v654 : BitVec 32 := Scalar.addi v648 v647
  let v655 : BitVec 32 := Scalar.select v653 v654 v648
  let c512_i32_651 : BitVec 32 := 512#32
  let v656 : BitVec 32 := Scalar.muli v655 c512_i32_651
  let v657 : Index := Scalar.indexCast v656
  let c1792_652 : Index := 1792#32
  ![v657.toNat, 1792]
def k0_dev25 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_667 : BitVec 32 := 1#32
  let v668 : BitVec 32 := Scalar.muli v33 c1_i32_667
  let v669 : BitVec 32 := Scalar.addi c0_i32_668 v668
  v669.toNat
def k0_dev26 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_676 : BitVec 32 := 1#32
  let v680 : BitVec 32 := Scalar.muli v19 c1_i32_676
  let v681 : BitVec 32 := Scalar.addi c0_i32_677 v680
  v681.toNat
def k0_dev27 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_731 : BitVec 32 := 1#32
  let v722 : BitVec 32 := Scalar.muli v19 c1_i32_731
  let v723 : BitVec 32 := Scalar.addi c0_i32_732 v722
  v723.toNat
def k0_dev28 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_740 : BitVec 32 := 1#32
  let v734 : BitVec 32 := Scalar.muli v33 c1_i32_740
  let v735 : BitVec 32 := Scalar.addi c0_i32_741 v734
  v735.toNat
def k0_dev29 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_795 : BitVec 32 := 1#32
  let v776 : BitVec 32 := Scalar.muli v33 c1_i32_795
  let v777 : BitVec 32 := Scalar.addi c0_i32_796 v776
  v777.toNat
def k0_dev30 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_804 : BitVec 32 := 1#32
  let v788 : BitVec 32 := Scalar.muli v19 c1_i32_804
  let v789 : BitVec 32 := Scalar.addi c0_i32_805 v788
  v789.toNat
def k0_dev31 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_859 : BitVec 32 := 1#32
  let v830 : BitVec 32 := Scalar.muli v19 c1_i32_859
  let v831 : BitVec 32 := Scalar.addi c0_i32_860 v830
  v831.toNat
def k0_dev32 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_868 : BitVec 32 := 1#32
  let v842 : BitVec 32 := Scalar.muli v33 c1_i32_868
  let v843 : BitVec 32 := Scalar.addi c0_i32_869 v842
  v843.toNat
def k0_dev33 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_923 : BitVec 32 := 1#32
  let v884 : BitVec 32 := Scalar.muli v33 c1_i32_923
  let v885 : BitVec 32 := Scalar.addi c0_i32_924 v884
  v885.toNat
def k0_dev34 (d0 : Dev nD) : Nat :=
  let c0_i32_933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_932 : BitVec 32 := 1#32
  let v896 : BitVec 32 := Scalar.muli v19 c1_i32_932
  let v897 : BitVec 32 := Scalar.addi c0_i32_933 v896
  v897.toNat
def k0_dev35 (d0 : Dev nD) : Nat :=
  let c0_i32_988 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_987 : BitVec 32 := 1#32
  let v938 : BitVec 32 := Scalar.muli v19 c1_i32_987
  let v939 : BitVec 32 := Scalar.addi c0_i32_988 v938
  v939.toNat
def k0_dev36 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_996 : BitVec 32 := 1#32
  let v950 : BitVec 32 := Scalar.muli v33 c1_i32_996
  let v951 : BitVec 32 := Scalar.addi c0_i32_997 v950
  v951.toNat
def k0_dev37 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1051 : BitVec 32 := 1#32
  let v992 : BitVec 32 := Scalar.muli v33 c1_i32_1051
  let v993 : BitVec 32 := Scalar.addi c0_i32_1052 v992
  v993.toNat
def k0_dev38 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1060 : BitVec 32 := 1#32
  let v1004 : BitVec 32 := Scalar.muli v19 c1_i32_1060
  let v1005 : BitVec 32 := Scalar.addi c0_i32_1061 v1004
  v1005.toNat
def k0_dev39 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1115 : BitVec 32 := 1#32
  let v1046 : BitVec 32 := Scalar.muli v19 c1_i32_1115
  let v1047 : BitVec 32 := Scalar.addi c0_i32_1116 v1046
  v1047.toNat
def k0_dev40 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1124 : BitVec 32 := 1#32
  let v1058 : BitVec 32 := Scalar.muli v33 c1_i32_1124
  let v1059 : BitVec 32 := Scalar.addi c0_i32_1125 v1058
  v1059.toNat
def k0_dev41 (d0 : Dev nD) : Nat :=
  let c0_i32_1180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1179 : BitVec 32 := 1#32
  let v1100 : BitVec 32 := Scalar.muli v33 c1_i32_1179
  let v1101 : BitVec 32 := Scalar.addi c0_i32_1180 v1100
  v1101.toNat
def k0_dev42 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1188 : BitVec 32 := 1#32
  let v1112 : BitVec 32 := Scalar.muli v19 c1_i32_1188
  let v1113 : BitVec 32 := Scalar.addi c0_i32_1189 v1112
  v1113.toNat
def k0_dev43 (d0 : Dev nD) : Nat :=
  let c0_i32_1244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1243 : BitVec 32 := 1#32
  let v1154 : BitVec 32 := Scalar.muli v19 c1_i32_1243
  let v1155 : BitVec 32 := Scalar.addi c0_i32_1244 v1154
  v1155.toNat
def k0_dev44 (d0 : Dev nD) : Nat :=
  let c0_i32_1253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1252 : BitVec 32 := 1#32
  let v1166 : BitVec 32 := Scalar.muli v33 c1_i32_1252
  let v1167 : BitVec 32 := Scalar.addi c0_i32_1253 v1166
  v1167.toNat
def k0_dev45 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1307 : BitVec 32 := 1#32
  let v1208 : BitVec 32 := Scalar.muli v33 c1_i32_1307
  let v1209 : BitVec 32 := Scalar.addi c0_i32_1308 v1208
  v1209.toNat
def k0_dev46 (d0 : Dev nD) : Nat :=
  let c0_i32_1317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1316 : BitVec 32 := 1#32
  let v1220 : BitVec 32 := Scalar.muli v19 c1_i32_1316
  let v1221 : BitVec 32 := Scalar.addi c0_i32_1317 v1220
  v1221.toNat
def k0_dev47 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1371 : BitVec 32 := 1#32
  let v1262 : BitVec 32 := Scalar.muli v19 c1_i32_1371
  let v1263 : BitVec 32 := Scalar.addi c0_i32_1372 v1262
  v1263.toNat
def k0_dev48 (d0 : Dev nD) : Nat :=
  let c0_i32_1381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1380 : BitVec 32 := 1#32
  let v1274 : BitVec 32 := Scalar.muli v33 c1_i32_1380
  let v1275 : BitVec 32 := Scalar.addi c0_i32_1381 v1274
  v1275.toNat
def k0_dev49 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1435 : BitVec 32 := 1#32
  let v1316 : BitVec 32 := Scalar.muli v33 c1_i32_1435
  let v1317 : BitVec 32 := Scalar.addi c0_i32_1436 v1316
  v1317.toNat
def k0_dev50 (d0 : Dev nD) : Nat :=
  let c0_i32_1445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1444 : BitVec 32 := 1#32
  let v1328 : BitVec 32 := Scalar.muli v19 c1_i32_1444
  let v1329 : BitVec 32 := Scalar.addi c0_i32_1445 v1328
  v1329.toNat
def k0_dev51 (d0 : Dev nD) : Nat :=
  let c0_i32_1500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1499 : BitVec 32 := 1#32
  let v1370 : BitVec 32 := Scalar.muli v19 c1_i32_1499
  let v1371 : BitVec 32 := Scalar.addi c0_i32_1500 v1370
  v1371.toNat
def k0_dev52 (d0 : Dev nD) : Nat :=
  let c0_i32_1509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1508 : BitVec 32 := 1#32
  let v1382 : BitVec 32 := Scalar.muli v33 c1_i32_1508
  let v1383 : BitVec 32 := Scalar.addi c0_i32_1509 v1382
  v1383.toNat
def k0_dev53 (d0 : Dev nD) : Nat :=
  let c0_i32_1564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1563 : BitVec 32 := 1#32
  let v1424 : BitVec 32 := Scalar.muli v33 c1_i32_1563
  let v1425 : BitVec 32 := Scalar.addi c0_i32_1564 v1424
  v1425.toNat
def k0_dev54 (d0 : Dev nD) : Nat :=
  let c0_i32_1573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1572 : BitVec 32 := 1#32
  let v1436 : BitVec 32 := Scalar.muli v19 c1_i32_1572
  let v1437 : BitVec 32 := Scalar.addi c0_i32_1573 v1436
  v1437.toNat
def k0_dev55 (d0 : Dev nD) : Nat :=
  let c0_i32_1628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1627 : BitVec 32 := 1#32
  let v1478 : BitVec 32 := Scalar.muli v19 c1_i32_1627
  let v1479 : BitVec 32 := Scalar.addi c0_i32_1628 v1478
  v1479.toNat
def k0_dev56 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1636 : BitVec 32 := 1#32
  let v1490 : BitVec 32 := Scalar.muli v33 c1_i32_1636
  let v1491 : BitVec 32 := Scalar.addi c0_i32_1637 v1490
  v1491.toNat
def k0_dev57 (d0 : Dev nD) : Nat :=
  let c0_i32_1692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1691 : BitVec 32 := 1#32
  let v1532 : BitVec 32 := Scalar.muli v33 c1_i32_1691
  let v1533 : BitVec 32 := Scalar.addi c0_i32_1692 v1532
  v1533.toNat
def k0_dev58 (d0 : Dev nD) : Nat :=
  let c0_i32_1701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1700 : BitVec 32 := 1#32
  let v1544 : BitVec 32 := Scalar.muli v19 c1_i32_1700
  let v1545 : BitVec 32 := Scalar.addi c0_i32_1701 v1544
  v1545.toNat
def k0_dev59 (d0 : Dev nD) : Nat :=
  let c0_i32_1756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1755 : BitVec 32 := 1#32
  let v1586 : BitVec 32 := Scalar.muli v19 c1_i32_1755
  let v1587 : BitVec 32 := Scalar.addi c0_i32_1756 v1586
  v1587.toNat
def k0_dev60 (d0 : Dev nD) : Nat :=
  let c0_i32_1765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1764 : BitVec 32 := 1#32
  let v1598 : BitVec 32 := Scalar.muli v33 c1_i32_1764
  let v1599 : BitVec 32 := Scalar.addi c0_i32_1765 v1598
  v1599.toNat
def k0_dev61 (d0 : Dev nD) : Nat :=
  let c0_i32_1820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1819 : BitVec 32 := 1#32
  let v1640 : BitVec 32 := Scalar.muli v33 c1_i32_1819
  let v1641 : BitVec 32 := Scalar.addi c0_i32_1820 v1640
  v1641.toNat
def k0_dev62 (d0 : Dev nD) : Nat :=
  let c0_i32_1829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1828 : BitVec 32 := 1#32
  let v1652 : BitVec 32 := Scalar.muli v19 c1_i32_1828
  let v1653 : BitVec 32 := Scalar.addi c0_i32_1829 v1652
  v1653.toNat
def k0_dev63 (d0 : Dev nD) : Nat :=
  let c0_i32_1884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1883 : BitVec 32 := 1#32
  let v1694 : BitVec 32 := Scalar.muli v19 c1_i32_1883
  let v1695 : BitVec 32 := Scalar.addi c0_i32_1884 v1694
  v1695.toNat
def k0_dev64 (d0 : Dev nD) : Nat :=
  let c0_i32_1893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1892 : BitVec 32 := 1#32
  let v1706 : BitVec 32 := Scalar.muli v33 c1_i32_1892
  let v1707 : BitVec 32 := Scalar.addi c0_i32_1893 v1706
  v1707.toNat
def k0_dev65 (d0 : Dev nD) : Nat :=
  let c0_i32_1948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1947 : BitVec 32 := 1#32
  let v1748 : BitVec 32 := Scalar.muli v33 c1_i32_1947
  let v1749 : BitVec 32 := Scalar.addi c0_i32_1948 v1748
  v1749.toNat
def k0_dev66 (d0 : Dev nD) : Nat :=
  let c0_i32_1957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1956 : BitVec 32 := 1#32
  let v1760 : BitVec 32 := Scalar.muli v19 c1_i32_1956
  let v1761 : BitVec 32 := Scalar.addi c0_i32_1957 v1760
  v1761.toNat
def k0_dev67 (d0 : Dev nD) : Nat :=
  let c0_i32_2012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2011 : BitVec 32 := 1#32
  let v1802 : BitVec 32 := Scalar.muli v19 c1_i32_2011
  let v1803 : BitVec 32 := Scalar.addi c0_i32_2012 v1802
  v1803.toNat
def k0_dev68 (d0 : Dev nD) : Nat :=
  let c0_i32_2021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2020 : BitVec 32 := 1#32
  let v1814 : BitVec 32 := Scalar.muli v33 c1_i32_2020
  let v1815 : BitVec 32 := Scalar.addi c0_i32_2021 v1814
  v1815.toNat
def k0_dev69 (d0 : Dev nD) : Nat :=
  let c0_i32_2076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2075 : BitVec 32 := 1#32
  let v1856 : BitVec 32 := Scalar.muli v33 c1_i32_2075
  let v1857 : BitVec 32 := Scalar.addi c0_i32_2076 v1856
  v1857.toNat
def k0_dev70 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2084 : BitVec 32 := 1#32
  let v1868 : BitVec 32 := Scalar.muli v19 c1_i32_2084
  let v1869 : BitVec 32 := Scalar.addi c0_i32_2085 v1868
  v1869.toNat
def k0_dev71 (d0 : Dev nD) : Nat :=
  let c0_i32_2140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2139 : BitVec 32 := 1#32
  let v1910 : BitVec 32 := Scalar.muli v19 c1_i32_2139
  let v1911 : BitVec 32 := Scalar.addi c0_i32_2140 v1910
  v1911.toNat
def k0_dev72 (d0 : Dev nD) : Nat :=
  let c0_i32_2149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2148 : BitVec 32 := 1#32
  let v1922 : BitVec 32 := Scalar.muli v33 c1_i32_2148
  let v1923 : BitVec 32 := Scalar.addi c0_i32_2149 v1922
  v1923.toNat
def k0_dev73 (d0 : Dev nD) : Nat :=
  let c0_i32_2204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2203 : BitVec 32 := 1#32
  let v1964 : BitVec 32 := Scalar.muli v33 c1_i32_2203
  let v1965 : BitVec 32 := Scalar.addi c0_i32_2204 v1964
  v1965.toNat
def k0_dev74 (d0 : Dev nD) : Nat :=
  let c0_i32_2213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2212 : BitVec 32 := 1#32
  let v1976 : BitVec 32 := Scalar.muli v19 c1_i32_2212
  let v1977 : BitVec 32 := Scalar.addi c0_i32_2213 v1976
  v1977.toNat
def k0_dev75 (d0 : Dev nD) : Nat :=
  let c0_i32_2268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2267 : BitVec 32 := 1#32
  let v2018 : BitVec 32 := Scalar.muli v19 c1_i32_2267
  let v2019 : BitVec 32 := Scalar.addi c0_i32_2268 v2018
  v2019.toNat
def k0_dev76 (d0 : Dev nD) : Nat :=
  let c0_i32_2277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2276 : BitVec 32 := 1#32
  let v2030 : BitVec 32 := Scalar.muli v33 c1_i32_2276
  let v2031 : BitVec 32 := Scalar.addi c0_i32_2277 v2030
  v2031.toNat
def k0_dev77 (d0 : Dev nD) : Nat :=
  let c0_i32_2332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2331 : BitVec 32 := 1#32
  let v2072 : BitVec 32 := Scalar.muli v33 c1_i32_2331
  let v2073 : BitVec 32 := Scalar.addi c0_i32_2332 v2072
  v2073.toNat
def k0_dev78 (d0 : Dev nD) : Nat :=
  let c0_i32_2341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2340 : BitVec 32 := 1#32
  let v2084 : BitVec 32 := Scalar.muli v19 c1_i32_2340
  let v2085 : BitVec 32 := Scalar.addi c0_i32_2341 v2084
  v2085.toNat
def k0_dev79 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2395 : BitVec 32 := 1#32
  let v2126 : BitVec 32 := Scalar.muli v19 c1_i32_2395
  let v2127 : BitVec 32 := Scalar.addi c0_i32_2396 v2126
  v2127.toNat
def k0_dev80 (d0 : Dev nD) : Nat :=
  let c0_i32_2405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2404 : BitVec 32 := 1#32
  let v2138 : BitVec 32 := Scalar.muli v33 c1_i32_2404
  let v2139 : BitVec 32 := Scalar.addi c0_i32_2405 v2138
  v2139.toNat
def k0_dev81 (d0 : Dev nD) : Nat :=
  let c0_i32_2460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2459 : BitVec 32 := 1#32
  let v2180 : BitVec 32 := Scalar.muli v33 c1_i32_2459
  let v2181 : BitVec 32 := Scalar.addi c0_i32_2460 v2180
  v2181.toNat
def k0_dev82 (d0 : Dev nD) : Nat :=
  let c0_i32_2469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2468 : BitVec 32 := 1#32
  let v2192 : BitVec 32 := Scalar.muli v19 c1_i32_2468
  let v2193 : BitVec 32 := Scalar.addi c0_i32_2469 v2192
  v2193.toNat
def k0_dev83 (d0 : Dev nD) : Nat :=
  let c0_i32_2524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2523 : BitVec 32 := 1#32
  let v2234 : BitVec 32 := Scalar.muli v19 c1_i32_2523
  let v2235 : BitVec 32 := Scalar.addi c0_i32_2524 v2234
  v2235.toNat
def k0_dev84 (d0 : Dev nD) : Nat :=
  let c0_i32_2533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2532 : BitVec 32 := 1#32
  let v2246 : BitVec 32 := Scalar.muli v33 c1_i32_2532
  let v2247 : BitVec 32 := Scalar.addi c0_i32_2533 v2246
  v2247.toNat
def k0_dev85 (d0 : Dev nD) : Nat :=
  let c0_i32_2588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2587 : BitVec 32 := 1#32
  let v2288 : BitVec 32 := Scalar.muli v33 c1_i32_2587
  let v2289 : BitVec 32 := Scalar.addi c0_i32_2588 v2288
  v2289.toNat
def k0_dev86 (d0 : Dev nD) : Nat :=
  let c0_i32_2597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2596 : BitVec 32 := 1#32
  let v2300 : BitVec 32 := Scalar.muli v19 c1_i32_2596
  let v2301 : BitVec 32 := Scalar.addi c0_i32_2597 v2300
  v2301.toNat
def k0_dev87 (d0 : Dev nD) : Nat :=
  let c0_i32_2652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2651 : BitVec 32 := 1#32
  let v2342 : BitVec 32 := Scalar.muli v19 c1_i32_2651
  let v2343 : BitVec 32 := Scalar.addi c0_i32_2652 v2342
  v2343.toNat
def k0_dev88 (d0 : Dev nD) : Nat :=
  let c0_i32_2661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2660 : BitVec 32 := 1#32
  let v2354 : BitVec 32 := Scalar.muli v33 c1_i32_2660
  let v2355 : BitVec 32 := Scalar.addi c0_i32_2661 v2354
  v2355.toNat
def k0_dev89 (d0 : Dev nD) : Nat :=
  let c0_i32_2716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2715 : BitVec 32 := 1#32
  let v2396 : BitVec 32 := Scalar.muli v33 c1_i32_2715
  let v2397 : BitVec 32 := Scalar.addi c0_i32_2716 v2396
  v2397.toNat
def k0_dev90 (d0 : Dev nD) : Nat :=
  let c0_i32_2725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2724 : BitVec 32 := 1#32
  let v2408 : BitVec 32 := Scalar.muli v19 c1_i32_2724
  let v2409 : BitVec 32 := Scalar.addi c0_i32_2725 v2408
  v2409.toNat
def k0_dev91 (d0 : Dev nD) : Nat :=
  let c0_i32_2780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2779 : BitVec 32 := 1#32
  let v2450 : BitVec 32 := Scalar.muli v19 c1_i32_2779
  let v2451 : BitVec 32 := Scalar.addi c0_i32_2780 v2450
  v2451.toNat
def k0_dev92 (d0 : Dev nD) : Nat :=
  let c0_i32_2839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2838 : BitVec 32 := 1#32
  let v2500 : BitVec 32 := Scalar.muli v33 c1_i32_2838
  let v2501 : BitVec 32 := Scalar.addi c0_i32_2839 v2500
  v2501.toNat
def k0_dev93 (d0 : Dev nD) : Nat :=
  let c0_i32_2898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2897 : BitVec 32 := 1#32
  let v2550 : BitVec 32 := Scalar.muli v19 c1_i32_2897
  let v2551 : BitVec 32 := Scalar.addi c0_i32_2898 v2550
  v2551.toNat
def k0_dev94 (d0 : Dev nD) : Nat :=
  let c0_i32_2957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2956 : BitVec 32 := 1#32
  let v2600 : BitVec 32 := Scalar.muli v33 c1_i32_2956
  let v2601 : BitVec 32 := Scalar.addi c0_i32_2957 v2600
  v2601.toNat
def k0_dev95 (d0 : Dev nD) : Nat :=
  let c0_i32_3016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3015 : BitVec 32 := 1#32
  let v2650 : BitVec 32 := Scalar.muli v19 c1_i32_3015
  let v2651 : BitVec 32 := Scalar.addi c0_i32_3016 v2650
  v2651.toNat
def k0_dev96 (d0 : Dev nD) : Nat :=
  let c0_i32_3075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3074 : BitVec 32 := 1#32
  let v2700 : BitVec 32 := Scalar.muli v33 c1_i32_3074
  let v2701 : BitVec 32 := Scalar.addi c0_i32_3075 v2700
  v2701.toNat
def k0_dev97 (d0 : Dev nD) : Nat :=
  let c0_i32_3134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3133 : BitVec 32 := 1#32
  let v2750 : BitVec 32 := Scalar.muli v19 c1_i32_3133
  let v2751 : BitVec 32 := Scalar.addi c0_i32_3134 v2750
  v2751.toNat
def k0_dev98 (d0 : Dev nD) : Nat :=
  let c0_i32_3193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3192 : BitVec 32 := 1#32
  let v2800 : BitVec 32 := Scalar.muli v33 c1_i32_3192
  let v2801 : BitVec 32 := Scalar.addi c0_i32_3193 v2800
  v2801.toNat
def k0_dev99 (d0 : Dev nD) : Nat :=
  let c0_i32_3248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3247 : BitVec 32 := 1#32
  let v2848 : BitVec 32 := Scalar.muli v19 c1_i32_3247
  let v2849 : BitVec 32 := Scalar.addi c0_i32_3248 v2848
  v2849.toNat
def k0_dev100 (d0 : Dev nD) : Nat :=
  let c0_i32_3304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3303 : BitVec 32 := 1#32
  let v2898 : BitVec 32 := Scalar.muli v33 c1_i32_3303
  let v2899 : BitVec 32 := Scalar.addi c0_i32_3304 v2898
  v2899.toNat
def k0_dev101 (d0 : Dev nD) : Nat :=
  let c0_i32_3360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3359 : BitVec 32 := 1#32
  let v2948 : BitVec 32 := Scalar.muli v19 c1_i32_3359
  let v2949 : BitVec 32 := Scalar.addi c0_i32_3360 v2948
  v2949.toNat
def k0_dev102 (d0 : Dev nD) : Nat :=
  let c0_i32_3416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3415 : BitVec 32 := 1#32
  let v2998 : BitVec 32 := Scalar.muli v33 c1_i32_3415
  let v2999 : BitVec 32 := Scalar.addi c0_i32_3416 v2998
  v2999.toNat
def k0_dev103 (d0 : Dev nD) : Nat :=
  let c0_i32_3472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3471 : BitVec 32 := 1#32
  let v3048 : BitVec 32 := Scalar.muli v19 c1_i32_3471
  let v3049 : BitVec 32 := Scalar.addi c0_i32_3472 v3048
  v3049.toNat
def k0_dev104 (d0 : Dev nD) : Nat :=
  let c0_i32_3528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3527 : BitVec 32 := 1#32
  let v3098 : BitVec 32 := Scalar.muli v33 c1_i32_3527
  let v3099 : BitVec 32 := Scalar.addi c0_i32_3528 v3098
  v3099.toNat
def k0_dev105 (d0 : Dev nD) : Nat :=
  let c0_i32_3584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3583 : BitVec 32 := 1#32
  let v3148 : BitVec 32 := Scalar.muli v19 c1_i32_3583
  let v3149 : BitVec 32 := Scalar.addi c0_i32_3584 v3148
  v3149.toNat
def k0_dev106 (d0 : Dev nD) : Nat :=
  let c0_i32_3640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3639 : BitVec 32 := 1#32
  let v3198 : BitVec 32 := Scalar.muli v33 c1_i32_3639
  let v3199 : BitVec 32 := Scalar.addi c0_i32_3640 v3198
  v3199.toNat
def k0_dev107 (d0 : Dev nD) : Nat :=
  let c0_i32_3680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3679 : BitVec 32 := 1#32
  let v3224 : BitVec 32 := Scalar.muli v19 c1_i32_3679
  let v3225 : BitVec 32 := Scalar.addi c0_i32_3680 v3224
  v3225.toNat
def k0_off17 (d0 : Dev nD) (c0_i32_3685 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3234 : BitVec 32 := Scalar.subi v5 c0_i32_3685
  let c8_i32_3686 : BitVec 32 := 8#32
  let c0_i32_3687 : BitVec 32 := 0#32
  let v3235 : BitVec 1 := Scalar.cmpi .eq c8_i32_3686 c0_i32_3687
  let c1_i32_3688 : BitVec 32 := 1#32
  let v3236 : BitVec 32 := Scalar.select v3235 c1_i32_3688 c8_i32_3686
  let v3237 : BitVec 32 := Scalar.remsi v3234 v3236
  let c0_i32_3690 : BitVec 32 := 0#32
  let v3239 : BitVec 1 := Scalar.cmpi .slt v3237 c0_i32_3690
  let c0_i32_3691 : BitVec 32 := 0#32
  let v3240 : BitVec 1 := Scalar.cmpi .slt v3236 c0_i32_3691
  let v3241 : BitVec 1 := Scalar.xori v3239 v3240
  let c0_i32_3689 : BitVec 32 := 0#32
  let v3238 : BitVec 1 := Scalar.cmpi .ne v3237 c0_i32_3689
  let v3242 : BitVec 1 := Scalar.andi v3241 v3238
  let v3243 : BitVec 32 := Scalar.addi v3237 v3236
  let v3244 : BitVec 32 := Scalar.select v3242 v3243 v3237
  let c512_i32_3692 : BitVec 32 := 512#32
  let v3245 : BitVec 32 := Scalar.muli v3244 c512_i32_3692
  let v3249 : Index := Scalar.indexCast v3245
  let c0_3697 : Index := 0#32
  ![v3249.toNat, 0]
def k0_dev108 (d0 : Dev nD) : Nat :=
  let c0_i32_3732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3731 : BitVec 32 := 1#32
  let v3265 : BitVec 32 := Scalar.muli v33 c1_i32_3731
  let v3266 : BitVec 32 := Scalar.addi c0_i32_3732 v3265
  v3266.toNat
def k0_off18 (d0 : Dev nD) (c0_i32_3737 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3275 : BitVec 32 := Scalar.subi v44 c0_i32_3737
  let c8_i32_3738 : BitVec 32 := 8#32
  let c0_i32_3739 : BitVec 32 := 0#32
  let v3276 : BitVec 1 := Scalar.cmpi .eq c8_i32_3738 c0_i32_3739
  let c1_i32_3740 : BitVec 32 := 1#32
  let v3277 : BitVec 32 := Scalar.select v3276 c1_i32_3740 c8_i32_3738
  let v3278 : BitVec 32 := Scalar.remsi v3275 v3277
  let c0_i32_3742 : BitVec 32 := 0#32
  let v3280 : BitVec 1 := Scalar.cmpi .slt v3278 c0_i32_3742
  let c0_i32_3743 : BitVec 32 := 0#32
  let v3281 : BitVec 1 := Scalar.cmpi .slt v3277 c0_i32_3743
  let v3282 : BitVec 1 := Scalar.xori v3280 v3281
  let c0_i32_3741 : BitVec 32 := 0#32
  let v3279 : BitVec 1 := Scalar.cmpi .ne v3278 c0_i32_3741
  let v3283 : BitVec 1 := Scalar.andi v3282 v3279
  let v3284 : BitVec 32 := Scalar.addi v3278 v3277
  let v3285 : BitVec 32 := Scalar.select v3283 v3284 v3278
  let c512_i32_3744 : BitVec 32 := 512#32
  let v3286 : BitVec 32 := Scalar.muli v3285 c512_i32_3744
  let v3290 : Index := Scalar.indexCast v3286
  let c1024_3749 : Index := 1024#32
  ![v3290.toNat, 1024]
def k0_dev109 (d0 : Dev nD) : Nat :=
  let c0_i32_3784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3783 : BitVec 32 := 1#32
  let v3306 : BitVec 32 := Scalar.muli v19 c1_i32_3783
  let v3307 : BitVec 32 := Scalar.addi c0_i32_3784 v3306
  v3307.toNat
def k0_off19 (d0 : Dev nD) (c0_i32_3789 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3316 : BitVec 32 := Scalar.subi v5 c0_i32_3789
  let c8_i32_3790 : BitVec 32 := 8#32
  let c0_i32_3791 : BitVec 32 := 0#32
  let v3317 : BitVec 1 := Scalar.cmpi .eq c8_i32_3790 c0_i32_3791
  let c1_i32_3792 : BitVec 32 := 1#32
  let v3318 : BitVec 32 := Scalar.select v3317 c1_i32_3792 c8_i32_3790
  let v3319 : BitVec 32 := Scalar.remsi v3316 v3318
  let c0_i32_3794 : BitVec 32 := 0#32
  let v3321 : BitVec 1 := Scalar.cmpi .slt v3319 c0_i32_3794
  let c0_i32_3795 : BitVec 32 := 0#32
  let v3322 : BitVec 1 := Scalar.cmpi .slt v3318 c0_i32_3795
  let v3323 : BitVec 1 := Scalar.xori v3321 v3322
  let c0_i32_3793 : BitVec 32 := 0#32
  let v3320 : BitVec 1 := Scalar.cmpi .ne v3319 c0_i32_3793
  let v3324 : BitVec 1 := Scalar.andi v3323 v3320
  let v3325 : BitVec 32 := Scalar.addi v3319 v3318
  let v3326 : BitVec 32 := Scalar.select v3324 v3325 v3319
  let c512_i32_3796 : BitVec 32 := 512#32
  let v3327 : BitVec 32 := Scalar.muli v3326 c512_i32_3796
  let v3331 : Index := Scalar.indexCast v3327
  let c256_3801 : Index := 256#32
  ![v3331.toNat, 256]
def k0_dev110 (d0 : Dev nD) : Nat :=
  let c0_i32_3836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3835 : BitVec 32 := 1#32
  let v3347 : BitVec 32 := Scalar.muli v33 c1_i32_3835
  let v3348 : BitVec 32 := Scalar.addi c0_i32_3836 v3347
  v3348.toNat
def k0_off20 (d0 : Dev nD) (c0_i32_3841 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3357 : BitVec 32 := Scalar.subi v44 c0_i32_3841
  let c8_i32_3842 : BitVec 32 := 8#32
  let c0_i32_3843 : BitVec 32 := 0#32
  let v3358 : BitVec 1 := Scalar.cmpi .eq c8_i32_3842 c0_i32_3843
  let c1_i32_3844 : BitVec 32 := 1#32
  let v3359 : BitVec 32 := Scalar.select v3358 c1_i32_3844 c8_i32_3842
  let v3360 : BitVec 32 := Scalar.remsi v3357 v3359
  let c0_i32_3846 : BitVec 32 := 0#32
  let v3362 : BitVec 1 := Scalar.cmpi .slt v3360 c0_i32_3846
  let c0_i32_3847 : BitVec 32 := 0#32
  let v3363 : BitVec 1 := Scalar.cmpi .slt v3359 c0_i32_3847
  let v3364 : BitVec 1 := Scalar.xori v3362 v3363
  let c0_i32_3845 : BitVec 32 := 0#32
  let v3361 : BitVec 1 := Scalar.cmpi .ne v3360 c0_i32_3845
  let v3365 : BitVec 1 := Scalar.andi v3364 v3361
  let v3366 : BitVec 32 := Scalar.addi v3360 v3359
  let v3367 : BitVec 32 := Scalar.select v3365 v3366 v3360
  let c512_i32_3848 : BitVec 32 := 512#32
  let v3368 : BitVec 32 := Scalar.muli v3367 c512_i32_3848
  let v3372 : Index := Scalar.indexCast v3368
  let c1280_3853 : Index := 1280#32
  ![v3372.toNat, 1280]
def k0_dev111 (d0 : Dev nD) : Nat :=
  let c0_i32_3888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3887 : BitVec 32 := 1#32
  let v3388 : BitVec 32 := Scalar.muli v19 c1_i32_3887
  let v3389 : BitVec 32 := Scalar.addi c0_i32_3888 v3388
  v3389.toNat
def k0_off21 (d0 : Dev nD) (c0_i32_3893 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3398 : BitVec 32 := Scalar.subi v5 c0_i32_3893
  let c8_i32_3894 : BitVec 32 := 8#32
  let c0_i32_3895 : BitVec 32 := 0#32
  let v3399 : BitVec 1 := Scalar.cmpi .eq c8_i32_3894 c0_i32_3895
  let c1_i32_3896 : BitVec 32 := 1#32
  let v3400 : BitVec 32 := Scalar.select v3399 c1_i32_3896 c8_i32_3894
  let v3401 : BitVec 32 := Scalar.remsi v3398 v3400
  let c0_i32_3898 : BitVec 32 := 0#32
  let v3403 : BitVec 1 := Scalar.cmpi .slt v3401 c0_i32_3898
  let c0_i32_3899 : BitVec 32 := 0#32
  let v3404 : BitVec 1 := Scalar.cmpi .slt v3400 c0_i32_3899
  let v3405 : BitVec 1 := Scalar.xori v3403 v3404
  let c0_i32_3897 : BitVec 32 := 0#32
  let v3402 : BitVec 1 := Scalar.cmpi .ne v3401 c0_i32_3897
  let v3406 : BitVec 1 := Scalar.andi v3405 v3402
  let v3407 : BitVec 32 := Scalar.addi v3401 v3400
  let v3408 : BitVec 32 := Scalar.select v3406 v3407 v3401
  let c512_i32_3900 : BitVec 32 := 512#32
  let v3409 : BitVec 32 := Scalar.muli v3408 c512_i32_3900
  let v3413 : Index := Scalar.indexCast v3409
  let c512_3905 : Index := 512#32
  ![v3413.toNat, 512]
def k0_dev112 (d0 : Dev nD) : Nat :=
  let c0_i32_3940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3939 : BitVec 32 := 1#32
  let v3429 : BitVec 32 := Scalar.muli v33 c1_i32_3939
  let v3430 : BitVec 32 := Scalar.addi c0_i32_3940 v3429
  v3430.toNat
def k0_off22 (d0 : Dev nD) (c0_i32_3945 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3439 : BitVec 32 := Scalar.subi v44 c0_i32_3945
  let c8_i32_3946 : BitVec 32 := 8#32
  let c0_i32_3947 : BitVec 32 := 0#32
  let v3440 : BitVec 1 := Scalar.cmpi .eq c8_i32_3946 c0_i32_3947
  let c1_i32_3948 : BitVec 32 := 1#32
  let v3441 : BitVec 32 := Scalar.select v3440 c1_i32_3948 c8_i32_3946
  let v3442 : BitVec 32 := Scalar.remsi v3439 v3441
  let c0_i32_3950 : BitVec 32 := 0#32
  let v3444 : BitVec 1 := Scalar.cmpi .slt v3442 c0_i32_3950
  let c0_i32_3951 : BitVec 32 := 0#32
  let v3445 : BitVec 1 := Scalar.cmpi .slt v3441 c0_i32_3951
  let v3446 : BitVec 1 := Scalar.xori v3444 v3445
  let c0_i32_3949 : BitVec 32 := 0#32
  let v3443 : BitVec 1 := Scalar.cmpi .ne v3442 c0_i32_3949
  let v3447 : BitVec 1 := Scalar.andi v3446 v3443
  let v3448 : BitVec 32 := Scalar.addi v3442 v3441
  let v3449 : BitVec 32 := Scalar.select v3447 v3448 v3442
  let c512_i32_3952 : BitVec 32 := 512#32
  let v3450 : BitVec 32 := Scalar.muli v3449 c512_i32_3952
  let v3454 : Index := Scalar.indexCast v3450
  let c1536_3957 : Index := 1536#32
  ![v3454.toNat, 1536]
def k0_dev113 (d0 : Dev nD) : Nat :=
  let c0_i32_3992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3991 : BitVec 32 := 1#32
  let v3470 : BitVec 32 := Scalar.muli v19 c1_i32_3991
  let v3471 : BitVec 32 := Scalar.addi c0_i32_3992 v3470
  v3471.toNat
def k0_off23 (d0 : Dev nD) (c0_i32_3997 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3480 : BitVec 32 := Scalar.subi v5 c0_i32_3997
  let c8_i32_3998 : BitVec 32 := 8#32
  let c0_i32_3999 : BitVec 32 := 0#32
  let v3481 : BitVec 1 := Scalar.cmpi .eq c8_i32_3998 c0_i32_3999
  let c1_i32_4000 : BitVec 32 := 1#32
  let v3482 : BitVec 32 := Scalar.select v3481 c1_i32_4000 c8_i32_3998
  let v3483 : BitVec 32 := Scalar.remsi v3480 v3482
  let c0_i32_4002 : BitVec 32 := 0#32
  let v3485 : BitVec 1 := Scalar.cmpi .slt v3483 c0_i32_4002
  let c0_i32_4003 : BitVec 32 := 0#32
  let v3486 : BitVec 1 := Scalar.cmpi .slt v3482 c0_i32_4003
  let v3487 : BitVec 1 := Scalar.xori v3485 v3486
  let c0_i32_4001 : BitVec 32 := 0#32
  let v3484 : BitVec 1 := Scalar.cmpi .ne v3483 c0_i32_4001
  let v3488 : BitVec 1 := Scalar.andi v3487 v3484
  let v3489 : BitVec 32 := Scalar.addi v3483 v3482
  let v3490 : BitVec 32 := Scalar.select v3488 v3489 v3483
  let c512_i32_4004 : BitVec 32 := 512#32
  let v3491 : BitVec 32 := Scalar.muli v3490 c512_i32_4004
  let v3495 : Index := Scalar.indexCast v3491
  let c768_4009 : Index := 768#32
  ![v3495.toNat, 768]
def k0_dev114 (d0 : Dev nD) : Nat :=
  let c0_i32_4044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4043 : BitVec 32 := 1#32
  let v3511 : BitVec 32 := Scalar.muli v33 c1_i32_4043
  let v3512 : BitVec 32 := Scalar.addi c0_i32_4044 v3511
  v3512.toNat
def k0_off24 (d0 : Dev nD) (c0_i32_4049 : BitVec 32) : Fin 2 → Nat :=
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3521 : BitVec 32 := Scalar.subi v44 c0_i32_4049
  let c8_i32_4050 : BitVec 32 := 8#32
  let c0_i32_4051 : BitVec 32 := 0#32
  let v3522 : BitVec 1 := Scalar.cmpi .eq c8_i32_4050 c0_i32_4051
  let c1_i32_4052 : BitVec 32 := 1#32
  let v3523 : BitVec 32 := Scalar.select v3522 c1_i32_4052 c8_i32_4050
  let v3524 : BitVec 32 := Scalar.remsi v3521 v3523
  let c0_i32_4054 : BitVec 32 := 0#32
  let v3526 : BitVec 1 := Scalar.cmpi .slt v3524 c0_i32_4054
  let c0_i32_4055 : BitVec 32 := 0#32
  let v3527 : BitVec 1 := Scalar.cmpi .slt v3523 c0_i32_4055
  let v3528 : BitVec 1 := Scalar.xori v3526 v3527
  let c0_i32_4053 : BitVec 32 := 0#32
  let v3525 : BitVec 1 := Scalar.cmpi .ne v3524 c0_i32_4053
  let v3529 : BitVec 1 := Scalar.andi v3528 v3525
  let v3530 : BitVec 32 := Scalar.addi v3524 v3523
  let v3531 : BitVec 32 := Scalar.select v3529 v3530 v3524
  let c512_i32_4056 : BitVec 32 := 512#32
  let v3532 : BitVec 32 := Scalar.muli v3531 c512_i32_4056
  let v3536 : Index := Scalar.indexCast v3532
  let c1792_4061 : Index := 1792#32
  ![v3536.toNat, 1792]
def k0_dev115 (d0 : Dev nD) : Nat :=
  let c0_i32_4098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4097 : BitVec 32 := 1#32
  let v3552 : BitVec 32 := Scalar.muli v19 c1_i32_4097
  let v3553 : BitVec 32 := Scalar.addi c0_i32_4098 v3552
  v3553.toNat
def k0_dev116 (d0 : Dev nD) : Nat :=
  let c0_i32_4107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4106 : BitVec 32 := 1#32
  let v3564 : BitVec 32 := Scalar.muli v33 c1_i32_4106
  let v3565 : BitVec 32 := Scalar.addi c0_i32_4107 v3564
  v3565.toNat
def k0_dev117 (d0 : Dev nD) : Nat :=
  let c0_i32_4157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4156 : BitVec 32 := 1#32
  let v3597 : BitVec 32 := Scalar.muli v33 c1_i32_4156
  let v3598 : BitVec 32 := Scalar.addi c0_i32_4157 v3597
  v3598.toNat
def k0_dev118 (d0 : Dev nD) : Nat :=
  let c0_i32_4166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4165 : BitVec 32 := 1#32
  let v3609 : BitVec 32 := Scalar.muli v19 c1_i32_4165
  let v3610 : BitVec 32 := Scalar.addi c0_i32_4166 v3609
  v3610.toNat
def k0_dev119 (d0 : Dev nD) : Nat :=
  let c0_i32_4216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4215 : BitVec 32 := 1#32
  let v3642 : BitVec 32 := Scalar.muli v19 c1_i32_4215
  let v3643 : BitVec 32 := Scalar.addi c0_i32_4216 v3642
  v3643.toNat
def k0_dev120 (d0 : Dev nD) : Nat :=
  let c0_i32_4225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4224 : BitVec 32 := 1#32
  let v3654 : BitVec 32 := Scalar.muli v33 c1_i32_4224
  let v3655 : BitVec 32 := Scalar.addi c0_i32_4225 v3654
  v3655.toNat
def k0_dev121 (d0 : Dev nD) : Nat :=
  let c0_i32_4275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4274 : BitVec 32 := 1#32
  let v3687 : BitVec 32 := Scalar.muli v33 c1_i32_4274
  let v3688 : BitVec 32 := Scalar.addi c0_i32_4275 v3687
  v3688.toNat
def k0_dev122 (d0 : Dev nD) : Nat :=
  let c0_i32_4284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4283 : BitVec 32 := 1#32
  let v3699 : BitVec 32 := Scalar.muli v19 c1_i32_4283
  let v3700 : BitVec 32 := Scalar.addi c0_i32_4284 v3699
  v3700.toNat
def k0_dev123 (d0 : Dev nD) : Nat :=
  let c0_i32_4334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4333 : BitVec 32 := 1#32
  let v3732 : BitVec 32 := Scalar.muli v19 c1_i32_4333
  let v3733 : BitVec 32 := Scalar.addi c0_i32_4334 v3732
  v3733.toNat
def k0_dev124 (d0 : Dev nD) : Nat :=
  let c0_i32_4343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4342 : BitVec 32 := 1#32
  let v3744 : BitVec 32 := Scalar.muli v33 c1_i32_4342
  let v3745 : BitVec 32 := Scalar.addi c0_i32_4343 v3744
  v3745.toNat
def k0_dev125 (d0 : Dev nD) : Nat :=
  let c0_i32_4393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4392 : BitVec 32 := 1#32
  let v3777 : BitVec 32 := Scalar.muli v33 c1_i32_4392
  let v3778 : BitVec 32 := Scalar.addi c0_i32_4393 v3777
  v3778.toNat
def k0_dev126 (d0 : Dev nD) : Nat :=
  let c0_i32_4402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4401 : BitVec 32 := 1#32
  let v3789 : BitVec 32 := Scalar.muli v19 c1_i32_4401
  let v3790 : BitVec 32 := Scalar.addi c0_i32_4402 v3789
  v3790.toNat
def k0_dev127 (d0 : Dev nD) : Nat :=
  let c0_i32_4452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4451 : BitVec 32 := 1#32
  let v3822 : BitVec 32 := Scalar.muli v19 c1_i32_4451
  let v3823 : BitVec 32 := Scalar.addi c0_i32_4452 v3822
  v3823.toNat
def k0_dev128 (d0 : Dev nD) : Nat :=
  let c0_i32_4461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4460 : BitVec 32 := 1#32
  let v3834 : BitVec 32 := Scalar.muli v33 c1_i32_4460
  let v3835 : BitVec 32 := Scalar.addi c0_i32_4461 v3834
  v3835.toNat
def k0_dev129 (d0 : Dev nD) : Nat :=
  let c0_i32_4511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4510 : BitVec 32 := 1#32
  let v3867 : BitVec 32 := Scalar.muli v33 c1_i32_4510
  let v3868 : BitVec 32 := Scalar.addi c0_i32_4511 v3867
  v3868.toNat
def k0_dev130 (d0 : Dev nD) : Nat :=
  let c0_i32_4520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4519 : BitVec 32 := 1#32
  let v3879 : BitVec 32 := Scalar.muli v19 c1_i32_4519
  let v3880 : BitVec 32 := Scalar.addi c0_i32_4520 v3879
  v3880.toNat
def k0_dev131 (d0 : Dev nD) : Nat :=
  let c0_i32_4574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4573 : BitVec 32 := 1#32
  let v3914 : BitVec 32 := Scalar.muli v19 c1_i32_4573
  let v3915 : BitVec 32 := Scalar.addi c0_i32_4574 v3914
  v3915.toNat
def k0_dev132 (d0 : Dev nD) : Nat :=
  let c0_i32_4583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4582 : BitVec 32 := 1#32
  let v3926 : BitVec 32 := Scalar.muli v33 c1_i32_4582
  let v3927 : BitVec 32 := Scalar.addi c0_i32_4583 v3926
  v3927.toNat
def k0_dev133 (d0 : Dev nD) : Nat :=
  let c0_i32_4637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4636 : BitVec 32 := 1#32
  let v3961 : BitVec 32 := Scalar.muli v33 c1_i32_4636
  let v3962 : BitVec 32 := Scalar.addi c0_i32_4637 v3961
  v3962.toNat
def k0_dev134 (d0 : Dev nD) : Nat :=
  let c0_i32_4646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4645 : BitVec 32 := 1#32
  let v3973 : BitVec 32 := Scalar.muli v19 c1_i32_4645
  let v3974 : BitVec 32 := Scalar.addi c0_i32_4646 v3973
  v3974.toNat
def k0_dev135 (d0 : Dev nD) : Nat :=
  let c0_i32_4700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4699 : BitVec 32 := 1#32
  let v4008 : BitVec 32 := Scalar.muli v19 c1_i32_4699
  let v4009 : BitVec 32 := Scalar.addi c0_i32_4700 v4008
  v4009.toNat
def k0_dev136 (d0 : Dev nD) : Nat :=
  let c0_i32_4709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4708 : BitVec 32 := 1#32
  let v4020 : BitVec 32 := Scalar.muli v33 c1_i32_4708
  let v4021 : BitVec 32 := Scalar.addi c0_i32_4709 v4020
  v4021.toNat
def k0_dev137 (d0 : Dev nD) : Nat :=
  let c0_i32_4763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4762 : BitVec 32 := 1#32
  let v4055 : BitVec 32 := Scalar.muli v33 c1_i32_4762
  let v4056 : BitVec 32 := Scalar.addi c0_i32_4763 v4055
  v4056.toNat
def k0_dev138 (d0 : Dev nD) : Nat :=
  let c0_i32_4772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4771 : BitVec 32 := 1#32
  let v4067 : BitVec 32 := Scalar.muli v19 c1_i32_4771
  let v4068 : BitVec 32 := Scalar.addi c0_i32_4772 v4067
  v4068.toNat
def k0_dev139 (d0 : Dev nD) : Nat :=
  let c0_i32_4826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4825 : BitVec 32 := 1#32
  let v4102 : BitVec 32 := Scalar.muli v19 c1_i32_4825
  let v4103 : BitVec 32 := Scalar.addi c0_i32_4826 v4102
  v4103.toNat
def k0_dev140 (d0 : Dev nD) : Nat :=
  let c0_i32_4835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4834 : BitVec 32 := 1#32
  let v4114 : BitVec 32 := Scalar.muli v33 c1_i32_4834
  let v4115 : BitVec 32 := Scalar.addi c0_i32_4835 v4114
  v4115.toNat
def k0_dev141 (d0 : Dev nD) : Nat :=
  let c0_i32_4889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4888 : BitVec 32 := 1#32
  let v4149 : BitVec 32 := Scalar.muli v33 c1_i32_4888
  let v4150 : BitVec 32 := Scalar.addi c0_i32_4889 v4149
  v4150.toNat
def k0_dev142 (d0 : Dev nD) : Nat :=
  let c0_i32_4898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4897 : BitVec 32 := 1#32
  let v4161 : BitVec 32 := Scalar.muli v19 c1_i32_4897
  let v4162 : BitVec 32 := Scalar.addi c0_i32_4898 v4161
  v4162.toNat
def k0_dev143 (d0 : Dev nD) : Nat :=
  let c0_i32_4952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4951 : BitVec 32 := 1#32
  let v4196 : BitVec 32 := Scalar.muli v19 c1_i32_4951
  let v4197 : BitVec 32 := Scalar.addi c0_i32_4952 v4196
  v4197.toNat
def k0_dev144 (d0 : Dev nD) : Nat :=
  let c0_i32_4961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4960 : BitVec 32 := 1#32
  let v4208 : BitVec 32 := Scalar.muli v33 c1_i32_4960
  let v4209 : BitVec 32 := Scalar.addi c0_i32_4961 v4208
  v4209.toNat
def k0_dev145 (d0 : Dev nD) : Nat :=
  let c0_i32_5015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5014 : BitVec 32 := 1#32
  let v4243 : BitVec 32 := Scalar.muli v33 c1_i32_5014
  let v4244 : BitVec 32 := Scalar.addi c0_i32_5015 v4243
  v4244.toNat
def k0_dev146 (d0 : Dev nD) : Nat :=
  let c0_i32_5024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5023 : BitVec 32 := 1#32
  let v4255 : BitVec 32 := Scalar.muli v19 c1_i32_5023
  let v4256 : BitVec 32 := Scalar.addi c0_i32_5024 v4255
  v4256.toNat
def k0_dev147 (d0 : Dev nD) : Nat :=
  let c0_i32_5078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5077 : BitVec 32 := 1#32
  let v4290 : BitVec 32 := Scalar.muli v19 c1_i32_5077
  let v4291 : BitVec 32 := Scalar.addi c0_i32_5078 v4290
  v4291.toNat
def k0_dev148 (d0 : Dev nD) : Nat :=
  let c0_i32_5087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5086 : BitVec 32 := 1#32
  let v4302 : BitVec 32 := Scalar.muli v33 c1_i32_5086
  let v4303 : BitVec 32 := Scalar.addi c0_i32_5087 v4302
  v4303.toNat
def k0_dev149 (d0 : Dev nD) : Nat :=
  let c0_i32_5141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5140 : BitVec 32 := 1#32
  let v4337 : BitVec 32 := Scalar.muli v33 c1_i32_5140
  let v4338 : BitVec 32 := Scalar.addi c0_i32_5141 v4337
  v4338.toNat
def k0_dev150 (d0 : Dev nD) : Nat :=
  let c0_i32_5150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5149 : BitVec 32 := 1#32
  let v4349 : BitVec 32 := Scalar.muli v19 c1_i32_5149
  let v4350 : BitVec 32 := Scalar.addi c0_i32_5150 v4349
  v4350.toNat
def k0_dev151 (d0 : Dev nD) : Nat :=
  let c0_i32_5204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5203 : BitVec 32 := 1#32
  let v4384 : BitVec 32 := Scalar.muli v19 c1_i32_5203
  let v4385 : BitVec 32 := Scalar.addi c0_i32_5204 v4384
  v4385.toNat
def k0_dev152 (d0 : Dev nD) : Nat :=
  let c0_i32_5213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5212 : BitVec 32 := 1#32
  let v4396 : BitVec 32 := Scalar.muli v33 c1_i32_5212
  let v4397 : BitVec 32 := Scalar.addi c0_i32_5213 v4396
  v4397.toNat
def k0_dev153 (d0 : Dev nD) : Nat :=
  let c0_i32_5267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5266 : BitVec 32 := 1#32
  let v4431 : BitVec 32 := Scalar.muli v33 c1_i32_5266
  let v4432 : BitVec 32 := Scalar.addi c0_i32_5267 v4431
  v4432.toNat
def k0_dev154 (d0 : Dev nD) : Nat :=
  let c0_i32_5276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5275 : BitVec 32 := 1#32
  let v4443 : BitVec 32 := Scalar.muli v19 c1_i32_5275
  let v4444 : BitVec 32 := Scalar.addi c0_i32_5276 v4443
  v4444.toNat
def k0_dev155 (d0 : Dev nD) : Nat :=
  let c0_i32_5330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5329 : BitVec 32 := 1#32
  let v4478 : BitVec 32 := Scalar.muli v19 c1_i32_5329
  let v4479 : BitVec 32 := Scalar.addi c0_i32_5330 v4478
  v4479.toNat
def k0_dev156 (d0 : Dev nD) : Nat :=
  let c0_i32_5339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5338 : BitVec 32 := 1#32
  let v4490 : BitVec 32 := Scalar.muli v33 c1_i32_5338
  let v4491 : BitVec 32 := Scalar.addi c0_i32_5339 v4490
  v4491.toNat
def k0_dev157 (d0 : Dev nD) : Nat :=
  let c0_i32_5393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5392 : BitVec 32 := 1#32
  let v4525 : BitVec 32 := Scalar.muli v33 c1_i32_5392
  let v4526 : BitVec 32 := Scalar.addi c0_i32_5393 v4525
  v4526.toNat
def k0_dev158 (d0 : Dev nD) : Nat :=
  let c0_i32_5402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5401 : BitVec 32 := 1#32
  let v4537 : BitVec 32 := Scalar.muli v19 c1_i32_5401
  let v4538 : BitVec 32 := Scalar.addi c0_i32_5402 v4537
  v4538.toNat
def k0_dev159 (d0 : Dev nD) : Nat :=
  let c0_i32_5456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5455 : BitVec 32 := 1#32
  let v4572 : BitVec 32 := Scalar.muli v19 c1_i32_5455
  let v4573 : BitVec 32 := Scalar.addi c0_i32_5456 v4572
  v4573.toNat
def k0_dev160 (d0 : Dev nD) : Nat :=
  let c0_i32_5465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5464 : BitVec 32 := 1#32
  let v4584 : BitVec 32 := Scalar.muli v33 c1_i32_5464
  let v4585 : BitVec 32 := Scalar.addi c0_i32_5465 v4584
  v4585.toNat
def k0_dev161 (d0 : Dev nD) : Nat :=
  let c0_i32_5519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5518 : BitVec 32 := 1#32
  let v4619 : BitVec 32 := Scalar.muli v33 c1_i32_5518
  let v4620 : BitVec 32 := Scalar.addi c0_i32_5519 v4619
  v4620.toNat
def k0_dev162 (d0 : Dev nD) : Nat :=
  let c0_i32_5528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5527 : BitVec 32 := 1#32
  let v4631 : BitVec 32 := Scalar.muli v19 c1_i32_5527
  let v4632 : BitVec 32 := Scalar.addi c0_i32_5528 v4631
  v4632.toNat
def k0_dev163 (d0 : Dev nD) : Nat :=
  let c0_i32_5582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5581 : BitVec 32 := 1#32
  let v4666 : BitVec 32 := Scalar.muli v19 c1_i32_5581
  let v4667 : BitVec 32 := Scalar.addi c0_i32_5582 v4666
  v4667.toNat
def k0_dev164 (d0 : Dev nD) : Nat :=
  let c0_i32_5591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5590 : BitVec 32 := 1#32
  let v4678 : BitVec 32 := Scalar.muli v33 c1_i32_5590
  let v4679 : BitVec 32 := Scalar.addi c0_i32_5591 v4678
  v4679.toNat
def k0_dev165 (d0 : Dev nD) : Nat :=
  let c0_i32_5645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5644 : BitVec 32 := 1#32
  let v4713 : BitVec 32 := Scalar.muli v33 c1_i32_5644
  let v4714 : BitVec 32 := Scalar.addi c0_i32_5645 v4713
  v4714.toNat
def k0_dev166 (d0 : Dev nD) : Nat :=
  let c0_i32_5654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5653 : BitVec 32 := 1#32
  let v4725 : BitVec 32 := Scalar.muli v19 c1_i32_5653
  let v4726 : BitVec 32 := Scalar.addi c0_i32_5654 v4725
  v4726.toNat
def k0_dev167 (d0 : Dev nD) : Nat :=
  let c0_i32_5708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5707 : BitVec 32 := 1#32
  let v4760 : BitVec 32 := Scalar.muli v19 c1_i32_5707
  let v4761 : BitVec 32 := Scalar.addi c0_i32_5708 v4760
  v4761.toNat
def k0_dev168 (d0 : Dev nD) : Nat :=
  let c0_i32_5717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5716 : BitVec 32 := 1#32
  let v4772 : BitVec 32 := Scalar.muli v33 c1_i32_5716
  let v4773 : BitVec 32 := Scalar.addi c0_i32_5717 v4772
  v4773.toNat
def k0_dev169 (d0 : Dev nD) : Nat :=
  let c0_i32_5771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5770 : BitVec 32 := 1#32
  let v4807 : BitVec 32 := Scalar.muli v33 c1_i32_5770
  let v4808 : BitVec 32 := Scalar.addi c0_i32_5771 v4807
  v4808.toNat
def k0_dev170 (d0 : Dev nD) : Nat :=
  let c0_i32_5780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5779 : BitVec 32 := 1#32
  let v4819 : BitVec 32 := Scalar.muli v19 c1_i32_5779
  let v4820 : BitVec 32 := Scalar.addi c0_i32_5780 v4819
  v4820.toNat
def k0_dev171 (d0 : Dev nD) : Nat :=
  let c0_i32_5834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5833 : BitVec 32 := 1#32
  let v4854 : BitVec 32 := Scalar.muli v19 c1_i32_5833
  let v4855 : BitVec 32 := Scalar.addi c0_i32_5834 v4854
  v4855.toNat
def k0_dev172 (d0 : Dev nD) : Nat :=
  let c0_i32_5843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5842 : BitVec 32 := 1#32
  let v4866 : BitVec 32 := Scalar.muli v33 c1_i32_5842
  let v4867 : BitVec 32 := Scalar.addi c0_i32_5843 v4866
  v4867.toNat
def k0_dev173 (d0 : Dev nD) : Nat :=
  let c0_i32_5897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5896 : BitVec 32 := 1#32
  let v4901 : BitVec 32 := Scalar.muli v33 c1_i32_5896
  let v4902 : BitVec 32 := Scalar.addi c0_i32_5897 v4901
  v4902.toNat
def k0_dev174 (d0 : Dev nD) : Nat :=
  let c0_i32_5906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5905 : BitVec 32 := 1#32
  let v4913 : BitVec 32 := Scalar.muli v19 c1_i32_5905
  let v4914 : BitVec 32 := Scalar.addi c0_i32_5906 v4913
  v4914.toNat
def k0_dev175 (d0 : Dev nD) : Nat :=
  let c0_i32_5960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5959 : BitVec 32 := 1#32
  let v4948 : BitVec 32 := Scalar.muli v19 c1_i32_5959
  let v4949 : BitVec 32 := Scalar.addi c0_i32_5960 v4948
  v4949.toNat
def k0_dev176 (d0 : Dev nD) : Nat :=
  let c0_i32_5969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5968 : BitVec 32 := 1#32
  let v4960 : BitVec 32 := Scalar.muli v33 c1_i32_5968
  let v4961 : BitVec 32 := Scalar.addi c0_i32_5969 v4960
  v4961.toNat
def k0_dev177 (d0 : Dev nD) : Nat :=
  let c0_i32_6023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6022 : BitVec 32 := 1#32
  let v4995 : BitVec 32 := Scalar.muli v33 c1_i32_6022
  let v4996 : BitVec 32 := Scalar.addi c0_i32_6023 v4995
  v4996.toNat
def k0_dev178 (d0 : Dev nD) : Nat :=
  let c0_i32_6032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6031 : BitVec 32 := 1#32
  let v5007 : BitVec 32 := Scalar.muli v19 c1_i32_6031
  let v5008 : BitVec 32 := Scalar.addi c0_i32_6032 v5007
  v5008.toNat
def k0_dev179 (d0 : Dev nD) : Nat :=
  let c0_i32_6086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6085 : BitVec 32 := 1#32
  let v5042 : BitVec 32 := Scalar.muli v19 c1_i32_6085
  let v5043 : BitVec 32 := Scalar.addi c0_i32_6086 v5042
  v5043.toNat
def k0_dev180 (d0 : Dev nD) : Nat :=
  let c0_i32_6144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6143 : BitVec 32 := 1#32
  let v5085 : BitVec 32 := Scalar.muli v33 c1_i32_6143
  let v5086 : BitVec 32 := Scalar.addi c0_i32_6144 v5085
  v5086.toNat
def k0_dev181 (d0 : Dev nD) : Nat :=
  let c0_i32_6202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6201 : BitVec 32 := 1#32
  let v5128 : BitVec 32 := Scalar.muli v19 c1_i32_6201
  let v5129 : BitVec 32 := Scalar.addi c0_i32_6202 v5128
  v5129.toNat
def k0_dev182 (d0 : Dev nD) : Nat :=
  let c0_i32_6260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6259 : BitVec 32 := 1#32
  let v5171 : BitVec 32 := Scalar.muli v33 c1_i32_6259
  let v5172 : BitVec 32 := Scalar.addi c0_i32_6260 v5171
  v5172.toNat
def k0_dev183 (d0 : Dev nD) : Nat :=
  let c0_i32_6318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6317 : BitVec 32 := 1#32
  let v5214 : BitVec 32 := Scalar.muli v19 c1_i32_6317
  let v5215 : BitVec 32 := Scalar.addi c0_i32_6318 v5214
  v5215.toNat
def k0_dev184 (d0 : Dev nD) : Nat :=
  let c0_i32_6376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6375 : BitVec 32 := 1#32
  let v5257 : BitVec 32 := Scalar.muli v33 c1_i32_6375
  let v5258 : BitVec 32 := Scalar.addi c0_i32_6376 v5257
  v5258.toNat
def k0_dev185 (d0 : Dev nD) : Nat :=
  let c0_i32_6434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6433 : BitVec 32 := 1#32
  let v5300 : BitVec 32 := Scalar.muli v19 c1_i32_6433
  let v5301 : BitVec 32 := Scalar.addi c0_i32_6434 v5300
  v5301.toNat
def k0_dev186 (d0 : Dev nD) : Nat :=
  let c0_i32_6492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6491 : BitVec 32 := 1#32
  let v5343 : BitVec 32 := Scalar.muli v33 c1_i32_6491
  let v5344 : BitVec 32 := Scalar.addi c0_i32_6492 v5343
  v5344.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Struct.lean ====
/-
The kernel's body laid out as loops over its eight lanes and seven hops: the same operations in the same order,
each step stated once at a symbolic lane and hop. `body_eq` says the printed body is this program.
-/
module

public import proofs.«01_k».proof.Proof.Gen.KernelIdeal
public import proofs.«01_k».proof.Proof.Gen.KernelIdeal.Points
public import Idealize.ShloMosaic.Lib.Pipeline.Regions

@[expose] public section

noncomputable section

namespace Cert.Ring

open Cert.KernelIdeal
open Idealize.ShloMosaic Idealize.ShloMosaic.TcCoe
open Idealize.SL Idealize.SL.Sem
open Cert.KernelIdeal.Facts₀ Cert.KernelIdeal.Facts

variable {F : FTy → Type} [FloatOps F]

/-- The programs a TensorCore runs in the kernel. -/
abbrev TcProg (F : FTy → Type) [FloatOps F] (α : Type) : Type 1 := Prog (TpuEff nD τ sig (Elt F) Λ₀ .tc) α

/-! ## Buffers -/

abbrev aX : Memref sig .tc .vmem S4096x512 .fp8e4m3 := Memref.whole cc0_stg0_0
abbrev aW : Memref sig .tc .vmem S512x2048 .fp8e4m3 := Memref.whole cc0_stg1_0
abbrev aSx : Memref sig .tc .vmem S1 .f32 := Memref.whole cc0_stg2_0
abbrev aSw : Memref sig .tc .vmem S1 .f32 := Memref.whole cc0_stg3_0
abbrev aOut : Memref sig .tc .vmem S4096x2048 .f32 := Memref.whole cc0_stg4_0
abbrev aSt : Memref sig .tc .vmem S8x512x256 .bf16 := Memref.whole cc0_scratch0
abbrev aRs : Memref sig .tc .vmem S8x2x512x256 .bf16 := Memref.whole cc0_scratch1
abbrev aAg : Memref sig .tc .vmem S8x3x512x256 .bf16 := Memref.whole cc0_scratch5

/-! ## Rectangles and views at a lane and a slot -/

theorem inbSt : ∀ l : Fin 8, ∀ a, (![l.val, 0, 0] : Fin 3 → Nat) a + S1x512x256.size a ≤ S8x512x256.size a := by decide
theorem inbRs : ∀ (l : Fin 8) (s : Fin 2), ∀ a, (![l.val, s.val, 0, 0] : Fin 4 → Nat) a + S1x1x512x256.size a ≤ S8x2x512x256.size a := by
  decide
theorem inbAg : ∀ (l : Fin 8) (s : Fin 3), ∀ a, (![l.val, s.val, 0, 0] : Fin 4 → Nat) a + S1x1x512x256.size a ≤ S8x3x512x256.size a := by
  decide
theorem inb2 : ∀ (l : Fin 8) (s : Fin 2), ∀ a, (![l.val, s.val] : Fin 2 → Nat) a + S1x1.size a ≤ S8x2.size a := by decide
theorem inb3 : ∀ (l : Fin 8) (s : Fin 3), ∀ a, (![l.val, s.val] : Fin 2 → Nat) a + S1x1.size a ≤ S8x3.size a := by decide
theorem inbX : ∀ c : Fin 8, ∀ a, (![512 * c.val, 0] : Fin 2 → Nat) a + S512x512.size a ≤ S4096x512.size a := by decide
theorem inbRows : ∀ c : Fin 8, ∀ a, (![512 * c.val, 0] : Fin 2 → Nat) a + S512x2048.size a ≤ S4096x2048.size a := by decide

abbrev rSt (l : Fin 8) : Rect S8x512x256 := Rect.unit (s := S8x512x256) ![l.val, 0, 0] S1x512x256.size (inbSt l)
abbrev rRs (l : Fin 8) (s : Fin 2) : Rect S8x2x512x256 := Rect.unit (s := S8x2x512x256) ![l.val, s.val, 0, 0] S1x1x512x256.size (inbRs l s)
abbrev rAg (l : Fin 8) (s : Fin 3) : Rect S8x3x512x256 := Rect.unit (s := S8x3x512x256) ![l.val, s.val, 0, 0] S1x1x512x256.size (inbAg l s)

theorem packedSt : ∀ l : Fin 8, (rSt l).PackedRows (EltTy.packing .bf16) := by decide
theorem wordsSt : ∀ l : Fin 8, (rSt l).WholeWords (EltTy.packing .bf16) := by decide
theorem wordsRs : ∀ (l : Fin 8) (s : Fin 2), (rRs l s).WholeWords (EltTy.packing .bf16) := by decide
theorem wordsAg : ∀ (l : Fin 8) (s : Fin 3), (rAg l s).WholeWords (EltTy.packing .bf16) := by decide

abbrev vSt (l : Fin 8) : Memref sig .tc .vmem S512x256 .bf16 :=
  (aSt.slice (rSt l) (fun _ => rfl)).squeeze S512x256 squeezes_S1x512x256_S512x256
abbrev vRs (l : Fin 8) (s : Fin 2) : Memref sig .tc .vmem S512x256 .bf16 :=
  (aRs.slice (rRs l s) (fun _ => rfl)).squeeze S512x256 squeezes_S1x1x512x256_S512x256
abbrev vAg (l : Fin 8) (s : Fin 3) : Memref sig .tc .vmem S512x256 .bf16 :=
  (aAg.slice (rAg l s) (fun _ => rfl)).squeeze S512x256 squeezes_S1x1x512x256_S512x256

theorem exSt (l : Fin 8) : (vSt l).view.WordExact :=
  (((Memref.isWhole_whole cc0_scratch0).wordExact_slice rfl _ (wordsSt l)).reshape _ _)
theorem exRs (l : Fin 8) (s : Fin 2) : (vRs l s).view.WordExact :=
  (((Memref.isWhole_whole cc0_scratch1).wordExact_slice rfl _ (wordsRs l s)).reshape _ _)
theorem exAg (l : Fin 8) (s : Fin 3) : (vAg l s).view.WordExact :=
  (((Memref.isWhole_whole cc0_scratch5).wordExact_slice rfl _ (wordsAg l s)).reshape _ _)

/-! ## Semaphores -/

abbrev bar : Sem sig := (SemArray.scalar (sig.barrier 0 rfl) : Sems sig S_).sem
abbrev qRsS (l : Fin 8) (s : Fin 2) : DmaSem sig := ((cc0_scratch2.slice (Rect.unit (s := S8x2) ![l.val, s.val] S1x1.size (inb2 l s))).squeeze S_ squeezes_S1x1_S_).sem
abbrev qRsR (l : Fin 8) (s : Fin 2) : DmaSem sig := ((cc0_scratch3.slice (Rect.unit (s := S8x2) ![l.val, s.val] S1x1.size (inb2 l s))).squeeze S_ squeezes_S1x1_S_).sem
abbrev qRsC (l : Fin 8) (s : Fin 2) : Sem sig := ((cc0_scratch4.slice (Rect.unit (s := S8x2) ![l.val, s.val] S1x1.size (inb2 l s))).squeeze S_ squeezes_S1x1_S_).sem
abbrev qAgS (l : Fin 8) (s : Fin 3) : DmaSem sig := ((cc0_scratch6.slice (Rect.unit (s := S8x3) ![l.val, s.val] S1x1.size (inb3 l s))).squeeze S_ squeezes_S1x1_S_).sem
abbrev qAgR (l : Fin 8) (s : Fin 3) : DmaSem sig := ((cc0_scratch7.slice (Rect.unit (s := S8x3) ![l.val, s.val] S1x1.size (inb3 l s))).squeeze S_ squeezes_S1x1_S_).sem
abbrev qAgC (l : Fin 8) (s : Fin 3) : Sem sig := ((cc0_scratch8.slice (Rect.unit (s := S8x3) ![l.val, s.val] S1x1.size (inb3 l s))).squeeze S_ squeezes_S1x1_S_).sem

/-! ## Neighbours, offsets, ownership -/

/-- The device a lane sends to: the right neighbour on the even lanes, the left one on the odd. -/
abbrev nxD (l : Fin 8) (d : Dev nD) : Dev nD :=
  if l.val % 2 = 0 then ⟨k0_dev2 d, k0_dev2_lt d⟩ else ⟨k0_dev1 d, k0_dev1_lt d⟩
/-- The device a lane receives from. -/
abbrev pvD (l : Fin 8) (d : Dev nD) : Dev nD :=
  if l.val % 2 = 0 then ⟨k0_dev1 d, k0_dev1_lt d⟩ else ⟨k0_dev2 d, k0_dev2_lt d⟩

/-- Where in the result a device's own chunk of a lane starts. -/
def ownOff : Fin 8 → Dev nD → Fin 2 → Nat
  | ⟨0, _⟩, d => k0_off1 d | ⟨1, _⟩, d => k0_off2 d | ⟨2, _⟩, d => k0_off3 d | ⟨3, _⟩, d => k0_off4 d
  | ⟨4, _⟩, d => k0_off5 d | ⟨5, _⟩, d => k0_off6 d | ⟨6, _⟩, d => k0_off7 d | ⟨7, _⟩, d => k0_off8 d
  | ⟨_ + 8, h⟩, _ => absurd h (Nat.not_lt.2 (Nat.le_add_left _ _))
/-- Where the chunk a lane reduces at hop `h` starts. -/
def rsOff : Fin 8 → Dev nD → Fin 7 → Fin 2 → Nat
  | ⟨0, _⟩, d, h => k0_off9 d (BitVec.ofNat 32 h.val) | ⟨1, _⟩, d, h => k0_off10 d (BitVec.ofNat 32 h.val)
  | ⟨2, _⟩, d, h => k0_off11 d (BitVec.ofNat 32 h.val) | ⟨3, _⟩, d, h => k0_off12 d (BitVec.ofNat 32 h.val)
  | ⟨4, _⟩, d, h => k0_off13 d (BitVec.ofNat 32 h.val) | ⟨5, _⟩, d, h => k0_off14 d (BitVec.ofNat 32 h.val)
  | ⟨6, _⟩, d, h => k0_off15 d (BitVec.ofNat 32 h.val) | ⟨7, _⟩, d, h => k0_off16 d (BitVec.ofNat 32 h.val)
  | ⟨_ + 8, h⟩, _, _ => absurd h (Nat.not_lt.2 (Nat.le_add_left _ _))
/-- Where the chunk a lane receives in the gathering at hop `h` starts. -/
def agOff : Fin 8 → Dev nD → Fin 7 → Fin 2 → Nat
  | ⟨0, _⟩, d, h => k0_off17 d (BitVec.ofNat 32 h.val) | ⟨1, _⟩, d, h => k0_off18 d (BitVec.ofNat 32 h.val)
  | ⟨2, _⟩, d, h => k0_off19 d (BitVec.ofNat 32 h.val) | ⟨3, _⟩, d, h => k0_off20 d (BitVec.ofNat 32 h.val)
  | ⟨4, _⟩, d, h => k0_off21 d (BitVec.ofNat 32 h.val) | ⟨5, _⟩, d, h => k0_off22 d (BitVec.ofNat 32 h.val)
  | ⟨6, _⟩, d, h => k0_off23 d (BitVec.ofNat 32 h.val) | ⟨7, _⟩, d, h => k0_off24 d (BitVec.ofNat 32 h.val)
  | ⟨_ + 8, h⟩, _, _ => absurd h (Nat.not_lt.2 (Nat.le_add_left _ _))

theorem ownOff_inb : ∀ (l : Fin 8) (d : Dev nD), ∀ a, ownOff l d a + S512x256.size a ≤ S4096x2048.size a
  | ⟨0, _⟩, d => k0_off1_inb d | ⟨1, _⟩, d => k0_off2_inb d | ⟨2, _⟩, d => k0_off3_inb d | ⟨3, _⟩, d => k0_off4_inb d
  | ⟨4, _⟩, d => k0_off5_inb d | ⟨5, _⟩, d => k0_off6_inb d | ⟨6, _⟩, d => k0_off7_inb d | ⟨7, _⟩, d => k0_off8_inb d
  | ⟨_ + 8, h⟩, _ => absurd h (Nat.not_lt.2 (Nat.le_add_left _ _))
theorem rsOff_inb : ∀ (l : Fin 8) (d : Dev nD) (h : Fin 7), ∀ a, rsOff l d h a + S512x256.size a ≤ S4096x2048.size a
  | ⟨0, _⟩, d, h => k0_off9_inb d h | ⟨1, _⟩, d, h => k0_off10_inb d h | ⟨2, _⟩, d, h => k0_off11_inb d h | ⟨3, _⟩, d, h => k0_off12_inb d h
  | ⟨4, _⟩, d, h => k0_off13_inb d h | ⟨5, _⟩, d, h => k0_off14_inb d h | ⟨6, _⟩, d, h => k0_off15_inb d h | ⟨7, _⟩, d, h => k0_off16_inb d h
  | ⟨_ + 8, h⟩, _, _ => absurd h (Nat.not_lt.2 (Nat.le_add_left _ _))
theorem agOff_inb : ∀ (l : Fin 8) (d : Dev nD) (h : Fin 7), ∀ a, agOff l d h a + S512x256.size a ≤ S4096x2048.size a
  | ⟨0, _⟩, d, h => k0_off17_inb d h | ⟨1, _⟩, d, h => k0_off18_inb d h | ⟨2, _⟩, d, h => k0_off19_inb d h | ⟨3, _⟩, d, h => k0_off20_inb d h
  | ⟨4, _⟩, d, h => k0_off21_inb d h | ⟨5, _⟩, d, h => k0_off22_inb d h | ⟨6, _⟩, d, h => k0_off23_inb d h | ⟨7, _⟩, d, h => k0_off24_inb d h
  | ⟨_ + 8, h⟩, _, _ => absurd h (Nat.not_lt.2 (Nat.le_add_left _ _))

abbrev rOwn (l : Fin 8) (d : Dev nD) : Rect S4096x2048 := Rect.unit (s := S4096x2048) (ownOff l d) S512x256.size (ownOff_inb l d)
abbrev rRed (l : Fin 8) (d : Dev nD) (h : Fin 7) : Rect S4096x2048 := Rect.unit (s := S4096x2048) (rsOff l d h) S512x256.size (rsOff_inb l d h)
abbrev rGat (l : Fin 8) (d : Dev nD) (h : Fin 7) : Rect S4096x2048 := Rect.unit (s := S4096x2048) (agOff l d h) S512x256.size (agOff_inb l d h)
abbrev rX (c : Fin 8) : Rect S4096x512 := Rect.unit (s := S4096x512) ![512 * c.val, 0] S512x512.size (inbX c)
abbrev rRows (c : Fin 8) : Rect S4096x2048 := Rect.unit (s := S4096x2048) ![512 * c.val, 0] S512x2048.size (inbRows c)

/-- A device's place on the clockwise ring, as the kernel computes it. -/
def rkCw (d : Dev nD) : BitVec 32 :=
  let v2 : BitVec 32 := Scalar.remsi (Scalar.divsi (Dev.word d) 1#32) 8#32
  Scalar.select (Scalar.cmpi .slt v2 4#32) v2 (Scalar.subi 11#32 v2)
/-- Its place on the other ring. -/
def rkCcw (d : Dev nD) : BitVec 32 :=
  let v36 : BitVec 32 := Scalar.select (Scalar.cmpi .eq 8#32 0#32) 1#32 8#32
  let v37 : BitVec 32 := Scalar.remsi (Scalar.subi 8#32 (rkCw d)) v36
  Scalar.select (Scalar.andi (Scalar.xori (Scalar.cmpi .slt v37 0#32) (Scalar.cmpi .slt v36 0#32)) (Scalar.cmpi .ne v37 0#32)) (Scalar.addi v37 v36) v37
/-- Whether row chunk `c` is one of the two a device sends first. -/
def isOwn (d : Dev nD) (c : Fin 8) : BitVec 1 :=
  Scalar.ori (Scalar.cmpi .eq (BitVec.ofNat 32 c.val) (rkCw d)) (Scalar.cmpi .eq (BitVec.ofNat 32 c.val) (rkCcw d))

/-! ## The steps -/

/-- One row chunk of the local product, scaled. -/
def gemmVal (s : F .f32) (w : FVec F S512x2048 .bf16) (x : Vec F S512x512 .fp8e4m3) : FVec F S512x2048 .f32 :=
  mulf (matmul dot_S512x512_S512x2048_S512x2048_1_0_0_1_n_n none
      (extf .bf16 (shapeCast S512x512 x shapeCasts_S512x512_S512x512) bitsLt_fp8e4m3_bf16) w
      (constant S512x2048 .f32 0x00000000#32)) (broadcast S512x2048 s)

/-- Row chunk `c` of the local product, computed if the flag says so, then the rest. -/
def gemmIf {α : Type} (fl : BitVec 1) (s : F .f32) (w : FVec F S512x2048 .bf16) (c : Fin 8) (k : TcProg F α) : TcProg F α := do
  if hk : Scalar.cmpi .ne (Scalar.extui fl : BitVec 32) 0#32 = 1#1 then do
    let x : Vec F S512x512 .fp8e4m3 ← Prog.lift (.load aX (rX c).toLoadRect (View.loadsAt_vmem h_S512x512))
    let o : Vec F S512x2048 .f32 ← Prog.lift (.load aOut (rRows c).toLoadRect (View.loadsAt_vmem h_S512x2048))
    Prog.lift (.store aOut (rRows c) (gemmVal s w x) Finset.univ (View.stores_vmem_bits_univ h_S512x2048 rfl) (.inl rfl))
    pure ⟨⟩
  else do
    pure ⟨⟩
  k

/-- The chunks in turn, then the rest. -/
def gemms {α : Type} (fl : Fin 8 → BitVec 1) (s : F .f32) (w : FVec F S512x2048 .bf16) : List (Fin 8) → TcProg F α → TcProg F α
  | [], k => k
  | c :: cs, k => gemmIf (fl c) s w c (gemms fl s w cs k)

/-- Steps in turn. -/
def seqL {ι : Type} (f : ι → TcProg F PUnit) : List ι → TcProg F PUnit
  | [] => pure ⟨⟩
  | x :: xs => f x >>= fun _ => seqL f xs

/-- Store a chunk, rounded, into the lane's staging slot. -/
def stageOp (l : Fin 8) (v : FVec F S512x256 .f32) : TcProg F PUnit := do
  let o : Vec F S1x512x256 .bf16 ← Prog.lift (.load aSt (rSt l).toLoadRect (View.loadsAt_vmem h_S1x512x256))
  Prog.lift (.store aSt (rSt l) (shapeCast S1x512x256 (truncf .bf16 v bitsLt_bf16_f32) shapeCasts_S512x256_S1x512x256) Finset.univ
    (View.stores_vmem h_S1x512x256 ((Memref.isWhole_whole cc0_scratch0).storeExact_slice rfl _ (packedSt l)) (fun _ => rfl)) (.inl rfl))

/-- Send the staging slot to the next device's reduction slot. -/
def rsSend (d : Dev nD) (l : Fin 8) (s : Fin 2) : TcProg F PUnit :=
  Prog.lift (.enqueueDma (vSt l) (.remote (Dev.tc (nxD l d)) (vRs l s) (.dma (qRsS l s))) (.dma (qRsR l s)) (exSt l) (exRs l s)
    ⟨⟨rfl, Or.inl rfl⟩, trivial⟩)

/-- The first send of a lane: the device's own chunk. -/
def rsStart (d : Dev nD) (l : Fin 8) : TcProg F PUnit := do
  let v : Vec F S512x256 .f32 ← Prog.lift (.load aOut (rOwn l d).toLoadRect (View.loadsAt_vmem h_S512x256))
  stageOp l (shapeCast S512x256 v shapeCasts_S512x256_S512x256)
  rsSend d l 0

/-- The accumulation of a step. -/
def accVal (a : Vec F S512x256 .f32) (b : Vec F S1x1x512x256 .bf16) : FVec F S512x256 .f32 :=
  addf (shapeCast S512x256 a shapeCasts_S512x256_S512x256)
    (extf .f32 (shapeCast S512x256 b shapeCasts_S1x1x512x256_S512x256) bitsLt_bf16_f32)

abbrev sl2 (h : Nat) : Fin 2 := ⟨h % 2, Nat.mod_lt _ (by decide)⟩
abbrev sl3 (h : Nat) : Fin 3 := ⟨h % 3, Nat.mod_lt _ (by decide)⟩

/-- What a reduction step sends on: the next hop's chunk, after its slot is free again, or at the last hop the finished
    chunk, which it also keeps. -/
def rsNext (d : Dev nD) (l : Fin 8) (h : Fin 7) (acc : FVec F S512x256 .f32) : TcProg F PUnit :=
  if h.val < 6 then
    if 1 ≤ h.val then do
      semWaitWord (qRsC l (sl2 (h.val + 1))) 1#32
      rsSend d l (sl2 (h.val + 1))
    else rsSend d l (sl2 (h.val + 1))
  else do
    Prog.lift (.enqueueDma (vSt l) (.remote (Dev.tc (nxD l d)) (vAg l 0) (.dma (qAgS l 0))) (.dma (qAgR l 0)) (exSt l) (exAg l 0)
      ⟨⟨rfl, Or.inl rfl⟩, trivial⟩)
    let o : Vec F S512x256 .f32 ← Prog.lift (.load aOut (rRed l d h).toLoadRect (View.loadsAt_vmem h_S512x256))
    Prog.lift (.store aOut (rRed l d h) acc Finset.univ (View.stores_vmem_bits_univ h_S512x256 rfl) (.inl rfl))

/-- The signal that a reduction slot is free again. -/
def rsFree (d : Dev nD) (l : Fin 8) (h : Fin 7) : TcProg F PUnit :=
  if h.val < 5 then semSignalWord (pvD l d) (qRsC l (sl2 h.val)) 1#32 else pure ⟨⟩

/-- One reduction step of a lane. -/
def rsStep (d : Dev nD) (h : Fin 7) (l : Fin 8) : TcProg F PUnit := do
  Prog.lift (.waitDma2 (qRsS l (sl2 h.val)) (vRs l (sl2 h.val)) (vSt l) (exRs l _) (exSt l))
  Prog.lift (.waitDma2 (qRsR l (sl2 h.val)) (vSt l) (vRs l (sl2 h.val)) (exSt l) (exRs l _))
  let a : Vec F S512x256 .f32 ← Prog.lift (.load aOut (rRed l d h).toLoadRect (View.loadsAt_vmem h_S512x256))
  let b : Vec F S1x1x512x256 .bf16 ← Prog.lift (.load aRs (rRs l (sl2 h.val)).toLoadRect (View.loadsAt_vmem h_S1x1x512x256))
  stageOp l (accVal a b)
  rsNext d l h (accVal a b)
  rsFree d l h

/-- The gathered chunk passed on. -/
def agNext (d : Dev nD) (l : Fin 8) (h : Fin 7) : TcProg F PUnit :=
  if h.val < 6 then
    if 2 ≤ h.val then do
      semWaitWord (qAgC l (sl3 (h.val + 1))) 1#32
      Prog.lift (.enqueueDma (vAg l (sl3 h.val)) (.remote (Dev.tc (nxD l d)) (vAg l (sl3 (h.val + 1))) (.dma (qAgS l (sl3 (h.val + 1)))))
        (.dma (qAgR l (sl3 (h.val + 1)))) (exAg l _) (exAg l _) ⟨⟨rfl, Or.inl rfl⟩, trivial⟩)
    else
      Prog.lift (.enqueueDma (vAg l (sl3 h.val)) (.remote (Dev.tc (nxD l d)) (vAg l (sl3 (h.val + 1))) (.dma (qAgS l (sl3 (h.val + 1)))))
        (.dma (qAgR l (sl3 (h.val + 1)))) (exAg l _) (exAg l _) ⟨⟨rfl, Or.inl rfl⟩, trivial⟩)
  else pure ⟨⟩

/-- The signal that a gathering slot is free again. -/
def agFree (d : Dev nD) (l : Fin 8) (h : Fin 7) : TcProg F PUnit :=
  if 1 ≤ h.val ∧ h.val < 5 then semSignalWord (pvD l d) (qAgC l (sl3 (h.val - 1))) 1#32 else pure ⟨⟩

/-- The source of the transfer whose departure a gathering step waits for: the staging slot first, then the slot of the hop before. -/
def agSrc (l : Fin 8) (h : Fin 7) : Memref sig .tc .vmem S512x256 .bf16 :=
  if h.val = 0 then vSt l else vAg l (sl3 (h.val - 1))
theorem exSrc (l : Fin 8) (h : Fin 7) : (agSrc l h).view.WordExact := by
  unfold agSrc; split
  · exact exSt l
  · exact exAg l _

/-- One gathering step of a lane. -/
def agStep (d : Dev nD) (h : Fin 7) (l : Fin 8) : TcProg F PUnit := do
  Prog.lift (.waitDma2 (qAgS l (sl3 h.val)) (vAg l (sl3 h.val)) (agSrc l h) (exAg l _) (exSrc l h))
  Prog.lift (.waitDma2 (qAgR l (sl3 h.val)) (agSrc l h) (vAg l (sl3 h.val)) (exSrc l h) (exAg l _))
  agNext d l h
  agFree d l h
  let b : Vec F S1x1x512x256 .bf16 ← Prog.lift (.load aAg (rAg l (sl3 h.val)).toLoadRect (View.loadsAt_vmem h_S1x1x512x256))
  let o : Vec F S512x256 .f32 ← Prog.lift (.load aOut (rGat l d h).toLoadRect (View.loadsAt_vmem h_S512x256))
  Prog.lift (.store aOut (rGat l d h) (extf .f32 (shapeCast S512x256 b shapeCasts_S1x1x512x256_S512x256) bitsLt_bf16_f32) Finset.univ
    (View.stores_vmem_bits_univ h_S512x256 rfl) (.inl rfl))

/-- The lanes, and the hops. -/
def lanes : List (Fin 8) :=
  [⟨0, by decide⟩, ⟨1, by decide⟩, ⟨2, by decide⟩, ⟨3, by decide⟩, ⟨4, by decide⟩, ⟨5, by decide⟩, ⟨6, by decide⟩, ⟨7, by decide⟩]
def hops : List (Fin 7) :=
  [⟨0, by decide⟩, ⟨1, by decide⟩, ⟨2, by decide⟩, ⟨3, by decide⟩, ⟨4, by decide⟩, ⟨5, by decide⟩, ⟨6, by decide⟩]

/-- The handshake with both neighbours, the scale and the weights. -/
def shake {α : Type} (d : Dev nD) (k : F .f32 → FVec F S512x2048 .bf16 → TcProg F α) : TcProg F α := do
  semSignalWord (⟨k0_dev1 d, k0_dev1_lt d⟩ : Dev nD) bar 1#32
  semSignalWord (⟨k0_dev2 d, k0_dev2_lt d⟩ : Dev nD) bar 1#32
  semWaitWord bar 2#32
  let v50 : Vec F S1 .f32 ← Prog.lift (.load aSx (Rect.unit (s := S1) ![0] S1.size inb_S1_S1_0).toLoadRect (View.loadsAt_vmem h_S1))
  let v52 : Vec F S1 .f32 ← Prog.lift (.load aSw (Rect.unit (s := S1) ![0] S1.size inb_S1_S1_0).toLoadRect (View.loadsAt_vmem h_S1))
  let v55 : Vec F S512x2048 .fp8e4m3 ← Prog.lift (.load aW (Rect.unit (s := S512x2048) ![0, 0] S512x2048.size inb_S512x2048_S512x2048_0_0).toLoadRect (View.loadsAt_vmem h_S512x2048))
  k (Scalar.mulf (extractAt ![0] v50 inpos_S1_p0) (extractAt ![0] v52 inpos_S1_p0))
    (extf .bf16 (shapeCast S512x2048 v55 shapeCasts_S512x2048_S512x2048) bitsLt_fp8e4m3_bf16)

/-- The two rings: the reductions, then the gatherings. -/
def rings (d : Dev nD) : TcProg F PUnit := do
  seqL (fun h => seqL (rsStep d h) lanes) hops
  seqL (fun h => seqL (agStep d h) lanes) hops

/-- The body. -/
def kbody : TcProg F PUnit :=
  Prog.lift .deviceId >>= fun d => shake d fun s w =>
    gemms (isOwn d) s w lanes <|
      seqL (rsStart d) lanes >>= fun _ =>
        gemms (fun c => Scalar.xori (isOwn d c) 1#1) s w lanes (rings d)

/-! ## The printed body is this program -/

theorem gemmIf_bind {α β : Type} (fl : BitVec 1) (s : F .f32) (w : FVec F S512x2048 .bf16) (c : Fin 8) (k : TcProg F α) (g : α → TcProg F β) :
    (gemmIf fl s w c k >>= g) = gemmIf fl s w c (k >>= g) := by
  unfold gemmIf
  split <;> rfl

theorem gemms_bind {α β : Type} (fl : Fin 8 → BitVec 1) (s : F .f32) (w : FVec F S512x2048 .bf16) (cs : List (Fin 8)) (k : TcProg F α)
    (g : α → TcProg F β) : (gemms fl s w cs k >>= g) = gemms fl s w cs (k >>= g) := by
  induction cs with
  | nil => rfl
  | cons c cs ih => rw [gemms, gemmIf_bind, ih, gemms]

end Cert.Ring

end
-- ==== Proof.Facts.lean ====
/-
The finite facts about the eight devices: a device's place on the ring of a lane, its neighbours there, which chunk each
step touches, and which semaphores the lanes use.
-/
module

public import proofs.«01_k».proof.Proof.Struct

@[expose] public section

noncomputable section

namespace Cert.Ring

open Cert.KernelIdeal
open Idealize.ShloMosaic Idealize.ShloMosaic.TcCoe
open Idealize.SL Idealize.SL.Sem

/-- A device's place on the clockwise ring. -/
def cw (d : Dev nD) : Fin 8 := if h : d.val < 4 then ⟨d.val, d.isLt⟩ else ⟨11 - d.val, by have : d.val < 8 := d.isLt; omega⟩
/-- A device's place on the ring of lane `l`: the clockwise one on the even lanes, its reverse on the odd. -/
def rk (l : Fin 8) (d : Dev nD) : Fin 8 := if l.val % 2 = 0 then cw d else 0 - cw d
/-- The device at place `r` of the ring of lane `l`. -/
def at_ (l : Fin 8) (r : Fin 8) : Dev nD :=
  let q : Fin 8 := if l.val % 2 = 0 then r else 0 - r
  if h : q.val < 4 then ⟨q.val, q.isLt⟩ else ⟨11 - q.val, by have := q.isLt; show 11 - q.val < 8; omega⟩

theorem rk_at : ∀ l r : Fin 8, rk l (at_ l r) = r := by decide
theorem at_rk : ∀ (l : Fin 8) (d : Dev nD), at_ l (rk l d) = d := by decide

/-- The next and the previous device on the ring of a lane. -/
def nx (l : Fin 8) (d : Dev nD) : Dev nD := at_ l (rk l d + 1)
def pv (l : Fin 8) (d : Dev nD) : Dev nD := at_ l (rk l d - 1)

theorem nxD_eq : ∀ (l : Fin 8) (d : Dev nD), nxD l d = nx l d := by decide +kernel
theorem pvD_eq : ∀ (l : Fin 8) (d : Dev nD), pvD l d = pv l d := by decide +kernel
theorem rk_nx (l : Fin 8) (d : Dev nD) : rk l (nx l d) = rk l d + 1 := rk_at l _
theorem rk_pv (l : Fin 8) (d : Dev nD) : rk l (pv l d) = rk l d - 1 := rk_at l _
theorem nx_pv : ∀ (l : Fin 8) (d : Dev nD), nx l (pv l d) = d := by decide
theorem pv_nx : ∀ (l : Fin 8) (d : Dev nD), pv l (nx l d) = d := by decide

/-- The chunk a lane reduces at hop `h`, and the one it receives in the gathering at hop `h`. -/
def kRed (l : Fin 8) (d : Dev nD) (h : Fin 7) : Fin 8 := rk l d - ⟨h.val + 1, by omega⟩
def kGat (l : Fin 8) (d : Dev nD) (h : Fin 7) : Fin 8 := rk l d - ⟨h.val, by omega⟩

/-- The column of tiles a lane works on: the left half of the result on the even lanes, the right half on the odd. -/
def col (l : Fin 8) : Fin 8 := ⟨4 * (l.val % 2) + l.val / 2, by omega⟩
theorem col_inj : ∀ l l' : Fin 8, col l = col l' → l = l' := by decide
/-- Where the tile of chunk `k` and lane `l` starts in the result. -/
def tOff (k l : Fin 8) : Fin 2 → Nat := ![512 * k.val, 256 * (col l).val]
theorem tOff_inb : ∀ (k l : Fin 8), ∀ a, tOff k l a + S512x256.size a ≤ S4096x2048.size a := by decide

theorem ownOff_eq : ∀ (l : Fin 8) (d : Dev nD), ownOff l d = tOff (rk l d) l := by decide +kernel
theorem rsOff_eq : ∀ (l : Fin 8) (d : Dev nD) (h : Fin 7), rsOff l d h = tOff (kRed l d h) l := by decide +kernel
theorem agOff_eq : ∀ (l : Fin 8) (d : Dev nD) (h : Fin 7), agOff l d h = tOff (kGat l d h) l := by decide +kernel

/-- The flag of the first pass of products is up exactly on a device's own two chunks; -/
theorem own_flag : ∀ (d : Dev nD) (c : Fin 8), (Scalar.cmpi .ne (Scalar.extui (isOwn d c) : BitVec 32) 0#32 = 1#1) ↔ (c = rk 0 d ∨ c = rk 1 d) := by
  decide +kernel
/-- and of the second on the others. -/
theorem other_flag : ∀ (d : Dev nD) (c : Fin 8),
    (Scalar.cmpi .ne (Scalar.extui (Scalar.xori (isOwn d c) 1#1) : BitVec 32) 0#32 = 1#1) ↔ ¬ (c = rk 0 d ∨ c = rk 1 d) := by
  decide +kernel
theorem rk_own : ∀ (l : Fin 8) (d : Dev nD), rk l d = rk 0 d ∨ rk l d = rk 1 d := by decide

/-! ## The semaphores by number -/

theorem bar_eq : bar = ⟨40, by decide⟩ := by decide +kernel
theorem qRsS_eq : ∀ (l : Fin 8) (s : Fin 2), (qRsS l s).val = 5 + (2 * l.val + s.val) := by decide +kernel
theorem qRsR_eq : ∀ (l : Fin 8) (s : Fin 2), (qRsR l s).val = 21 + (2 * l.val + s.val) := by decide +kernel
theorem qAgS_eq : ∀ (l : Fin 8) (s : Fin 3), (qAgS l s).val = 37 + (3 * l.val + s.val) := by decide +kernel
theorem qAgR_eq : ∀ (l : Fin 8) (s : Fin 3), (qAgR l s).val = 61 + (3 * l.val + s.val) := by decide +kernel
theorem qRsC_eq : ∀ (l : Fin 8) (s : Fin 2), (qRsC l s).val = 2 * l.val + s.val := by decide +kernel
theorem qAgC_eq : ∀ (l : Fin 8) (s : Fin 3), (qAgC l s).val = 16 + (3 * l.val + s.val) := by decide +kernel

end Cert.Ring

end
-- ==== Proof.Vals.lean ====
/-
The values: row chunks of the local products and their tiles, what a lane sends at each hop, what the result buffer
holds between steps; and the reads and writes of buffers the steps make, stated on tiles and slots.
-/
module

public import proofs.«01_k».proof.Proof.Facts
public import Idealize.ShloMosaic.Lib.Pipeline.Value

@[expose] public section

noncomputable section

namespace Cert.Ring

open Cert.KernelIdeal
open Idealize.ShloMosaic Idealize.ShloMosaic.TcCoe
open Idealize.SL Idealize.SL.Sem
open Cert.KernelIdeal.Facts₀ Cert.KernelIdeal.Facts

variable {F : FTy → Type} [FloatOps F]

/-! ## Tiles and rows of a result-shaped array -/

/-- The tile of chunk `k` and lane `l`, as a rectangle of the result. -/
abbrev rT (k l : Fin 8) : Rect S4096x2048 := Rect.unit (s := S4096x2048) (tOff k l) S512x256.size (tOff_inb k l)

/-- What a tile of the result holds. -/
def tileRd (k l : Fin 8) (f : Vec F S4096x2048 .f32) : FVec F S512x256 .f32 := fun i => f ((rT k l).emb i)
/-- What a row chunk of the result holds. -/
def rowRd (k : Fin 8) (f : Vec F S4096x2048 .f32) : FVec F S512x2048 .f32 := fun i => f ((rRows k).emb i)

theorem subInb : ∀ l : Fin 8, ∀ a, (![0, 256 * (col l).val] : Fin 2 → Nat) a + S512x256.size a ≤ S512x2048.size a := by decide
/-- A lane's columns of a row chunk. -/
abbrev rSub (l : Fin 8) : Rect S512x2048 := Rect.unit (s := S512x2048) ![0, 256 * (col l).val] S512x256.size (subInb l)
def sub (l : Fin 8) (r : FVec F S512x2048 .f32) : FVec F S512x256 .f32 := fun i => r ((rSub l).emb i)

theorem emb_sub (k l : Fin 8) (i : S512x256.Idx) : (rRows k).emb ((rSub l).emb i) = (rT k l).emb i := by
  funext a
  refine Fin.ext ?_
  simp only [Rect.emb_apply]
  fin_cases a
  · show 512 * k.val + 1 * (0 + 1 * (i 0 : Nat)) = 512 * k.val + 1 * (i 0 : Nat)
    omega
  · show 0 + 1 * (256 * (col l).val + 1 * (i 1 : Nat)) = 256 * (col l).val + 1 * (i 1 : Nat)
    omega

theorem tileRd_sub (k l : Fin 8) (f : Vec F S4096x2048 .f32) : tileRd k l f = sub l (rowRd k f) := by
  funext i
  unfold tileRd sub rowRd
  rw [emb_sub]

/-- Reading the result through a rectangle of a tile's size reads the tile whose offset it has. -/
theorem read_tile {off : Fin 2 → Nat} (h : ∀ a, off a + S512x256.size a ≤ S4096x2048.size a) {k l : Fin 8} (e : off = tOff k l)
    (f : Vec F S4096x2048 .f32) : (aOut.access (Rect.unit (s := S4096x2048) off S512x256.size h)).read (Elt F) f = tileRd k l f := by
  subst e; rfl

theorem read_row (k : Fin 8) (f : Vec F S4096x2048 .f32) : (aOut.access (rRows k)).read (Elt F) f = rowRd k f := rfl

/-- What is read through a rectangle after a write through it is what was written; -/
theorem rd_same (r : Rect S4096x2048) (f : Vec F S4096x2048 .f32) (w : r.shape.Idx → Elt F .f32) :
    (fun i => (aOut.access r).write (Elt F) f w Finset.univ (r.emb i)) = w :=
  View.read_write_univ (v := aOut.access r) f w
/-- through a disjoint one, what was there. -/
theorem rd_other (r r' : Rect S4096x2048) (h : Disjoint (aOut.access r).set (aOut.access r').set) (f : Vec F S4096x2048 .f32)
    (w : r'.shape.Idx → Elt F .f32) :
    (fun i => (aOut.access r').write (Elt F) f w Finset.univ (r.emb i)) = fun i => f (r.emb i) :=
  View.read_slice_write_slice_of_disjoint (v := aOut.view) r r' f w Finset.univ h

/-- Writing it replaces that tile -/
theorem tileRd_write_same {off : Fin 2 → Nat} (h : ∀ a, off a + S512x256.size a ≤ S4096x2048.size a) {k l : Fin 8} (e : off = tOff k l)
    (f : Vec F S4096x2048 .f32) (w : FVec F S512x256 .f32) :
    tileRd k l ((aOut.access (Rect.unit (s := S4096x2048) off S512x256.size h)).write (Elt F) f w Finset.univ) = w := by
  subst e
  exact rd_same (rT k l) f w

theorem tile_disjoint {k l k' l' : Fin 8} (h : ¬ (k = k' ∧ l = l')) : Disjoint (aOut.access (rT k l)).set (aOut.access (rT k' l')).set := by
  refine Finset.disjoint_left.mpr fun i hi hi' => h ?_
  obtain ⟨x, -, rfl⟩ := Finset.mem_map.mp hi
  obtain ⟨y, -, e⟩ := Finset.mem_map.mp hi'
  have e' : (rT k' l').emb y = (rT k l).emb x := e
  have e0 := congrArg (fun z : S4096x2048.Idx => (z 0).val) e'
  have e1 := congrArg (fun z : S4096x2048.Idx => (z 1).val) e'
  simp only [Rect.emb_apply] at e0 e1
  have x0 : (x 0 : Nat) < 512 := (x 0).isLt
  have x1 : (x 1 : Nat) < 256 := (x 1).isLt
  have y0 : (y 0 : Nat) < 512 := (y 0).isLt
  have y1 : (y 1 : Nat) < 256 := (y 1).isLt
  replace e0 : 512 * k'.val + 1 * (y 0 : Nat) = 512 * k.val + 1 * (x 0 : Nat) := e0
  replace e1 : 256 * (col l').val + 1 * (y 1 : Nat) = 256 * (col l).val + 1 * (x 1 : Nat) := e1
  exact ⟨Fin.ext (by omega), col_inj l l' (Fin.ext (by omega))⟩

/-- and leaves the others. -/
theorem tileRd_write_other {off : Fin 2 → Nat} (h : ∀ a, off a + S512x256.size a ≤ S4096x2048.size a) {k l k' l' : Fin 8} (e : off = tOff k' l')
    (hne : ¬ (k = k' ∧ l = l')) (f : Vec F S4096x2048 .f32) (w : FVec F S512x256 .f32) :
    tileRd k l ((aOut.access (Rect.unit (s := S4096x2048) off S512x256.size h)).write (Elt F) f w Finset.univ) = tileRd k l f := by
  subst e
  exact rd_other (rT k l) (rT k' l') (tile_disjoint hne) f w

theorem rowRd_write_same (k : Fin 8) (f : Vec F S4096x2048 .f32) (w : (rRows k).shape.Idx → Elt F .f32) :
    rowRd k ((aOut.access (rRows k)).write (Elt F) f w Finset.univ) = w := by
  unfold rowRd
  exact rd_same (rRows k) f w

theorem row_disjoint {k k' : Fin 8} (h : k ≠ k') : Disjoint (aOut.access (rRows k)).set (aOut.access (rRows k')).set := by
  refine Finset.disjoint_left.mpr fun i hi hi' => h ?_
  obtain ⟨x, -, rfl⟩ := Finset.mem_map.mp hi
  obtain ⟨y, -, e⟩ := Finset.mem_map.mp hi'
  have e' : (rRows k').emb y = (rRows k).emb x := e
  have e0 := congrArg (fun z : S4096x2048.Idx => (z 0).val) e'
  simp only [Rect.emb_apply] at e0
  have x0 : (x 0 : Nat) < 512 := (x 0).isLt
  have y0 : (y 0 : Nat) < 512 := (y 0).isLt
  replace e0 : 512 * k'.val + 1 * (y 0 : Nat) = 512 * k.val + 1 * (x 0 : Nat) := e0
  exact Fin.ext (by omega)

theorem rowRd_write_other {k k' : Fin 8} (hne : k ≠ k') (f : Vec F S4096x2048 .f32) (w : (rRows k').shape.Idx → Elt F .f32) :
    rowRd k ((aOut.access (rRows k')).write (Elt F) f w Finset.univ) = rowRd k f := by
  unfold rowRd
  exact rd_other (rRows k) (rRows k') (row_disjoint hne) f w

/-- A result is determined by its tiles. -/
theorem ext_tiles {f g : Vec F S4096x2048 .f32} (h : ∀ k l, tileRd k l f = tileRd k l g) : f = g := by
  funext i
  have i0 : (i 0 : Nat) < 4096 := (i 0).isLt
  have i1 : (i 1 : Nat) < 2048 := (i 1).isLt
  have hl : ∃ l : Fin 8, (col l).val = (i 1 : Nat) / 256 := by
    have : ∀ n : Fin 8, ∃ l : Fin 8, (col l).val = n.val := by decide
    exact this ⟨(i 1 : Nat) / 256, by omega⟩
  obtain ⟨l, hl⟩ := hl
  have e : (rT ⟨(i 0 : Nat) / 512, by omega⟩ l).emb (Fin.cons ⟨(i 0 : Nat) % 512, Nat.mod_lt _ (by decide)⟩
      (Fin.cons ⟨(i 1 : Nat) % 256, Nat.mod_lt _ (by decide)⟩ fun a => a.elim0)) = i := by
    funext a
    refine Fin.ext ?_
    simp only [Rect.emb_apply]
    fin_cases a
    · show 512 * ((i 0 : Nat) / 512) + 1 * ((i 0 : Nat) % 512) = (i 0 : Nat)
      omega
    · show 256 * (col l).val + 1 * ((i 1 : Nat) % 256) = (i 1 : Nat)
      omega
  have := congrFun (h ⟨(i 0 : Nat) / 512, by omega⟩ l) (Fin.cons ⟨(i 0 : Nat) % 512, Nat.mod_lt _ (by decide)⟩
      (Fin.cons ⟨(i 1 : Nat) % 256, Nat.mod_lt _ (by decide)⟩ fun a => a.elim0))
  unfold tileRd at this
  rwa [e] at this

/-! ## What the devices compute -/

/-- What the devices are given: blocks of `x` and `w`, and the two scales. -/
structure Ins (F : FTy → Type) where
  x : Dev nD → Vec F S4096x512 .fp8e4m3
  w : Dev nD → Vec F S512x2048 .fp8e4m3
  sx : Dev nD → Vec F S1 .f32
  sw : Dev nD → Vec F S1 .f32

variable (I : Ins F)

/-- The scale, as device `c` computes it. -/
def scale (c : Dev nD) : F .f32 := Scalar.mulf (extractAt ![0] (I.sx c) inpos_S1_p0) (extractAt ![0] (I.sw c) inpos_S1_p0)
/-- The weights of device `c` in the wider format. -/
def wbf (c : Dev nD) : FVec F S512x2048 .bf16 := extf .bf16 (shapeCast S512x2048 (I.w c) shapeCasts_S512x2048_S512x2048) bitsLt_fp8e4m3_bf16
/-- Row chunk `k` of device `c`'s local product. -/
def rowV (c : Dev nD) (k : Fin 8) : FVec F S512x2048 .f32 := gemmVal (scale I c) (wbf I c) (fun i => I.x c ((rX k).emb i))
/-- Its tile on lane `l`. -/
def tileV (c : Dev nD) (l k : Fin 8) : FVec F S512x256 .f32 := sub l (rowV I c k)

/-- What device `c` sends on lane `l` at hop `h` of the reduction: at hop 0 its own tile, then what it received with its own
    tile of that chunk added; at hop 7 the finished tile. -/
def sent (l : Fin 8) : ℕ → Dev nD → FVec F S512x256 .bf16
  | 0, c => truncf .bf16 (tileV I c l (rk l c)) bitsLt_bf16_f32
  | h + 1, c => truncf .bf16 (addf (tileV I c l (rk l c - Fin.ofNat 8 (h + 1))) (extf .f32 (sent l h (pv l c)) bitsLt_bf16_f32)) bitsLt_bf16_f32
/-- The sum device `c` forms at hop `h`. -/
def acc (l : Fin 8) (h : ℕ) (c : Dev nD) : FVec F S512x256 .f32 :=
  addf (tileV I c l (rk l c - Fin.ofNat 8 (h + 1))) (extf .f32 (sent I l h (pv l c)) bitsLt_bf16_f32)
theorem sent_succ (l : Fin 8) (h : ℕ) (c : Dev nD) : sent I l (h + 1) c = truncf .bf16 (acc I l h c) bitsLt_bf16_f32 := rfl

/-- What device `c` receives at hop `h` of the gathering. -/
def gat (l : Fin 8) : ℕ → Dev nD → FVec F S512x256 .bf16
  | 0, c => sent I l 7 (pv l c)
  | h + 1, c => gat l h (pv l c)

/-- The tiles of lane `l` in device `c`'s result after `n` steps. -/
def outV (c : Dev nD) (l : Fin 8) : ℕ → Fin 8 → FVec F S512x256 .f32
  | 0 => tileV I c l
  | n + 1 => if n < 6 then outV c l n
    else if n = 6 then Function.update (outV c l n) (rk l c - 7) (acc I l 6 c)
    else Function.update (outV c l n) (rk l c - Fin.ofNat 8 (n - 7)) (extf .f32 (gat I l (n - 7) c) bitsLt_bf16_f32)

theorem outV_le (c : Dev nD) (l : Fin 8) : ∀ n, n ≤ 6 → outV I c l n = tileV I c l
  | 0, _ => rfl
  | n + 1, h => by rw [outV, if_pos (by omega), outV_le c l n (by omega)]

theorem outV_lt (c : Dev nD) (l : Fin 8) {n : ℕ} (h : n < 6) : outV I c l (n + 1) = outV I c l n := by
  rw [outV, if_pos h]
theorem outV_six (c : Dev nD) (l : Fin 8) : outV I c l 7 = Function.update (outV I c l 6) (rk l c - 7) (acc I l 6 c) := by
  rw [outV, if_neg (by decide), if_pos rfl]
theorem outV_ag (c : Dev nD) (l : Fin 8) (h : ℕ) :
    outV I c l (h + 7 + 1) = Function.update (outV I c l (h + 7)) (rk l c - Fin.ofNat 8 h) (extf .f32 (gat I l h c) bitsLt_bf16_f32) := by
  rw [outV, if_neg (by omega), if_neg (by omega), Nat.add_sub_cancel]

/-! ## Slots -/

theorem set_st (l : Fin 8) : (aSt.access (rSt l)).set = (vSt l).view.set := (View.set_reshape _ _).symm
theorem set_rs (l : Fin 8) (s : Fin 2) : (aRs.access (rRs l s)).set = (vRs l s).view.set := (View.set_reshape _ _).symm
theorem set_ag (l : Fin 8) (s : Fin 3) : (aAg.access (rAg l s)).set = (vAg l s).view.set := (View.set_reshape _ _).symm

theorem read_st_write (l : Fin 8) (f : (cc0_scratch0 : Ref sig .tc).ty.Contents (Elt F)) (v : FVec F S512x256 .bf16) :
    (vSt l).view.read (Elt F) ((aSt.access (rSt l)).write (Elt F) f (shapeCast S1x512x256 v shapeCasts_S512x256_S1x512x256) Finset.univ) = v := by
  refine Eq.trans (b := shapeCast S512x256 (shapeCast S1x512x256 v shapeCasts_S512x256_S1x512x256) shapeCasts_S1x512x256_S512x256) ?_
    (by first | exact shapeCast_shapeCast _ _ _ | (rw [shapeCast_shapeCast]))
  funext i
  exact congrFun (View.read_write_univ (v := aSt.access (rSt l)) f _) _

theorem read_rs (l : Fin 8) (s : Fin 2) (f : (cc0_scratch1 : Ref sig .tc).ty.Contents (Elt F)) :
    shapeCast S512x256 ((aRs.access (rRs l s)).read (Elt F) f) shapeCasts_S1x1x512x256_S512x256 = (vRs l s).view.read (Elt F) f := rfl
theorem read_ag (l : Fin 8) (s : Fin 3) (f : (cc0_scratch5 : Ref sig .tc).ty.Contents (Elt F)) :
    shapeCast S512x256 ((aAg.access (rAg l s)).read (Elt F) f) shapeCasts_S1x1x512x256_S512x256 = (vAg l s).view.read (Elt F) f := rfl

/-- The units a transfer of one tile credits. -/
abbrev NN : ℕ := (vRs 0 0).view.dmaCredit
theorem NN_pos : 0 < NN := View.dmaCredit_pos _ (by decide)
theorem credSt (l : Fin 8) : (vSt l).view.dmaCredit = NN := rfl
theorem credRs (l : Fin 8) (s : Fin 2) : (vRs l s).view.dmaCredit = NN := rfl
theorem credAg (l : Fin 8) (s : Fin 3) : (vAg l s).view.dmaCredit = NN := rfl

end Cert.Ring

end
-- ==== Proof.Sched.lean ====
/-
The protocol: the semaphores of every lane as cells of a rounds schedule, what each landing hands over, what each device
owes its neighbours in program order, and when a wait is safe.
-/
module

public import proofs.«01_k».proof.Proof.Vals
public import Idealize.ShloMosaic.Lib.Pipeline.Launch
public import Idealize.ShloMosaic.Lib.Pipeline.Kit
public import Idealize.ShloMosaic.Lib.Pipeline.TalkSites
public import Idealize.ShloMosaic.Lib.MemrefSat
public import Idealize.ShloMosaic.Lib.Tactic

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Idealize.ShloMosaic.SiteBlocks (L lv mem_L' mayWait_of)

variable {F : FTy → Type} [FloatOps F]

abbrev UB : Type := URounds (GSem nD τ sig) Bool
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

/-! ## Cells -/

/-- The kinds of semaphore a lane uses: departures, arrivals and credits of the reduction, and of the gathering. -/
inductive Kd | rsS | rsR | rsC | agS | agR | agC
  deriving DecidableEq

instance : Fintype Kd := ⟨{.rsS, .rsR, .rsC, .agS, .agR, .agC}, fun k => by cases k <;> decide⟩

/-- How many slots a kind has, -/
def Kd.n : Kd → ℕ | .rsS => 2 | .rsR => 2 | .rsC => 2 | .agS => 3 | .agR => 3 | .agC => 3
/-- how many times a lane uses it, -/
def Kd.len : Kd → ℕ | .rsS => 7 | .rsR => 7 | .rsC => 5 | .agS => 7 | .agR => 7 | .agC => 4
/-- and the units of one use. -/
def Kd.amt : Kd → ℕ | .rsS => NN | .rsR => NN | .rsC => 1 | .agS => NN | .agR => NN | .agC => 1

theorem Kd.n_pos (k : Kd) : 0 < k.n := by cases k <;> decide
theorem Kd.amt_pos (k : Kd) : 0 < k.amt := by cases k <;> first | exact NN_pos | exact Nat.one_pos

/-- The semaphore of use `h` of a kind on lane `l`. -/
def sm (k : Kd) (l : Fin 8) (h : ℕ) : SemLoc sig := match k with
  | .rsS => .dma (qRsS l (sl2 h)) | .rsR => .dma (qRsR l (sl2 h)) | .rsC => .reg (qRsC l (sl2 h))
  | .agS => .dma (qAgS l (sl3 h)) | .agR => .dma (qAgR l (sl3 h)) | .agC => .reg (qAgC l (sl3 h))

/-- Which lane, kind and slot a semaphore is. -/
def dec : SemLoc sig → Option (Fin 8 × Kd × ℕ)
  | .reg q => if q.val < 16 then some (Fin.ofNat 8 (q.val / 2), .rsC, q.val % 2)
    else if q.val < 40 then some (Fin.ofNat 8 ((q.val - 16) / 3), .agC, (q.val - 16) % 3) else none
  | .dma q => if q.val < 5 then none
    else if q.val < 21 then some (Fin.ofNat 8 ((q.val - 5) / 2), .rsS, (q.val - 5) % 2)
    else if q.val < 37 then some (Fin.ofNat 8 ((q.val - 21) / 2), .rsR, (q.val - 21) % 2)
    else if q.val < 61 then some (Fin.ofNat 8 ((q.val - 37) / 3), .agS, (q.val - 37) % 3)
    else some (Fin.ofNat 8 ((q.val - 61) / 3), .agR, (q.val - 61) % 3)

theorem ofNat_div2 (l : Fin 8) (s : ℕ) (hs : s < 2) : Fin.ofNat 8 ((2 * l.val + s) / 2) = l := by
  apply Fin.ext; show (2 * l.val + s) / 2 % 8 = l.val; omega
theorem ofNat_div3 (l : Fin 8) (s : ℕ) (hs : s < 3) : Fin.ofNat 8 ((3 * l.val + s) / 3) = l := by
  apply Fin.ext; show (3 * l.val + s) / 3 % 8 = l.val; omega

theorem dec_sm (k : Kd) (l : Fin 8) (h : ℕ) : dec (sm k l h) = some (l, k, h % k.n) := by
  have h2 : h % 2 < 2 := Nat.mod_lt _ (by decide)
  have h3 : h % 3 < 3 := Nat.mod_lt _ (by decide)
  have hl := l.isLt
  cases k
  · have e : (qRsS l (sl2 h)).val = 5 + (2 * l.val + h % 2) := qRsS_eq l (sl2 h)
    show (if _ then _ else _) = _
    rw [e, if_neg (by omega), if_pos (by omega), Nat.add_sub_cancel_left, ofNat_div2 l _ h2, show (2 * l.val + h % 2) % 2 = h % 2 by omega]; rfl
  · have e : (qRsR l (sl2 h)).val = 21 + (2 * l.val + h % 2) := qRsR_eq l (sl2 h)
    show (if _ then _ else _) = _
    rw [e, if_neg (by omega), if_neg (by omega), if_pos (by omega), Nat.add_sub_cancel_left, ofNat_div2 l _ h2, show (2 * l.val + h % 2) % 2 = h % 2 by omega]; rfl
  · have e : (qRsC l (sl2 h)).val = 2 * l.val + h % 2 := qRsC_eq l (sl2 h)
    show (if _ then _ else _) = _
    rw [e, if_pos (by omega), ofNat_div2 l _ h2, show (2 * l.val + h % 2) % 2 = h % 2 by omega]; rfl
  · have e : (qAgS l (sl3 h)).val = 37 + (3 * l.val + h % 3) := qAgS_eq l (sl3 h)
    show (if _ then _ else _) = _
    rw [e, if_neg (by omega), if_neg (by omega), if_neg (by omega), if_pos (by omega), Nat.add_sub_cancel_left, ofNat_div3 l _ h3, show (3 * l.val + h % 3) % 3 = h % 3 by omega]; rfl
  · have e : (qAgR l (sl3 h)).val = 61 + (3 * l.val + h % 3) := qAgR_eq l (sl3 h)
    show (if _ then _ else _) = _
    rw [e, if_neg (by omega), if_neg (by omega), if_neg (by omega), if_neg (by omega), Nat.add_sub_cancel_left, ofNat_div3 l _ h3, show (3 * l.val + h % 3) % 3 = h % 3 by omega]; rfl
  · have e : (qAgC l (sl3 h)).val = 16 + (3 * l.val + h % 3) := qAgC_eq l (sl3 h)
    show (if _ then _ else _) = _
    rw [e, if_neg (by omega), if_pos (by omega), Nat.add_sub_cancel_left, ofNat_div3 l _ h3, show (3 * l.val + h % 3) % 3 = h % 3 by omega]; rfl

theorem dec_bar : dec (.reg bar) = none := by rw [bar_eq]; decide

/-- The cell of use `h` of a kind on lane `l` of device `c`. -/
abbrev cell (k : Kd) (l : Fin 8) (c : Dev nD) (h : ℕ) : GSem nD τ sig := ((c : Thread nD τ), sm k l h)
abbrev barCell (c : Dev nD) : GSem nD τ sig := ((c : Thread nD τ), .reg bar)

theorem sm_ne_bar (k : Kd) (l : Fin 8) (h : ℕ) : sm k l h ≠ .reg bar := fun e => by
  have := congrArg dec e; rw [dec_sm, dec_bar] at this; cases this

theorem sm_add (k : Kd) (l : Fin 8) (h : ℕ) : sm k l (h + k.n) = sm k l h := by
  cases k <;> (unfold sm; dsimp only [Kd.n]) <;> (congr 2; apply Fin.ext; exact Nat.add_mod_right _ _)
theorem sm_mod (k : Kd) (l : Fin 8) (h : ℕ) : sm k l (h % k.n) = sm k l h := by
  cases k <;> (unfold sm; dsimp only [Kd.n]) <;> (congr 2; apply Fin.ext; exact Nat.mod_mod _ _)
theorem div_add (k : Kd) (h : ℕ) : (h + k.n) / k.n = h / k.n + 1 := Nat.add_div_right _ k.n_pos

/-! ## Ghost state of a use -/

/-- The owner stands before use `h`. -/
def pos (k : Kd) (l : Fin 8) (c : Dev nD) (h : ℕ) : sProp 𝕄 := atPos ER (cell k l c h) (h / k.n) ∅ 0
/-- Use `h` is the one open or is past. -/
def rch (k : Kd) (l : Fin 8) (c : Dev nD) (h : ℕ) : sProp 𝕄 := reached ER (cell k l c h) (h / k.n)
/-- The right to make use `h`. -/
def tok (k : Kd) (l : Fin 8) (c : Dev nD) (h : ℕ) : sProp 𝕄 := dutyTok ER (cell k l c h) (h / k.n) false

instance rch_persistent (k : Kd) (l : Fin 8) (c : Dev nD) (h : ℕ) : BI.Persistent (rch (F := F) k l c h) := by unfold rch; infer_instance
instance rch_storable (k : Kd) (l : Fin 8) (c : Dev nD) (h : ℕ) : BI.Storable (upEmb : UEmb _ 𝕄) (rch (F := F) k l c h) := by unfold rch; infer_instance

/-! ## What the landings hand over -/

variable (I : Ins F)

/-- Device `c`'s slots of a lane, at contents `X` or at some contents. -/
def stAt (l : Fin 8) (c : Dev nD) (X : FVec F S512x256 .bf16) : sProp 𝕄 := owns (c : Thread nD τ) (vSt l) fullShare X
def rsAt (l : Fin 8) (c : Dev nD) (h : ℕ) (X : FVec F S512x256 .bf16) : sProp 𝕄 := owns (c : Thread nD τ) (vRs l (sl2 h)) fullShare X
def agAt (l : Fin 8) (c : Dev nD) (h : ℕ) (q : PosShare TreeShare) (X : FVec F S512x256 .bf16) : sProp 𝕄 := owns (c : Thread nD τ) (vAg l (sl3 h)) q X
def stAny (l : Fin 8) (c : Dev nD) : sProp 𝕄 := iprop(∃ X, stAt l c X)
def rsAny (l : Fin 8) (c : Dev nD) (h : ℕ) : sProp 𝕄 := iprop(∃ X, rsAt l c h X)
def agAny (l : Fin 8) (c : Dev nD) (h : ℕ) : sProp 𝕄 := iprop(∃ X, agAt l c h fullShare X)

instance stAt_storable (l : Fin 8) (c : Dev nD) (X) : BI.Storable (upEmb : UEmb _ 𝕄) (stAt (F := F) l c X) := by unfold stAt; infer_instance
instance rsAt_storable (l : Fin 8) (c : Dev nD) (h : ℕ) (X) : BI.Storable (upEmb : UEmb _ 𝕄) (rsAt (F := F) l c h X) := by unfold rsAt; infer_instance
instance agAt_storable (l : Fin 8) (c : Dev nD) (h : ℕ) (q) (X) : BI.Storable (upEmb : UEmb _ 𝕄) (agAt (F := F) l c h q X) := by unfold agAt; infer_instance
instance stAny_storable (l : Fin 8) (c : Dev nD) : BI.Storable (upEmb : UEmb _ 𝕄) (stAny (F := F) l c) := by unfold stAny; infer_instance
instance rsAny_storable (l : Fin 8) (c : Dev nD) (h : ℕ) : BI.Storable (upEmb : UEmb _ 𝕄) (rsAny (F := F) l c h) := by unfold rsAny; infer_instance
instance agAny_storable (l : Fin 8) (c : Dev nD) (h : ℕ) : BI.Storable (upEmb : UEmb _ 𝕄) (agAny (F := F) l c h) := by unfold agAny; infer_instance

/-- All of device `c`'s slots of a lane that the lane's previous device writes. -/
def bufs (l : Fin 8) (c : Dev nD) : sProp 𝕄 :=
  iprop(rsAny l c 0 ∗ rsAny l c 1 ∗ agAny l c 0 ∗ agAny l c 1 ∗ agAny l c 2)
instance bufs_storable (l : Fin 8) (c : Dev nD) : BI.Storable (upEmb : UEmb _ 𝕄) (bufs (F := F) l c) := by unfold bufs; infer_instance

/-- The lanes a neighbour's first signal is about: those that device sends on to. -/
def half (d : Bool) : Finset (Fin 8) := Finset.univ.filter fun l => decide (l.val % 2 = 0) = d

/-- What a signal of the handshake hands device `c`: the neighbour's slots on the lanes that reach it from `c`. -/
def barPay (c : Dev nD) (d : Bool) : sProp 𝕄 := bigSep (half d) fun l => bufs l (nx l c)

/-- What use `h` of a kind on lane `l` hands device `c`. -/
def pay (k : Kd) (l : Fin 8) (c : Dev nD) (h : ℕ) : sProp 𝕄 := match k with
  | .rsS => stAny l c
  | .rsR => iprop(rsAt l c h (sent I l h (pv l c)) ∗ rch .rsC l (pv l c) h)
  | .rsC => iprop(rsAny l (nx l c) h ∗ rch .rsR l (nx l c) (h + 2))
  | .agS => if h = 0 then stAny l c else agAt l c (h - 1) fullShare.right (gat I l (h - 1) c)
  | .agR => iprop(agAt l c h fullShare (gat I l h c) ∗ rch .agC l (pv l c) h)
  | .agC => iprop(agAny l (nx l c) h ∗ rch .agR l (nx l c) (h + 3))

instance pay_storable (k : Kd) (l : Fin 8) (c : Dev nD) (h : ℕ) : BI.Storable (upEmb : UEmb _ 𝕄) (pay I k l c h) := by
  cases k <;> dsimp only [pay] <;> (repeat' split) <;> infer_instance
instance barPay_storable (c : Dev nD) (d : Bool) : BI.Storable (upEmb : UEmb _ 𝕄) (barPay (F := F) c d) := by
  unfold barPay; infer_instance

/-! ## The schedule -/

def dutiesAt (s : SemLoc sig) (r : ℕ) : Finset Bool :=
  if s = .reg bar then (if r = 0 then Finset.univ else ∅)
  else match dec s with
    | some (_, k, s) => if k.n * r + s < k.len then {false} else ∅
    | none => ∅

def payAt (c : Dev nD) (s : SemLoc sig) (r : ℕ) (d : Bool) : sProp 𝕄 :=
  if s = .reg bar then barPay c d
  else match dec s with
    | some (l, k, s) => pay I k l c (k.n * r + s)
    | none => iprop(emp)

def amtAt : SemLoc sig → ℕ | .reg _ => 1 | .dma _ => NN

/-- Round `r` of a lane's slot is use `n r + s` of it; a handshake cell has one round, a unit from each neighbour. -/
def Rd : Rounds.Schedule (GSem nD τ sig) Bool 𝕄 where
  duties g r := if g.1.2 = .tc then dutiesAt g.2 r else ∅
  unitless _ := False
  amount g _ _ := amtAt g.2
  payload g r d := payAt I g.1.1 g.2 r d
  amount_pos g _ _ _ := by
    rcases g with ⟨c, q | q⟩
    · exact Nat.one_pos
    · exact NN_pos

instance Rd_storable (g : GSem nD τ sig) (r : ℕ) (d : Bool) : BI.Storable (upEmb : UEmb _ 𝕄) ((Rd I).payload g r d) := by
  show BI.Storable upEmb (payAt I g.1.1 g.2 r d)
  unfold payAt
  (repeat' split) <;> infer_instance

theorem amt_sm (k : Kd) (l : Fin 8) (h : ℕ) : amtAt (sm k l h) = k.amt := by cases k <;> rfl

theorem duties_tc (c : Dev nD) (s : SemLoc sig) (r : ℕ) : (Rd I).duties ((c : Thread nD τ), s) r = dutiesAt s r := by
  dsimp only [Rd]; exact if_pos rfl

theorem duties_cell (k : Kd) (l : Fin 8) (c : Dev nD) {h : ℕ} (hh : h < k.len) : (Rd I).duties (cell k l c h) (h / k.n) = {false} := by
  rw [duties_tc, dutiesAt, if_neg (sm_ne_bar k l h), dec_sm]
  dsimp only
  rw [Nat.div_add_mod, if_pos hh]
theorem duties_after (k : Kd) (l : Fin 8) (c : Dev nD) {h : ℕ} (hh : k.len ≤ h) (r : ℕ) (hr : h / k.n ≤ r) : (Rd I).duties (cell k l c h) r = ∅ := by
  rw [duties_tc, dutiesAt, if_neg (sm_ne_bar k l h), dec_sm]
  dsimp only
  have h1 := Nat.mul_le_mul_left k.n hr
  have h2 := Nat.div_add_mod h k.n
  rw [if_neg (by omega)]
theorem amount_cell (k : Kd) (l : Fin 8) (c : Dev nD) (h r : ℕ) (d : Bool) : (Rd I).amount (cell k l c h) r d = k.amt := amt_sm k l h
theorem payload_cell (k : Kd) (l : Fin 8) (c : Dev nD) (h : ℕ) (d : Bool) : (Rd I).payload (cell k l c h) (h / k.n) d = pay I k l c h := by
  show payAt I c (sm k l h) (h / k.n) d = _
  rw [payAt, if_neg (sm_ne_bar k l h), dec_sm]
  dsimp only
  rw [Nat.div_add_mod]
theorem expect_cell (k : Kd) (l : Fin 8) (c : Dev nD) {h : ℕ} (hh : h < k.len) : (Rd I).expect (cell k l c h) (h / k.n) = k.amt := by
  unfold Schedule.expect Schedule.amountOf
  rw [duties_cell I k l c hh, Finset.sum_singleton, amount_cell]
theorem rest_cell (k : Kd) (l : Fin 8) (c : Dev nD) {h : ℕ} (hh : h < k.len) :
    bigSep ((Rd I).duties (cell k l c h) (h / k.n) \ ∅) (fun d => (Rd I).payload (cell k l c h) (h / k.n) d) = pay I k l c h := by
  rw [Finset.sdiff_empty, duties_cell I k l c hh, bigSep_singleton, payload_cell]

theorem duties_bar (c : Dev nD) : (Rd I).duties (barCell c) 0 = Finset.univ := by
  rw [duties_tc, dutiesAt, if_pos rfl, if_pos rfl]
theorem duties_bar_after (c : Dev nD) (r : ℕ) (hr : 1 ≤ r) : (Rd I).duties (barCell c) r = ∅ := by
  rw [duties_tc, dutiesAt, if_pos rfl, if_neg (by omega)]
theorem payload_bar (c : Dev nD) (d : Bool) : (Rd I).payload (barCell c) 0 d = barPay c d := by
  show payAt I c (.reg bar) 0 d = _
  rw [payAt, if_pos rfl]
theorem expect_bar (c : Dev nD) : (Rd I).expect (barCell c) 0 = 2 := by
  unfold Schedule.expect Schedule.amountOf
  rw [duties_bar]
  rfl
/-- The two signals together hand over the next devices' slots on every lane. -/
theorem rest_bar (c : Dev nD) : bigSep ((Rd I).duties (barCell c) 0 \ ∅) (fun d => (Rd I).payload (barCell c) 0 d)
    = bigSep Finset.univ fun l => bufs (F := F) l (nx l c) := by
  rw [Finset.sdiff_empty, duties_bar, bigSep_congr (fun d _ => payload_bar I c d),
    bigSep_univ_eq_bigSepL [false, true] (by decide) (by decide), bigSepL_cons_cons, bigSepL_singleton, barPay, barPay,
    ← show half false ∪ half true = Finset.univ by decide, bigSep_union (by decide)]

/-! ## Dues, in program order -/

/-- The level of use `h` of a kind on lane `l`: the place, in the order of the program's steps, of the payments that make it
    (a departure is made by the transfer itself: level 0). A handshake is at 1. -/
def lvl (k : Kd) (l : Fin 8) (h : ℕ) : ℕ := match k with
  | .rsS => 0 | .agS => 0
  | .rsR => 2 + 8 * h + l.val | .rsC => 10 + 8 * h + l.val
  | .agR => 58 + 8 * h + l.val | .agC => 66 + 8 * (h + 1) + l.val

/-- The payment for use `h`. -/
abbrev due (k : Kd) (l : Fin 8) (c : Dev nD) (h : ℕ) : Pay nD τ sig := (cell k l c h, lvl k l h, k.amt)

/-- What device `c` pays in phase `n` on lane `l`: phase 0 the first sends, phases 1 to 7 the reduction, 8 to 14 the gathering. -/
def pays (c : Dev nD) (n : ℕ) (l : Fin 8) : List (Pay nD τ sig) :=
  if n < 7 then due .rsR l (nx l c) n :: (if 1 ≤ n ∧ n < 6 then [due .rsC l (pv l c) (n - 1)] else [])
  else if n = 7 then [due .agR l (nx l c) 0]
  else (if n - 8 < 6 then [due .agR l (nx l c) (n - 8 + 1)] else [])
    ++ (if 1 ≤ n - 8 ∧ n - 8 < 5 then [due .agC l (pv l c) (n - 8 - 1)] else [])

/-- What is left to pay from step `T` on, step `8 n + l` being phase `n` of lane `l`. -/
def rem (c : Dev nD) (T : ℕ) : List (Pay nD τ sig) :=
  (List.range' T (120 - T)).flatMap fun t => pays c (t / 8) (Fin.ofNat 8 t)

theorem rem_step (c : Dev nD) (n : ℕ) (hn : n < 15) (l : Fin 8) : rem c (8 * n + l.val) = pays c n l ++ rem c (8 * n + l.val + 1) := by
  have hl := l.isLt
  unfold rem
  rw [show 120 - (8 * n + l.val) = (120 - (8 * n + l.val + 1)) + 1 by omega, List.range'_succ, List.flatMap_cons,
    show (8 * n + l.val) / 8 = n by omega, show Fin.ofNat 8 (8 * n + l.val) = l from Fin.ext (by show (8 * n + l.val) % 8 = l.val; omega)]
theorem rem_end (c : Dev nD) : rem c 120 = [] := rfl

/-- Payments to TensorCore cells at levels from `p` on. -/
def From (p : ℕ) (xs : List (Pay nD τ sig)) : Prop := ∀ x ∈ xs, x.1.1.2 = .tc ∧ p ≤ x.2.1 ∧ x.2.1 < 140

theorem From.cons {p : ℕ} {x : Pay nD τ sig} {xs : List (Pay nD τ sig)} (h1 : x.1.1.2 = .tc) (h2 : p ≤ x.2.1) (h3 : x.2.1 < 140) (h : From p xs) :
    From p (x :: xs) := fun y hy => by
  rcases List.mem_cons.mp hy with rfl | hy
  · exact ⟨h1, h2, h3⟩
  · exact h y hy
theorem From.append {p : ℕ} {xs ys : List (Pay nD τ sig)} (h : From p xs) (h' : From p ys) : From p (xs ++ ys) := fun x hx => by
  rcases List.mem_append.mp hx with hx | hx
  · exact h x hx
  · exact h' x hx
theorem From.mono {p q : ℕ} {xs : List (Pay nD τ sig)} (h : From p xs) (hq : q ≤ p) : From q xs := fun x hx =>
  ⟨(h x hx).1, le_trans hq (h x hx).2.1, (h x hx).2.2⟩
theorem From.nil (p : ℕ) : From p [] := fun x hx => absurd hx List.not_mem_nil
theorem From.tail {p : ℕ} {x : Pay nD τ sig} {xs : List (Pay nD τ sig)} (h : From p (x :: xs)) : From p xs :=
  fun y hy => h y (List.mem_cons_of_mem _ hy)

/-- The payments of a step are at its place. -/
theorem pays_from (c : Dev nD) (n : ℕ) (hn : n < 15) (l : Fin 8) : From (2 + (8 * n + l.val)) (pays c n l) := by
  have hl := l.isLt
  unfold pays
  split
  · refine From.cons rfl ?_ ?_ ?_
    · show _ ≤ 2 + 8 * n + l.val; omega
    · show 2 + 8 * n + l.val < _; omega
    split
    · refine From.cons rfl ?_ ?_ (From.nil _)
      · show _ ≤ 10 + 8 * (n - 1) + l.val; omega
      · show 10 + 8 * (n - 1) + l.val < _; omega
    · exact From.nil _
  split
  · refine From.cons rfl ?_ ?_ (From.nil _)
    · show _ ≤ 58 + 8 * 0 + l.val; omega
    · show 58 + 8 * 0 + l.val < _; omega
  refine From.append ?_ ?_
  · split
    · refine From.cons rfl ?_ ?_ (From.nil _)
      · show _ ≤ 58 + 8 * (n - 8 + 1) + l.val; omega
      · show 58 + 8 * (n - 8 + 1) + l.val < _; omega
    · exact From.nil _
  · split
    · refine From.cons rfl ?_ ?_ (From.nil _)
      · show _ ≤ 66 + 8 * (n - 8 - 1 + 1) + l.val; omega
      · show 66 + 8 * (n - 8 - 1 + 1) + l.val < _; omega
    · exact From.nil _

theorem rem_from (c : Dev nD) (T : ℕ) : From (2 + T) (rem c T) := fun x hx => by
  obtain ⟨t, ht, hx⟩ := List.mem_flatMap.mp hx
  have ht' := List.mem_range'_1.mp ht
  have h := pays_from c (t / 8) (by omega) (Fin.ofNat 8 t) x hx
  refine ⟨h.1, le_trans ?_ h.2.1, h.2.2⟩
  show 2 + T ≤ 2 + (8 * (t / 8) + t % 8)
  omega

/-- All device `c` owes at launch: the two signals of the handshake, then the steps' payments. -/
def dueL (c : Dev nD) : List (Pay nD τ sig) := (barCell (pv 0 c), 1, 1) :: (barCell (nx 0 c), 1, 1) :: rem c 0

/-- The device owes the payments left. -/
def owesL (c : Dev nD) (xs : List (Pay nD τ sig)) : sProp 𝕄 := iprop(∃ W, owes (c : Thread nD τ) (tallyL xs) W)

/-- A wait below every payment left is safe. -/
theorem mayWait (c : Dev nD) (s : SemLoc sig) {i p : ℕ} (hi : i < p) (hp : i < 140) {xs : List (Pay nD τ sig)} (h : From p xs) :
    (levAts (L 140) lv : sProp 𝕄) ⊢ MayWait (c : Thread nD τ) s i (tallyL xs) :=
  mayWait_of hp c s _ fun g k hk => by
    obtain ⟨x, hx, rfl, rfl⟩ := tallyL_pos hk
    obtain ⟨h1, h2, h3⟩ := h x hx
    exact ⟨mem_L' h1 h3, lt_of_lt_of_le hi h2⟩

end Cert.Ring

end
-- ==== Proof.Ops.lean ====
/-
One rule for each operation of the steps, over the protocol's state: waits, signals, transfers, and the loads and stores of
tiles and slots.
-/
module

public import proofs.«01_k».proof.Proof.Sched

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Idealize.ShloMosaic.SiteBlocks (L lv mem_L' mayWait_of)
open Cert.KernelIdeal.Facts₀ Cert.KernelIdeal.Facts

variable {F : FTy → Type} [FloatOps F]

local notation "𝕄" => MT nD τ sig ℕ (Elt F) ℕ UU ℕ

abbrev 𝒱₀ : Variants := Variants.none

/-- The weakest precondition of a program on device `c`. -/
abbrev WP (c : Dev nD) {α : Type} (p : TcProg F α) (Q : α → sProp 𝕄) : sProp 𝕄 :=
  wp frame (wpE (defs₀ (F := F)) 𝒱₀ (c : Thread nD τ) none) Set.univ p Q

variable (I : Ins F)

/-! ## What every device knows -/

/-- A cell's invariant, under some name. -/
def Inv (g : GSem nD τ sig) : sProp 𝕄 := iprop(∃ κ, cellInv ER (Rd I) κ g)
instance Inv_persistent (g : GSem nD τ sig) : BI.Persistent (Inv I g) := by unfold Inv; infer_instance

/-- A lane's cells: a kind and a slot of it. -/
abbrev CK : Type := (k : Kd) × Fin k.n

/-- Every cell's invariant, that its round 0 is open, and the levels. -/
def recs : sProp 𝕄 :=
  iprop((bigSep Finset.univ fun c : Dev nD => iprop(Inv I (barCell c) ∗ reached ER (barCell c) 0))
    ∗ (bigSep Finset.univ fun x : Dev nD × Fin 8 × CK => iprop(Inv I (cell x.2.2.1 x.2.1 x.1 x.2.2.2.val) ∗ reached ER (cell x.2.2.1 x.2.1 x.1 x.2.2.2.val) 0))
    ∗ levAts (L 140) lv)
instance recs_persistent : BI.Persistent (recs I) := by unfold recs; infer_instance

theorem tallyL_cons (x : Pay nD τ sig) (xs : List (Pay nD τ sig)) : tallyL (x :: xs) = tallyAt x.1 x.2.1 x.2.2 + tallyL xs := rfl

theorem take {ι : Type} [DecidableEq ι] {s : Finset ι} {A : ι → sProp 𝕄} {i : ι} (hi : i ∈ s) : bigSep s A ⊢ A i := bigSep_elim hi
theorem cell_add (k : Kd) (l : Fin 8) (c : Dev nD) (h : ℕ) : cell k l c (h + k.n) = cell k l c h := by unfold cell; rw [sm_add]
theorem pos_add (k : Kd) (l : Fin 8) (c : Dev nD) (h : ℕ) : (atPos ER (cell k l c h) (h / k.n + 1) ∅ 0 : sProp 𝕄) ⊢ pos k l c (h + k.n) := by
  unfold pos; rw [cell_add, div_add]
theorem rch_add (k : Kd) (l : Fin 8) (c : Dev nD) (h : ℕ) : (reached ER (cell k l c h) (h / k.n + 1) : sProp 𝕄) ⊢ rch k l c (h + k.n) := by
  unfold rch; rw [cell_add, div_add]
theorem recs_lev : recs I ⊢ (levAts (L 140) lv : sProp 𝕄) := by
  unfold recs; iintro ⟨-, -, H⟩; iexact H
theorem recs_bar (c : Dev nD) : recs I ⊢ iprop(Inv I (barCell c) ∗ reached ER (barCell c) 0) := by
  unfold recs; iintro ⟨H, -, -⟩
  iapply (take (Finset.mem_univ c)) $$ H
theorem recs_cell (k : Kd) (l : Fin 8) (c : Dev nD) (h : ℕ) : recs I ⊢ iprop(Inv I (cell k l c h) ∗ reached ER (cell k l c h) 0) := by
  unfold recs; iintro ⟨-, H, -⟩
  ihave H' := (take (Finset.mem_univ ((c, l, ⟨k, ⟨h % k.n, Nat.mod_lt _ k.n_pos⟩⟩) : Dev nD × Fin 8 × CK))) $$ H
  dsimp only
  rw [show cell k l c (h % k.n) = cell k l c h by unfold cell; rw [sm_mod]]
  iexact H'
theorem recs_inv (k : Kd) (l : Fin 8) (c : Dev nD) (h : ℕ) : recs I ⊢ Inv I (cell k l c h) := by
  iintro H; ihave H' := (recs_cell I k l c h) $$ H
  icases H' with ⟨H, -⟩; iexact H
/-- The first use of each slot is open from the start. -/
theorem recs_rch (k : Kd) (l : Fin 8) (c : Dev nD) {h : ℕ} (hh : h < k.n) : recs I ⊢ rch k l c h := by
  iintro H; ihave H' := (recs_cell I k l c h) $$ H
  icases H' with ⟨-, H⟩
  unfold rch; rw [Nat.div_eq_of_lt hh]; iexact H

/-- The credit with which the owner waits for use `h`. -/
def crd (k : Kd) (l : Fin 8) (c : Dev nD) (h : ℕ) : sProp 𝕄 := cred (tallyAt (cell k l c h) (lvl k l h) k.amt)

/-! ## Waits, signals, transfers -/

theorem wp_waitK (k : Kd) (l : Fin 8) (c : Dev nD) {h : ℕ} {e : TpuEff nD τ sig (Elt F) Λ₀ .tc PUnit} {a : ℕ} (ha : a = k.amt)
    (hw : ∀ K : PUnit → sProp 𝕄, wpE (defs₀ (F := F)) 𝒱₀ (c : Thread nD τ) none Set.univ e K = waitSpec (c : Thread nD τ) Set.univ (sm k l h) a K)
    (hh : h < k.len) {p : ℕ} (hl : lvl k l h < p) (h4 : lvl k l h < 140) {xs : List (Pay nD τ sig)} (hx : From p xs)
    {α : Type} {f : PUnit → TcProg F α} {Q : α → sProp 𝕄} :
    iprop(recs I ∗ crd k l c h ∗ owesL c xs ∗ pos k l c h)
      ⊢ iprop(((owesL c xs ∗ pos k l c (h + k.n) ∗ rch k l c (h + k.n) ∗ pay I k l c h) -∗ WP c (f ⟨⟩) Q) -∗ WP c (.op e f) Q) := by
  subst ha
  unfold owesL
  iintro ⟨#Hr, Hc, ⟨%W, HO⟩, Hp⟩ Hk
  ihave Hi := (recs_inv I k l c h) $$ Hr
  unfold Inv
  icases Hi with ⟨%κ, #Hi⟩
  unfold crd
  iapply (Rounds.wp_wait_rest_token 𝒱₀ ER (Rd I) (c : Thread nD τ) none (κ := κ) hw (Set.mem_univ _) (lvl k l h) (O := tallyL xs) (W := W)
      (R := h / k.n) (m := 0) (T := ∅) (by rw [expect_cell I k l c hh, Nat.zero_add])) $$ [Hc HO Hp]
  · isplitr; · iexact Hi
    isplitl [Hc]; · iexact Hc
    isplitl [HO]; · iexact HO
    isplitr
    · iapply (mayWait c (sm k l h) hl h4 hx)
      iapply (recs_lev I) $$ Hr
    unfold pos; iexact Hp
  iintro ⟨HO, Hp, Hq, Hpay⟩
  iapply Hk
  isplitl [HO]; · iexists _; iexact HO
  isplitl [Hp]; · iapply (pos_add k l c h) $$ Hp
  isplitl [Hq]; · iapply (rch_add k l c h) $$ Hq
  iapply (Entails.of_eq (rest_cell I k l c hh)) $$ Hpay

theorem wp_sigK (k : Kd) (l : Fin 8) (c c' n : Dev nD) (hn : n = c') {h : ℕ} {q : Sem sig} (hq : sm k l h = .reg q) {a : ℕ} (ha : a = k.amt)
    (hh : h < k.len) {xs : List (Pay nD τ sig)} {α : Type} {f : PUnit → TcProg F α} {Q : α → sProp 𝕄} :
    iprop(recs I ∗ owesL c (due k l c' h :: xs) ∗ tok k l c' h ∗ pay I k l c' h ∗ rch k l c' h)
      ⊢ iprop((owesL c xs -∗ WP c (f ⟨⟩) Q) -∗ WP c (.op (.semSignal (n : Thread nD τ) q a) f) Q) := by
  subst hn; subst ha
  unfold owesL
  iintro ⟨#Hr, ⟨%W, HO⟩, Ht, Hp, Hq⟩ Hk
  ihave Hi := (recs_inv I k l n h) $$ Hr
  unfold Inv
  icases Hi with ⟨%κ, #Hi⟩
  unfold tok rch
  have hd : false ∈ (Rd I).duties ((n : Thread nD τ), .reg q) (h / k.n) := by
    rw [← hq, duties_cell I k l n hh]; exact Finset.mem_singleton_self _
  have hk : (Rd I).amount ((n : Thread nD τ), .reg q) (h / k.n) false = k.amt := by rw [← hq]; exact amount_cell I k l n h _ _
  iapply (Rounds.wp_signal 𝒱₀ ER (Rd I) (c : Thread nD τ) none (dst := (n : Thread nD τ)) (κ := κ) (r := h / k.n) (O₀ := tallyL (due k l n h :: xs)) (W := W)
      (d := false) hd hk (lvl k l h) (tallyL xs)
      (by rw [tallyL_cons, add_comm]; show _ + tallyAt ((n : Thread nD τ), sm k l h) _ _ = _; rw [hq])) $$ [HO Ht Hp Hq]
  · rw [← hq]
    isplitr; · iexact Hi
    isplitl [HO]; · iexact HO
    isplitl [Ht]; · iexact Ht
    isplitl [Hp]; · rw [payload_cell]; iexact Hp
    iexact Hq
  iintro HO
  iapply Hk
  iexists W; iexact HO

theorem wp_sendK (kS kR : Kd) (l : Fin 8) (c c' n : Dev nD) (hn : n = c') {h : ℕ} {src dst : Memref sig .tc .vmem S512x256 .bf16} {qS qR : DmaSem sig}
    {hsc : (dst : Memref sig (Dev.tc n : Thread nD τ).2.kind .vmem S512x256 .bf16).view.ref.isScScratch = false}
    {hsrc : src.view.WordExact} {hdst : dst.view.WordExact}
    {hsem : DmaTarget.Typed .vmem (.dma qR) (.remote (Dev.tc n : Thread nD τ) dst (.dma qS) hsc)}
    (hS : sm kS l h = .dma qS) (hR : sm kR l h = .dma qR) (hhS : h < kS.len) (hhR : h < kR.len)
    (haS : kS.amt = NN) (haR : kR.amt = NN) (hcr : dst.view.dmaCredit = NN)
    (q : PosShare TreeShare) (X : FVec F S512x256 .bf16) (Fr : sProp 𝕄)
    (hp1 : (owns (c : Thread nD τ) src q X : sProp 𝕄) ⊢ pay I kS l c h)
    (hp2 : iprop(owns (c' : Thread nD τ) dst fullShare X ∗ Fr) ⊢ pay I kR l c' h)
    {xs : List (Pay nD τ sig)} {α : Type} {f : PUnit → TcProg F α} {Q : α → sProp 𝕄} :
    iprop(recs I ∗ owns (c : Thread nD τ) src q X ∗ (∃ Y, owns (c' : Thread nD τ) dst fullShare Y) ∗ Fr ∗ owesL c (due kR l c' h :: xs)
        ∗ tok kS l c h ∗ rch kS l c h ∗ tok kR l c' h ∗ rch kR l c' h)
      ⊢ iprop(((crd kS l c h ∗ owesL c xs) -∗ WP c (f ⟨⟩) Q)
          -∗ WP c (.op (.enqueueDma src (.remote (Dev.tc n : Thread nD τ) dst (.dma qS) hsc) (.dma qR) hsrc hdst hsem) f) Q) := by
  subst hn
  unfold owesL
  unfold owns at hp1 hp2 ⊢
  iintro ⟨#Hr, ⟨%fs, %hfs, Hs⟩, ⟨%Y, %fd, %hfd, Hd⟩, HF, ⟨%W, HO⟩, HtS, HrS, HtR, HrR⟩ Hk
  ihave Hi1 := (recs_inv I kS l c h) $$ Hr
  ihave Hi2 := (recs_inv I kR l n h) $$ Hr
  unfold Inv
  icases Hi1 with ⟨%κ₁, #Hi1⟩
  icases Hi2 with ⟨%κ₂, #Hi2⟩
  unfold tok rch crd
  have hd1 : false ∈ (Rd I).duties ((c : Thread nD τ), .dma qS) (h / kS.n) := by rw [← hS, duties_cell I kS l c hhS]; exact Finset.mem_singleton_self _
  have hd2 : false ∈ (Rd I).duties ((n : Thread nD τ), .dma qR) (h / kR.n) := by rw [← hR, duties_cell I kR l n hhR]; exact Finset.mem_singleton_self _
  have hk1 : (Rd I).amount ((c : Thread nD τ), .dma qS) (h / kS.n) false = NN := by rw [← hS, ← haS]; exact amount_cell I kS l c h _ _
  have hk2 : (Rd I).amount ((n : Thread nD τ), .dma qR) (h / kR.n) false = NN := by rw [← hR, ← haR]; exact amount_cell I kR l n h _ _
  iapply (Rounds.wp_send_pointsTo_with 𝒱₀ ER (Rd I) (c : Thread nD τ) none (κ₁ := κ₁) (κ₂ := κ₂) (r₁ := h / kS.n) (r₂ := h / kR.n)
      (d₁ := false) (d₂ := false) (fs := fs) (fd := fd) (q := q) (F := Fr) hd1 hd2 (lvl kR l h) (lvl kS l h) NN hcr hk1 hk2 (tallyL xs)
      (O₀ := tallyL (due kR l n h :: xs)) (W := W)
      (by rw [tallyL_cons, add_comm]; show _ + tallyAt ((n : Thread nD τ), sm kR l h) (lvl kR l h) kR.amt = _; rw [hR, haR])
      (by rw [← hS, payload_cell]; refine BIBase.Entails.trans ?_ hp1; iintro H; iexists fs; isplitr; · ipureintro; exact hfs
          iexact H)
      (by rw [← hR, payload_cell]; refine Entails.trans (sep_mono_left ?_) hp2
          iintro H; iexists _; isplitr
          · ipureintro; exact (View.read_write_univ (v := dst.view) fd _).trans hfs
          iexact H)) $$ [Hs Hd HF HO HtS HrS HtR HrR]
  · rw [← hS, ← hR]
    isplitr; · iexact Hi1
    isplitr; · iexact Hi2
    isplitl [Hs]; · iexact Hs
    isplitl [Hd HF]
    · isplitl [Hd]; · iexact Hd
      iexact HF
    isplitl [HO]; · iexact HO
    isplitl [HtS]; · iexact HtS
    isplitl [HrS]; · iexact HrS
    isplitl [HtR]; · iexact HtR
    iexact HrR
  iintro ⟨Hc, HO⟩
  iapply Hk
  isplitl [Hc]; · rw [haS, show cell kS l c h = ((c : Thread nD τ), sm kS l h) from rfl, hS]; iexact Hc
  iexists W; iexact HO

/-! ## Slots -/

theorem wp_stage (l : Fin 8) (c : Dev nD) (v : FVec F S512x256 .f32) {α : Type} {f : PUnit → TcProg F α} {Q : α → sProp 𝕄} :
    stAny l c ⊢ iprop((stAt l c (truncf .bf16 v bitsLt_bf16_f32) -∗ WP c (f ⟨⟩) Q) -∗ WP c (stageOp l v >>= f) Q) := by
  unfold stAny stAt stageOp owns
  simp only [Prog.lift, Prog.bind_op, Prog.bind_ret, Prog.pure_eq_ret]
  iintro ⟨%X, %g, %hg, H⟩ Hk
  iapply (wp_load_rect 𝒱₀ (c : Thread nD τ) none Set.univ (m := aSt) (r := rSt l) (S := (vSt l).view.set) (by rw [set_st])) $$ H; iintro H
  iapply (wp_store 𝒱₀ (c : Thread nD τ) none Set.univ (m := aSt) (r := rSt l) (S := (vSt l).view.set) (Mk := Finset.univ)
    (by rw [View.setOn_univ, set_st])) $$ H; iintro H
  iapply Hk
  iexists _; isplitr
  · ipureintro; exact read_st_write l g _
  iexact H

theorem wp_load_rs (l : Fin 8) (c : Dev nD) (h : ℕ) (X : FVec F S512x256 .bf16) {hl} {α : Type} {f : Vec F S1x1x512x256 .bf16 → TcProg F α} {Q : α → sProp 𝕄} :
    rsAt l c h X ⊢ iprop((∀ b, ⌜shapeCast S512x256 b shapeCasts_S1x1x512x256_S512x256 = X⌝ -∗ rsAt l c h X -∗ WP c (f b) Q)
      -∗ WP c (.op (.load aRs (rRs l (sl2 h)).toLoadRect hl) f) Q) := by
  unfold rsAt owns
  iintro ⟨%g, %hg, H⟩ Hk
  iapply (wp_load_rect 𝒱₀ (c : Thread nD τ) none Set.univ (m := aRs) (r := rRs l (sl2 h)) (S := (vRs l (sl2 h)).view.set) (by rw [set_rs])) $$ H; iintro H
  iapply Hk $$ %(_) []
  · ipureintro; exact (read_rs l (sl2 h) g).trans hg
  iexists g; isplitr
  · ipureintro; exact hg
  iexact H

theorem wp_load_ag (l : Fin 8) (c : Dev nD) (h : ℕ) (q : PosShare TreeShare) (X : FVec F S512x256 .bf16) {hl} {α : Type}
    {f : Vec F S1x1x512x256 .bf16 → TcProg F α} {Q : α → sProp 𝕄} :
    agAt l c h q X ⊢ iprop((∀ b, ⌜shapeCast S512x256 b shapeCasts_S1x1x512x256_S512x256 = X⌝ -∗ agAt l c h q X -∗ WP c (f b) Q)
      -∗ WP c (.op (.load aAg (rAg l (sl3 h)).toLoadRect hl) f) Q) := by
  unfold agAt owns
  iintro ⟨%g, %hg, H⟩ Hk
  iapply (wp_load_rect 𝒱₀ (c : Thread nD τ) none Set.univ (m := aAg) (r := rAg l (sl3 h)) (S := (vAg l (sl3 h)).view.set) (by rw [set_ag])) $$ H; iintro H
  iapply Hk $$ %(_) []
  · ipureintro; exact (read_ag l (sl3 h) g).trans hg
  iexists g; isplitr
  · ipureintro; exact hg
  iexact H

/-! ## The result buffer -/

def outF (c : Dev nD) (f : Vec F S4096x2048 .f32) : sProp 𝕄 := ((c : Thread nD τ).loc cc0_stg4_0) ↦{fullShare} f

/-- The result buffer holds `V l k` on the tile of lane `l` and chunk `k`. -/
def outS (c : Dev nD) (V : Fin 8 → Fin 8 → FVec F S512x256 .f32) : sProp 𝕄 := iprop(∃ f, ⌜∀ l k, tileRd k l f = V l k⌝ ∗ outF c f)

theorem wp_load_tileF (c : Dev nD) {off : Fin 2 → Nat} {hi : ∀ a, off a + S512x256.size a ≤ S4096x2048.size a} {k l : Fin 8} (e : off = tOff k l)
    (g : Vec F S4096x2048 .f32) {hl} {α : Type} {f : Vec F S512x256 .f32 → TcProg F α} {Q : α → sProp 𝕄} :
    outF c g ⊢ iprop((outF c g -∗ WP c (f (tileRd k l g)) Q)
      -∗ WP c (.op (.load aOut (Rect.unit (s := S4096x2048) off S512x256.size hi).toLoadRect hl) f) Q) := by
  rw [← read_tile hi e g]
  exact wp_load_rect 𝒱₀ (c : Thread nD τ) none Set.univ (m := aOut) (r := Rect.unit (s := S4096x2048) off S512x256.size hi) (Finset.subset_univ _)

theorem wp_load_tile (c : Dev nD) {off : Fin 2 → Nat} {hi : ∀ a, off a + S512x256.size a ≤ S4096x2048.size a} {k l : Fin 8} (e : off = tOff k l)
    (V : Fin 8 → Fin 8 → FVec F S512x256 .f32) {hl} {α : Type} {f : Vec F S512x256 .f32 → TcProg F α} {Q : α → sProp 𝕄} :
    outS c V ⊢ iprop((outS c V -∗ WP c (f (V l k)) Q)
      -∗ WP c (.op (.load aOut (Rect.unit (s := S4096x2048) off S512x256.size hi).toLoadRect hl) f) Q) := by
  unfold outS
  iintro ⟨%g, %hg, H⟩ Hk
  iapply (wp_load_tileF c e g) $$ H; iintro H
  rw [hg]
  iapply Hk
  iexists g; isplitr
  · ipureintro; exact hg
  iexact H

theorem wp_store_tile (c : Dev nD) {off : Fin 2 → Nat} {hi : ∀ a, off a + S512x256.size a ≤ S4096x2048.size a} {k l : Fin 8} (e : off = tOff k l)
    (V : Fin 8 → Fin 8 → FVec F S512x256 .f32) (w : FVec F S512x256 .f32) {hx hm} {α : Type} {f : PUnit → TcProg F α} {Q : α → sProp 𝕄} :
    outS c V ⊢ iprop((outS c (Function.update V l (Function.update (V l) k w)) -∗ WP c (f ⟨⟩) Q)
      -∗ WP c (.op (.store aOut (Rect.unit (s := S4096x2048) off S512x256.size hi) w Finset.univ hx hm) f) Q) := by
  unfold outS outF
  iintro ⟨%g, %hg, H⟩ Hk
  iapply (wp_store 𝒱₀ (c : Thread nD τ) none Set.univ (m := aOut) (r := Rect.unit (s := S4096x2048) off S512x256.size hi) (Mk := Finset.univ)
    (Finset.subset_univ _)) $$ H; iintro H
  iapply Hk
  iexists _; isplitr
  rotate_left
  · iexact H
  ipureintro
  intro l' k'
  by_cases h : k' = k ∧ l' = l
  · obtain ⟨rfl, rfl⟩ := h
    rw [Function.update_self, Function.update_self]
    exact tileRd_write_same hi e g w
  · rw [show Function.update V l (Function.update (V l) k w) l' k' = V l' k' from by
      by_cases hl : l' = l
      · subst hl
        rw [Function.update_self, Function.update_of_ne (fun hk => h ⟨hk, rfl⟩)]
      · rw [Function.update_of_ne hl], ← hg]
    exact tileRd_write_other hi e h g w

end Cert.Ring

end
-- ==== Proof.Lanes.lean ====
/-
A lane's state between its steps, and each step's rule.
-/
module

public import proofs.«01_k».proof.Proof.Ops
public import Idealize.ShloMosaic.Lib.Pipeline.Value

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Cert.KernelIdeal.Facts₀ Cert.KernelIdeal.Facts

variable {F : FTy → Type} [FloatOps F]

local notation "𝕄" => MT nD τ sig ℕ (Elt F) ℕ UU ℕ

variable (I : Ins F)

/-! ## Supplies of a lane -/

/-- `f` at each use from `a` up to `b`. -/
def Qs (f : ℕ → sProp 𝕄) (a b : ℕ) : sProp 𝕄 := bigSep (Finset.Ico a b) f

theorem Qs_pop {f : ℕ → sProp 𝕄} {a b : ℕ} (h : a < b) : Qs f a b ⊢ iprop(f a ∗ Qs f (a + 1) b) :=
  Entails.of_eq (BI.bigSep_Ico_succ_bot h f)
theorem Qs_push {f : ℕ → sProp 𝕄} {a b : ℕ} (h : a ≤ b) : iprop(Qs f a b ∗ f b) ⊢ Qs f a (b + 1) := by
  unfold Qs
  rw [BI.bigSep_Ico_succ_top h]
  iintro ⟨H1, H2⟩; isplitl [H2]; · iexact H2
  iexact H1
theorem Qs_nil {f : ℕ → sProp 𝕄} {a b : ℕ} (h : b ≤ a) (P : sProp 𝕄) : P ⊢ Qs f a b := by
  unfold Qs
  rw [show Finset.Ico a b = ∅ from Finset.Ico_eq_empty (by omega), bigSep_empty]
  iintro -; iempintro

/-- The slots as used: the last device's use of a slot is the use before, by period. -/
theorem agAny_add (l : Fin 8) (c : Dev nD) {h k : ℕ} (e : k = h + 3) : agAny (F := F) l c k = agAny l c h := by
  subst e
  unfold agAny agAt
  rw [show sl3 (h + 3) = sl3 h from Fin.ext (Nat.add_mod_right h 3)]
theorem rsAny_add (l : Fin 8) (c : Dev nD) {h k : ℕ} (e : k = h + 2) : rsAny (F := F) l c k = rsAny l c h := by
  subst e
  unfold rsAny rsAt
  rw [show sl2 (h + 2) = sl2 h from Fin.ext (Nat.add_mod_right h 2)]

/-! ## States -/

/-- The gathering's supplies before it starts. -/
def agInit (l : Fin 8) (c : Dev nD) : sProp 𝕄 :=
  iprop((pos .agS l c 0 ∗ pos .agS l c 1 ∗ pos .agS l c 2) ∗ (pos .agR l c 0 ∗ pos .agR l c 1 ∗ pos .agR l c 2)
    ∗ (pos .agC l c 0 ∗ pos .agC l c 1 ∗ pos .agC l c 2)
    ∗ Qs (crd .agR l c) 0 7 ∗ Qs (crd .agC l c) 0 4 ∗ Qs (tok .agS l c) 0 7 ∗ Qs (tok .agR l (nx l c)) 0 7 ∗ Qs (tok .agC l (pv l c)) 0 4
    ∗ Qs (agAny l (nx l c)) 0 3)

/-- A lane before its first send. -/
def stS (l : Fin 8) (c : Dev nD) : sProp 𝕄 :=
  iprop((pos .rsS l c 0 ∗ pos .rsS l c 1) ∗ (pos .rsR l c 0 ∗ pos .rsR l c 1) ∗ (pos .rsC l c 0 ∗ pos .rsC l c 1)
    ∗ Qs (crd .rsR l c) 0 7 ∗ Qs (crd .rsC l c) 0 5 ∗ Qs (tok .rsS l c) 0 7 ∗ Qs (tok .rsR l (nx l c)) 0 7 ∗ Qs (tok .rsC l (pv l c)) 0 5
    ∗ Qs (rsAny l (nx l c)) 0 2 ∗ stAny l c ∗ agInit l c)

/-- What a lane uses in sending on. -/
def rsOut (l : Fin 8) (c : Dev nD) (h : ℕ) : sProp 𝕄 :=
  iprop((pos .rsC l c (h - 1) ∗ pos .rsC l c (h - 1 + 1)) ∗ Qs (crd .rsC l c) (h - 1) 5 ∗ Qs (tok .rsS l c) (h + 1) 7
    ∗ Qs (tok .rsR l (nx l c)) (h + 1) 7 ∗ Qs (rsAny l (nx l c)) (h + 1) 2)

/-- What it uses in freeing its slots. -/
def rsBack (l : Fin 8) (c : Dev nD) (h : ℕ) : sProp 𝕄 := iprop(Qs (tok .rsC l (pv l c)) h 5 ∗ Qs (rsAny l c) 5 h)

/-- A lane before hop `h` of the reduction: its send of hop `h` is on its way. -/
def stR (l : Fin 8) (c : Dev nD) (h : ℕ) : sProp 𝕄 :=
  iprop((pos .rsS l c h ∗ pos .rsS l c (h + 1)) ∗ (pos .rsR l c h ∗ pos .rsR l c (h + 1)) ∗ rch .rsS l c (h + 1) ∗ rch .rsR l c (h + 1) ∗ crd .rsS l c h
    ∗ Qs (crd .rsR l c) h 7 ∗ rsOut l c h ∗ rsBack l c h ∗ agInit l c)

/-- What the reduction leaves behind. -/
def rsDone (l : Fin 8) (c : Dev nD) : sProp 𝕄 :=
  iprop((pos .rsS l c 7 ∗ pos .rsS l c 8) ∗ (pos .rsR l c 7 ∗ pos .rsR l c 8) ∗ (pos .rsC l c 5 ∗ pos .rsC l c 6) ∗ Qs (rsAny l c) 5 7)

/-- What a lane uses in passing a gathered chunk on. -/
def agOut (l : Fin 8) (c : Dev nD) (h : ℕ) : sProp 𝕄 :=
  iprop((pos .agC l c (min (h - 2) 4) ∗ pos .agC l c (min (h - 2) 4 + 1) ∗ pos .agC l c (min (h - 2) 4 + 2)) ∗ Qs (crd .agC l c) (h - 2) 4
    ∗ Qs (tok .agS l c) (h + 1) 7 ∗ Qs (tok .agR l (nx l c)) (h + 1) 7 ∗ Qs (agAny l (nx l c)) (h + 1) 3)

/-- What it uses in freeing its slots. -/
def agBack (l : Fin 8) (c : Dev nD) (h : ℕ) : sProp 𝕄 := iprop(Qs (tok .agC l (pv l c)) (h - 1) 4 ∗ Qs (agAny l c) 4 (h - 1))

/-- The part of the last chunk's slot a lane kept while it sent it on, and its staging slot. -/
def agHeld (l : Fin 8) (c : Dev nD) (h : ℕ) : sProp 𝕄 :=
  if h = 0 then iprop(emp)
  else iprop(stAny l c ∗ if h = 7 then agAny l c (h - 1) else agAt l c (h - 1) fullShare.left (gat I l (h - 1) c))

/-- A lane before hop `h` of the gathering. -/
def stA (l : Fin 8) (c : Dev nD) (h : ℕ) : sProp 𝕄 :=
  iprop((pos .agS l c h ∗ pos .agS l c (h + 1) ∗ pos .agS l c (h + 2)) ∗ (pos .agR l c h ∗ pos .agR l c (h + 1) ∗ pos .agR l c (h + 2))
    ∗ (rch .agS l c (h + 1) ∗ rch .agS l c (h + 2)) ∗ (rch .agR l c (h + 1) ∗ rch .agR l c (h + 2)) ∗ rch .agC l (pv l c) (h - 1)
    ∗ Qs (crd .agS l c) h (min (h + 1) 7) ∗ Qs (crd .agR l c) h 7 ∗ agHeld I l c h ∗ agOut l c h ∗ agBack l c h ∗ rsDone l c)

/-! ## Parts of a reduction step -/

theorem wp_rsSend (l : Fin 8) (c : Dev nD) {h : ℕ} (hh : h < 7) {s : Fin 2} (hs : s = sl2 h) (X : FVec F S512x256 .bf16) (hX : X = sent I l h c)
    {xs : List (Pay nD τ sig)} {α : Type} {f : PUnit → TcProg F α} {Q : α → sProp 𝕄} :
    iprop(recs I ∗ stAt l c X ∗ rsAny l (nx l c) h ∗ rch .rsC l c h ∗ owesL c (due .rsR l (nx l c) h :: xs)
        ∗ tok .rsS l c h ∗ rch .rsS l c h ∗ tok .rsR l (nx l c) h ∗ rch .rsR l (nx l c) h)
      ⊢ iprop(((crd .rsS l c h ∗ owesL c xs) -∗ WP c (f ⟨⟩) Q) -∗ WP c (rsSend c l s >>= f) Q) := by
  subst hs; subst hX
  unfold rsSend
  simp only [Prog.lift, Prog.bind_op, Prog.bind_ret, Prog.pure_eq_ret]
  refine wp_sendK I .rsS .rsR l c (nx l c) (nxD l c) (nxD_eq l c) (h := h) rfl rfl hh hh rfl rfl (credRs _ _) fullShare (sent I l h c) (rch .rsC l c h) ?_ ?_
  · iintro H
    dsimp only [pay]
    unfold stAny stAt
    iexists _; iexact H
  · dsimp only [pay]
    rw [pv_nx]
    unfold rsAt
    iintro H; iexact H

theorem wp_rsNext (l : Fin 8) (c : Dev nD) {h : ℕ} (hh : h < 6) (a : FVec F S512x256 .f32) (X : FVec F S512x256 .bf16) (hX : X = sent I l (h + 1) c)
    {xs : List (Pay nD τ sig)} (hx : From (2 + (8 * (h + 1) + l.val)) (due .rsR l (nx l c) (h + 1) :: xs))
    {α : Type} {f : PUnit → TcProg F α} {Q : α → sProp 𝕄} :
    iprop(recs I ∗ stAt l c X ∗ rch .rsS l c (h + 1) ∗ rsOut l c h ∗ owesL c (due .rsR l (nx l c) (h + 1) :: xs))
      ⊢ iprop(((crd .rsS l c (h + 1) ∗ rsOut l c (h + 1) ∗ owesL c xs) -∗ WP c (f ⟨⟩) Q)
          -∗ WP c (rsNext c l ⟨h, by omega⟩ a >>= f) Q) := by
  unfold rsOut
  iintro ⟨#Hr, Hst, #HrS, ⟨⟨Hp0, Hp1⟩, HcC, HtS, HtR, Hnx⟩, HO⟩ Hk
  ihave ⟨HtS0, HtS⟩ := (Qs_pop (by omega)) $$ HtS
  ihave ⟨HtR0, HtR⟩ := (Qs_pop (by omega)) $$ HtR
  unfold rsNext
  rw [if_pos (show (⟨h, _⟩ : Fin 7).val < 6 from hh)]
  rcases h with _ | m
  · rw [if_neg (show ¬ 1 ≤ 0 from by decide)]
    ihave ⟨Hnx0, Hnx⟩ := (Qs_pop (by decide)) $$ Hnx
    iapply (wp_rsSend I l c (h := 1) (by decide) (s := sl2 1) rfl X hX) $$ [Hst HO HtS0 HtR0 Hnx0]
    · isplitr; · iexact Hr
      isplitl [Hst]; · iexact Hst
      isplitl [Hnx0]; · iexact Hnx0
      isplitr; · iapply (recs_rch I .rsC l c (h := 1) (by decide)) $$ Hr
      isplitl [HO]; · iexact HO
      isplitl [HtS0]; · iexact HtS0
      isplitr; · iexact HrS
      isplitl [HtR0]; · iexact HtR0
      iapply (recs_rch I .rsR l (nx l c) (h := 1) (by decide)) $$ Hr
    iintro ⟨Hc, HO⟩
    iapply Hk
    isplitl [Hc]; · iexact Hc
    isplitr [HO]
    · isplitl [Hp0 Hp1]
      · isplitl [Hp0]; · iexact Hp0
        iexact Hp1
      isplitl [HcC]; · iexact HcC
      isplitl [HtS]; · iexact HtS
      isplitl [HtR]; · iexact HtR
      iexact Hnx
    iexact HO
  · rw [if_pos (show 1 ≤ m + 1 by omega)]
    rw [show sl2 ((⟨m + 1, by omega⟩ : Fin 7).val + 1) = sl2 m from Fin.ext (Nat.add_mod_right m 2)]
    ihave ⟨HcC0, HcC⟩ := (Qs_pop (show m + 1 - 1 < 5 by omega)) $$ HcC
    simp only [semWaitWord, Prog.lift, Prog.bind_op, Prog.bind_ret, Prog.pure_eq_ret]
    iapply (wp_waitK I .rsC l c (h := m) rfl (wpE_semWait_eq 𝒱₀ (c : Thread nD τ) none Set.univ) (show m < 5 by omega)
      (p := 2 + (8 * (m + 1 + 1) + l.val)) (by show 10 + 8 * m + l.val < _; omega) (by show 10 + 8 * m + l.val < _; omega) hx) $$ [HcC0 HO Hp0]
    · isplitr; · iexact Hr
      isplitl [HcC0]; · iexact HcC0
      isplitl [HO]; · iexact HO
      iexact Hp0
    iintro ⟨HO, Hp2, #HrC, Hpay⟩
    dsimp only [pay, Kd.n]
    icases Hpay with ⟨Hslot, #HrR⟩
    ihave Hslot := (Entails.of_eq (rsAny_add (k := m + 1 + 1) l (nx l c) rfl).symm) $$ Hslot
    iapply (wp_rsSend I l c (h := m + 1 + 1) (by omega) (Fin.ext (Nat.add_mod_right m 2).symm) X hX) $$ [Hst HO HtS0 HtR0 Hslot]
    · isplitr; · iexact Hr
      isplitl [Hst]; · iexact Hst
      isplitl [Hslot]; · iexact Hslot
      isplitr; · iexact HrC
      isplitl [HO]; · iexact HO
      isplitl [HtS0]; · iexact HtS0
      isplitr; · iexact HrS
      isplitl [HtR0]; · iexact HtR0
      iexact HrR
    iintro ⟨Hc, HO⟩
    iapply Hk
    isplitl [Hc]; · iexact Hc
    isplitr [HO]
    · isplitl [Hp1 Hp2]
      · isplitl [Hp1]; · iexact Hp1
        iexact Hp2
      isplitl [HcC]; · iexact HcC
      isplitl [HtS]; · iexact HtS
      isplitl [HtR]; · iexact HtR
      iapply (Qs_nil (by omega) _) $$ Hr
    iexact HO

theorem wp_rsFree (l : Fin 8) (c : Dev nD) {h : ℕ} (hh : h < 7) {xs : List (Pay nD τ sig)} {Q : PUnit → sProp 𝕄} :
    iprop(recs I ∗ rsAny l c h ∗ rch .rsR l c (h + 2) ∗ rch .rsC l (pv l c) h ∗ rsBack l c h
        ∗ owesL c ((if h < 5 then [due .rsC l (pv l c) h] else []) ++ xs))
      ⊢ iprop(((rsBack l c (h + 1) ∗ owesL c xs) -∗ Q ⟨⟩) -∗ WP c (rsFree c l ⟨h, hh⟩) Q) := by
  unfold rsFree rsBack
  iintro ⟨#Hr, Hslot, #HrR, #HrC, ⟨Ht, Hkeep⟩, HO⟩ Hk
  by_cases h5 : h < 5
  · rw [if_pos (show (⟨h, hh⟩ : Fin 7).val < 5 from h5), if_pos h5]
    ihave ⟨Ht0, Ht⟩ := (Qs_pop h5) $$ Ht
    simp only [semSignalWord, Prog.lift, Prog.bind_op, Prog.bind_ret, Prog.pure_eq_ret, List.singleton_append]
    iapply (wp_sigK I .rsC l c (pv l c) (pvD l c) (pvD_eq l c) (h := h) rfl rfl h5) $$ [Hslot HO Ht0]
    · isplitr; · iexact Hr
      isplitl [HO]; · iexact HO
      isplitl [Ht0]; · iexact Ht0
      isplitl [Hslot]
      · dsimp only [pay]
        rw [nx_pv]
        isplitl [Hslot]; · iexact Hslot
        iexact HrR
      iexact HrC
    iintro HO
    unfold WP; rw [wp_ret]
    imodintro
    iapply Hk
    isplitr [HO]
    · isplitl [Ht]; · iexact Ht
      iapply (Qs_nil (by omega) _) $$ Hr
    iexact HO
  · rw [if_neg (show ¬ (⟨h, hh⟩ : Fin 7).val < 5 from h5), if_neg h5, List.nil_append, Prog.pure_eq_ret]; unfold WP; rw [wp_ret]
    imodintro
    iapply Hk
    isplitr [HO]
    · isplitr [Hkeep Hslot]
      · iapply (Qs_nil (by omega) _) $$ Hr
      iapply (Qs_push (by omega))
      isplitl [Hkeep]; · iexact Hkeep
      iexact Hslot
    iexact HO

/-! ## Reduction steps -/

theorem acc_eq (l : Fin 8) (h : ℕ) (c : Dev nD) (a : FVec F S512x256 .f32) (ha : a = tileV I c l (rk l c - Fin.ofNat 8 (h + 1)))
    (b : Vec F S1x1x512x256 .bf16) (hb : shapeCast S512x256 b shapeCasts_S1x1x512x256_S512x256 = sent I l h (pv l c)) :
    accVal a b = acc I l h c := by
  unfold accVal acc
  rw [hb, ha, shapeCast_self]

theorem kRed_eq (l : Fin 8) (c : Dev nD) {h : ℕ} (hh : h < 7) : kRed l c ⟨h, hh⟩ = rk l c - Fin.ofNat 8 (h + 1) := by
  unfold kRed
  congr 1
  exact Fin.ext (Nat.mod_eq_of_lt (by omega : h + 1 < 8)).symm

/-- The first half of a reduction step: both waits, the sum, and the sum in the staging slot. -/
theorem wp_rsHead (l : Fin 8) (c : Dev nD) {h : ℕ} (hh : h < 7) (V : Fin 8 → Fin 8 → FVec F S512x256 .f32) (hV : V l = tileV I c l)
    {xs : List (Pay nD τ sig)} (hx : From (2 + (8 * (h + 1) + l.val)) xs) {Q : PUnit → sProp 𝕄} :
    iprop(recs I ∗ pos .rsS l c h ∗ crd .rsS l c h ∗ pos .rsR l c h ∗ crd .rsR l c h ∗ owesL c xs ∗ outS c V)
      ⊢ iprop(((∀ a, ⌜a = acc I l h c⌝ -∗ (pos .rsS l c (h + 2) ∗ rch .rsS l c (h + 2) ∗ pos .rsR l c (h + 2) ∗ rch .rsR l c (h + 2)
            ∗ stAt l c (sent I l (h + 1) c) ∗ rsAny l c h ∗ rch .rsC l (pv l c) h ∗ owesL c xs ∗ outS c V)
              -∗ WP c (rsNext c l ⟨h, hh⟩ a >>= fun _ => rsFree c l ⟨h, hh⟩) Q)
          -∗ WP c (rsStep c ⟨h, hh⟩ l) Q)) := by
  unfold rsStep
  simp only [Prog.lift, Prog.bind_op, Prog.bind_ret, Prog.pure_eq_ret]
  iintro ⟨#Hr, HpS, HcS, HpR, HcR, HO, Hout⟩ Hk
  iapply (wp_waitK I .rsS l c (h := h) (credSt l) (wpE_waitDma2_eq 𝒱₀ (c : Thread nD τ) none Set.univ) hh
    (p := 2 + (8 * (h + 1) + l.val)) (by show 0 < _; omega) (by show 0 < _; omega) hx) $$ [HcS HO HpS]
  · iframe; iexact Hr
  iintro ⟨HO, HpS, #HrS, Hst⟩
  iapply (wp_waitK I .rsR l c (h := h) (credRs l _) (wpE_waitDma2_eq 𝒱₀ (c : Thread nD τ) none Set.univ) hh
    (p := 2 + (8 * (h + 1) + l.val)) (by show 2 + 8 * h + l.val < _; omega) (by show 2 + 8 * h + l.val < _; omega) hx) $$ [HcR HO HpR]
  · iframe; iexact Hr
  iintro ⟨HO, HpR, #HrR, Hpay⟩
  dsimp only [pay, Kd.n]
  icases Hpay with ⟨Hslot, #HrC⟩
  iapply (wp_load_tile c ((rsOff_eq l c ⟨h, hh⟩).trans (congrArg (fun k => tOff k l) (kRed_eq l c hh))) V) $$ Hout; iintro Hout
  iapply (wp_load_rs l c h (sent I l h (pv l c))) $$ Hslot; iintro %b %hb Hslot
  have ha := acc_eq I l h c _ (congrFun hV _) b hb
  iapply (wp_stage l c _) $$ Hst; iintro Hst
  rw [ha]
  iapply Hk $$ %_ %rfl
  iframe
  iframe HrS HrR HrC
  isplitl [Hst]; · iexact Hst
  unfold rsAny; iexists _; iexact Hslot

theorem pays_rs (c : Dev nD) (l : Fin 8) {h : ℕ} (hh : h < 6) :
    pays c (h + 1) l = due .rsR l (nx l c) (h + 1) :: (if h < 5 then [due .rsC l (pv l c) h] else []) := by
  unfold pays
  rw [if_pos (by omega)]
  by_cases h5 : h < 5
  · rw [if_pos ⟨by omega, by omega⟩, if_pos h5]; rfl
  · rw [if_neg (by omega), if_neg h5]

theorem wp_rsStep (l : Fin 8) (c : Dev nD) {h : ℕ} (hh : h < 6) (V : Fin 8 → Fin 8 → FVec F S512x256 .f32) (hV : V l = tileV I c l) :
    iprop(recs I ∗ stR l c h ∗ owesL c (rem c (8 * (h + 1) + l.val)) ∗ outS c V)
      ⊢ WP c (rsStep c ⟨h, by omega⟩ l) fun _ => iprop(stR l c (h + 1) ∗ owesL c (rem c (8 * (h + 1) + l.val + 1)) ∗ outS c V) := by
  have hx := rem_from c (8 * (h + 1) + l.val)
  rw [rem_step c (h + 1) (by omega) l, pays_rs c l hh, List.cons_append] at hx ⊢
  unfold stR
  iintro ⟨#Hr, ⟨⟨HpS, HpS1⟩, ⟨HpR, HpR1⟩, #HrS1, #HrR1, HcS, HcR, Ho, Hb, Hag⟩, HO, Hout⟩
  ihave ⟨HcR0, HcR⟩ := (Qs_pop (by omega)) $$ HcR
  iapply (wp_rsHead I l c _ V hV hx) $$ [HpS HcS HpR HcR0 HO Hout]
  · iframe; iexact Hr
  iintro %a %ha ⟨HpS, #HrS, HpR, #HrR, Hst, Hslot, #HrC, HO, Hout⟩
  iapply (wp_rsNext I l c hh a _ rfl hx) $$ [Hst Ho HO]
  · iframe; iframe Hr HrS1
  iintro ⟨HcS, Ho, HO⟩
  iapply (wp_rsFree I l c (h := h) _) $$ [Hslot Hb HO]
  · iframe; iframe Hr HrR HrC
  iintro ⟨Hb, HO⟩
  iframe
  iframe HrS HrR

theorem wp_agFirst (l : Fin 8) (c : Dev nD) {hsc} {hsem}
    {xs : List (Pay nD τ sig)} {α : Type} {f : PUnit → TcProg F α} {Q : α → sProp 𝕄} :
    iprop(recs I ∗ stAt l c (sent I l 7 c) ∗ agAny l (nx l c) 0 ∗ owesL c (due .agR l (nx l c) 0 :: xs) ∗ tok .agS l c 0 ∗ tok .agR l (nx l c) 0)
      ⊢ iprop(((crd .agS l c 0 ∗ owesL c xs) -∗ WP c (f ⟨⟩) Q)
          -∗ WP c (.op (.enqueueDma (vSt l) (.remote (Dev.tc (nxD l c)) (vAg l 0) (.dma (qAgS l 0)) hsc) (.dma (qAgR l 0)) (exSt l) (exAg l 0) hsem) f) Q) := by
  iintro ⟨#Hr, Hst, Hslot, HO, HtS, HtR⟩ Hk
  iapply (wp_sendK I .agS .agR l c (nx l c) (nxD l c) (nxD_eq l c) (h := 0) rfl rfl (by decide) (by decide) rfl rfl (credAg l 0) fullShare
    (sent I l 7 c) (rch .agC l c 0)
    (by dsimp only [pay]; rw [if_pos rfl]; unfold stAny stAt; iintro H; iexists _; iexact H)
    (by dsimp only [pay]; rw [pv_nx, show gat I l 0 (nx l c) = sent I l 7 (pv l (nx l c)) from rfl, pv_nx]; unfold agAt; iintro H; iexact H)) $$ [Hst Hslot HO HtS HtR]
  · isplitr; · iexact Hr
    isplitl [Hst]; · unfold stAt; iexact Hst
    isplitl [Hslot]; · unfold agAny agAt; iexact Hslot
    isplitr; · iapply (recs_rch I .agC l c (h := 0) (by decide)) $$ Hr
    isplitl [HO]; · iexact HO
    isplitl [HtS]; · iexact HtS
    isplitr; · iapply (recs_rch I .agS l c (h := 0) (by decide)) $$ Hr
    isplitl [HtR]; · iexact HtR
    iapply (recs_rch I .agR l (nx l c) (h := 0) (by decide)) $$ Hr
  iexact Hk

theorem wp_rsLast (l : Fin 8) (c : Dev nD) (V : Fin 8 → Fin 8 → FVec F S512x256 .f32) (hV : V l = outV I c l 6) :
    iprop(recs I ∗ stR l c 6 ∗ owesL c (rem c (8 * 7 + l.val)) ∗ outS c V)
      ⊢ WP c (rsStep c ⟨6, by decide⟩ l) fun _ => iprop(stA I l c 0 ∗ owesL c (rem c (8 * 7 + l.val + 1)) ∗ outS c (Function.update V l (outV I c l 7))) := by
  have hx := rem_from c (8 * 7 + l.val)
  rw [rem_step c 7 (by omega) l, show pays c 7 l = [due .agR l (nx l c) 0] from rfl, List.singleton_append] at hx ⊢
  unfold stR agInit rsOut rsBack
  iintro ⟨#Hr, ⟨⟨HpS, HpS1⟩, ⟨HpR, HpR1⟩, #HrS1, #HrR1, HcS, HcR, ⟨⟨HpC, HpC1⟩, -⟩, ⟨-, Hkeep⟩, ⟨HqS, HqR, HqC, HdR, HdC, HtS, HtR, HtC, Hnx⟩⟩, HO, Hout⟩
  ihave ⟨HcR0, HcR⟩ := (Qs_pop (by omega)) $$ HcR
  ihave ⟨HtS0, HtS⟩ := (Qs_pop (by omega)) $$ HtS
  ihave ⟨HtR0, HtR⟩ := (Qs_pop (by omega)) $$ HtR
  ihave ⟨Hnx0, Hnx⟩ := (Qs_pop (by omega)) $$ Hnx
  iapply (wp_rsHead I l c (h := 6) _ V (hV.trans (outV_le I c l 6 (le_refl _))) hx) $$ [HpS HcS HpR HcR0 HO Hout]
  · iframe; iexact Hr
  iintro %a %ha ⟨HpS, -, HpR, -, Hst, Hslot, -, HO, Hout⟩
  subst ha
  unfold rsNext rsFree
  rw [if_neg (show ¬ (⟨6, by decide⟩ : Fin 7).val < 6 by decide), if_neg (show ¬ (⟨6, by decide⟩ : Fin 7).val < 5 by decide)]
  simp only [Prog.lift, Prog.bind_op, Prog.bind_ret, Prog.pure_eq_ret]
  iapply (wp_agFirst I l c) $$ [Hst Hnx0 HO HtS0 HtR0]
  · iframe; iexact Hr
  iintro ⟨HcS, HO⟩
  have e := (rsOff_eq l c ⟨6, by decide⟩).trans (congrArg (fun k => tOff k l) (kRed_eq l c (h := 6) (by decide)))
  iapply (wp_load_tile c e V) $$ Hout; iintro Hout
  iapply (wp_store_tile c e V _) $$ Hout; iintro Hout
  unfold WP; rw [wp_ret]; imodintro
  rw [outV_six, hV]
  isplitr [HO Hout]
  rotate_left
  · isplitl [HO]; · iexact HO
    iexact Hout
  unfold stA rsDone agOut agBack agHeld
  rw [if_pos rfl]
  ihave Hkeep := (Qs_push (f := rsAny l c) (a := 5) (b := 6) (by decide)) $$ [Hkeep Hslot]
  · isplitl [Hkeep]; · iexact Hkeep
    iexact Hslot
  ihave HcS := (Qs_push (f := crd .agS l c) (a := 0) (b := 0) (by decide)) $$ [HcS]
  · isplitr; · iapply (Qs_nil (le_refl 0) _) $$ Hr
    iexact HcS
  icases HqS with ⟨HqS0, HqS1, HqS2⟩
  icases HqR with ⟨HqR0, HqR1, HqR2⟩
  icases HqC with ⟨HqC0, HqC1, HqC2⟩
  iframe
  isplitr
  · isplitr; · iapply (recs_rch I .agS l c (h := 1) (by decide)) $$ Hr
    iapply (recs_rch I .agS l c (h := 2) (by decide)) $$ Hr
  isplitr
  · isplitr; · iapply (recs_rch I .agR l c (h := 1) (by decide)) $$ Hr
    iapply (recs_rch I .agR l c (h := 2) (by decide)) $$ Hr
  isplitr; · iapply (recs_rch I .agC l (pv l c) (h := 0) (by decide)) $$ Hr
  isplitl [HcS]; · iexact HcS
  isplitl [HqC0 HqC1 HqC2]
  · isplitl [HqC0]; · iexact HqC0
    isplitl [HqC1]; · iexact HqC1
    iexact HqC2
  iapply (Qs_nil (by decide) _) $$ Hr

/-! ## Parts of a gathering step -/

/-- The half that came back and the half that stayed make the last chunk's slot whole again. -/
theorem agHeld_join (l : Fin 8) (c : Dev nD) {h : ℕ} (hh : h < 7) :
    iprop(agHeld I l c h ∗ pay I .agS l c h) ⊢ iprop(stAny l c ∗ if h = 0 then iprop(emp) else agAny l c (h - 1)) := by
  unfold agHeld
  dsimp only [pay]
  by_cases h0 : h = 0
  · rw [if_pos h0, if_pos h0, if_pos h0]
    iintro ⟨-, H⟩
    iframe
  · rw [if_neg h0, if_neg h0, if_neg h0, if_neg (by omega)]
    iintro ⟨⟨Hst, H1⟩, H2⟩
    iframe
    unfold agAny agAt
    iexists _
    iapply (owns_halves _ _ _ (gat I l (h - 1) c)).2
    iframe

theorem wp_agFwd (l : Fin 8) (c : Dev nD) {h : ℕ} (hh : h < 6) {s : Fin 3} (hs : s = sl3 (h + 1)) {hsc} {hsem}
    {xs : List (Pay nD τ sig)} {α : Type} {f : PUnit → TcProg F α} {Q : α → sProp 𝕄} :
    iprop(recs I ∗ agAt l c h fullShare (gat I l h c) ∗ agAny l (nx l c) (h + 1) ∗ rch .agC l c (h + 1) ∗ owesL c (due .agR l (nx l c) (h + 1) :: xs)
        ∗ tok .agS l c (h + 1) ∗ rch .agS l c (h + 1) ∗ tok .agR l (nx l c) (h + 1) ∗ rch .agR l (nx l c) (h + 1))
      ⊢ iprop(((crd .agS l c (h + 1) ∗ agAt l c h fullShare.left (gat I l h c) ∗ owesL c xs) -∗ WP c (f ⟨⟩) Q)
          -∗ WP c (.op (.enqueueDma (vAg l (sl3 h)) (.remote (Dev.tc (nxD l c)) (vAg l s) (.dma (qAgS l s)) hsc) (.dma (qAgR l s))
            (exAg l (sl3 h)) (exAg l s) hsem) f) Q) := by
  subst hs
  iintro ⟨#Hr, Hsl, Hnx, #HrC, HO, HtS, #HrS, HtR, #HrR⟩ Hk
  unfold agAt
  ihave ⟨Hl, Hh⟩ := (owns_halves _ _ _ (gat I l h c)).1 $$ Hsl
  iapply (wp_sendK I .agS .agR l c (nx l c) (nxD l c) (nxD_eq l c) (h := h + 1) rfl rfl (show h + 1 < 7 by omega) (show h + 1 < 7 by omega) rfl rfl (credAg l _)
    fullShare.right (gat I l h c) (rch .agC l c (h + 1))
    (by dsimp only [pay]; rw [if_neg (by omega)]; unfold agAt; iintro H; iexact H)
    (by dsimp only [pay]; rw [pv_nx, show gat I l (h + 1) (nx l c) = gat I l h (pv l (nx l c)) from rfl, pv_nx]; unfold agAt; iintro H; iexact H)) $$ [Hh Hnx HO HtS HtR]
  · isplitr; · iexact Hr
    isplitl [Hh]; · iexact Hh
    isplitl [Hnx]; · unfold agAny agAt; iexact Hnx
    isplitr; · iexact HrC
    isplitl [HO]; · iexact HO
    isplitl [HtS]; · iexact HtS
    isplitr; · iexact HrS
    isplitl [HtR]; · iexact HtR
    iexact HrR
  iintro ⟨Hc, HO⟩
  iapply Hk
  iframe

theorem wp_agNext (l : Fin 8) (c : Dev nD) {h : ℕ} (hh : h < 7) {xs : List (Pay nD τ sig)}
    (hx : From (2 + (8 * (h + 8) + l.val)) ((if h < 6 then [due .agR l (nx l c) (h + 1)] else []) ++ xs))
    {α : Type} {f : PUnit → TcProg F α} {Q : α → sProp 𝕄} :
    iprop(recs I ∗ agAt l c h fullShare (gat I l h c) ∗ rch .agS l c (h + 1) ∗ agOut l c h ∗ owesL c ((if h < 6 then [due .agR l (nx l c) (h + 1)] else []) ++ xs))
      ⊢ iprop(((Qs (crd .agS l c) (h + 1) (min (h + 2) 7) ∗ agAt l c h (if h = 6 then fullShare else fullShare.left) (gat I l h c) ∗ agOut l c (h + 1) ∗ owesL c xs)
            -∗ WP c (f ⟨⟩) Q)
          -∗ WP c (agNext c l ⟨h, hh⟩ >>= f) Q) := by
  unfold agNext
  by_cases h6 : h = 6
  · subst h6
    rw [if_neg (show ¬ (⟨6, hh⟩ : Fin 7).val < 6 from by show ¬ 6 < 6; decide), if_neg (show ¬ 6 < 6 by decide), if_pos rfl]
    simp only [Prog.bind_ret, Prog.pure_eq_ret, List.nil_append]
    unfold agOut
    iintro ⟨#Hr, Hsl, -, ⟨⟨Hp0, Hp1, Hp2⟩, -⟩, HO⟩ Hk
    iapply Hk
    iframe
    isplitr; · iapply (Qs_nil (by decide) _) $$ Hr
    isplitl [Hp0 Hp1 Hp2]
    · isplitl [Hp0]; · iexact Hp0
      isplitl [Hp1]; · iexact Hp1
      iexact Hp2
    isplitr; · iapply (Qs_nil (by decide) _) $$ Hr
    isplitr; · iapply (Qs_nil (by decide) _) $$ Hr
    isplitr; · iapply (Qs_nil (by decide) _) $$ Hr
    iapply (Qs_nil (by decide) _) $$ Hr
  have h6 : h < 6 := by omega
  rw [if_pos (show (⟨h, hh⟩ : Fin 7).val < 6 from h6), if_pos h6, if_neg (by omega), List.singleton_append, show min (h + 2) 7 = h + 1 + 1 by omega] at *
  unfold agOut
  iintro ⟨#Hr, Hsl, #HrS, ⟨Hpos, HcC, HtS, HtR, Hnx⟩, HO⟩ Hk
  ihave ⟨HtS0, HtS⟩ := (Qs_pop (by omega)) $$ HtS
  ihave ⟨HtR0, HtR⟩ := (Qs_pop (by omega)) $$ HtR
  by_cases h2 : h < 2
  · rw [if_neg (show ¬ 2 ≤ (⟨h, hh⟩ : Fin 7).val from by show ¬ 2 ≤ h; omega)]
    simp only [Prog.lift, Prog.bind_op, Prog.bind_ret, Prog.pure_eq_ret]
    ihave ⟨Hnx0, Hnx⟩ := (Qs_pop (show h + 1 < 3 by omega)) $$ Hnx
    iapply (wp_agFwd I l c h6 rfl) $$ [Hsl Hnx0 HO HtS0 HtR0]
    · iframe
      isplitr; · iexact Hr
      isplitr; · iapply (recs_rch I .agC l c (h := h + 1) (show h + 1 < 3 by omega)) $$ Hr
      isplitr; · iexact HrS
      iapply (recs_rch I .agR l (nx l c) (h := h + 1) (show h + 1 < 3 by omega)) $$ Hr
    iintro ⟨Hc, Hsl, HO⟩
    iapply Hk
    rw [show h + 1 - 2 = h - 2 by omega]
    iframe
    iapply (Qs_push (le_refl _))
    isplitr; · iapply (Qs_nil (le_refl _) _) $$ Hr
    iexact Hc
  · obtain ⟨m, rfl⟩ : ∃ m, h = m + 2 := ⟨h - 2, by omega⟩
    rw [if_pos (show 2 ≤ (⟨m + 2, hh⟩ : Fin 7).val from by show 2 ≤ m + 2; omega)]
    simp only [semWaitWord, Prog.lift, Prog.bind_op, Prog.bind_ret, Prog.pure_eq_ret]
    icases Hpos with ⟨Hp0, Hp1, Hp2⟩
    ihave ⟨HcC0, HcC⟩ := (Qs_pop (show m + 2 - 2 < 4 by omega)) $$ HcC
    iapply (wp_waitK I .agC l c (h := m) rfl
      (fun K => (wpE_semWait_eq 𝒱₀ (c : Thread nD τ) none Set.univ K).trans (congrArg (fun s => waitSpec (c : Thread nD τ) Set.univ s 1 K) (sm_add .agC l m))) (show m < 4 by omega)
      (p := 2 + (8 * (m + 2 + 8) + l.val)) (by show 66 + 8 * (m + 1) + l.val < _; omega) (by show 66 + 8 * (m + 1) + l.val < _; omega) hx) $$ [HcC0 HO Hp0]
    · isplitr; · iexact Hr
      isplitl [HcC0]; · iexact HcC0
      isplitl [HO]; · iexact HO
      iapply (Entails.of_eq (show pos .agC l c (min (m + 2 - 2) 4) = pos .agC l c m by congr 1; omega)) $$ Hp0
    iintro ⟨HO, Hp3, #HrC, Hpay⟩
    dsimp only [pay, Kd.n]
    icases Hpay with ⟨Hslot, #HrR⟩
    ihave Hslot := (Entails.of_eq (agAny_add (k := m + 2 + 1) l (nx l c) rfl).symm) $$ Hslot
    iapply (wp_agFwd I l c h6 rfl) $$ [Hsl Hslot HO HtS0 HtR0]
    · iframe
      isplitr; · iexact Hr
      isplitr; · iexact HrC
      isplitr; · iexact HrS
      iexact HrR
    iintro ⟨Hc, Hsl, HO⟩
    iapply Hk
    iframe
    isplitl [Hc]
    · iapply (Qs_push (le_refl _))
      isplitr; · iapply (Qs_nil (le_refl _) _) $$ Hr
      iexact Hc
    isplitl [Hp1 Hp2 Hp3]
    · rw [show min (m + 2 + 1 - 2) 4 = m + 1 by omega]
      isplitl [Hp1]; · iapply (Entails.of_eq (show pos .agC l c (min (m + 2 - 2) 4 + 1) = pos .agC l c (m + 1) by congr 1; omega)) $$ Hp1
      isplitl [Hp2]; · iapply (Entails.of_eq (show pos .agC l c (min (m + 2 - 2) 4 + 2) = pos .agC l c (m + 1 + 1) by congr 1; omega)) $$ Hp2
      iexact Hp3
    isplitl [HcC]; · iexact HcC
    iapply (Qs_nil (by omega) _) $$ Hr

theorem wp_agFree (l : Fin 8) (c : Dev nD) {h : ℕ} (hh : h < 7) {xs : List (Pay nD τ sig)} {α : Type} {f : PUnit → TcProg F α} {Q : α → sProp 𝕄} :
    iprop(recs I ∗ (if h = 0 then iprop(emp) else agAny l c (h - 1)) ∗ rch .agR l c (h + 2) ∗ rch .agC l (pv l c) (h - 1) ∗ agBack l c h
        ∗ owesL c ((if 1 ≤ h ∧ h < 5 then [due .agC l (pv l c) (h - 1)] else []) ++ xs))
      ⊢ iprop(((agBack l c (h + 1) ∗ owesL c xs) -∗ WP c (f ⟨⟩) Q) -∗ WP c (agFree c l ⟨h, hh⟩ >>= f) Q) := by
  unfold agFree agBack
  rcases h with _ | m
  · rw [if_neg (show ¬ (1 ≤ (⟨0, hh⟩ : Fin 7).val ∧ (⟨0, hh⟩ : Fin 7).val < 5) from fun e => absurd e.1 (by decide : ¬ 1 ≤ 0)),
      if_neg (show ¬ (1 ≤ 0 ∧ 0 < 5) by decide)]
    simp only [Prog.bind_ret, Prog.pure_eq_ret, List.nil_append]
    iintro ⟨#Hr, Hslot, #HrR, #HrC, ⟨Ht, Hkeep⟩, HO⟩ Hk
    iapply Hk
    iframe
  rw [if_neg (Nat.succ_ne_zero m), Nat.add_sub_cancel]
  by_cases h5 : m < 4
  · rw [if_pos (show 1 ≤ (⟨m + 1, hh⟩ : Fin 7).val ∧ (⟨m + 1, hh⟩ : Fin 7).val < 5 from ⟨(by omega : 1 ≤ m + 1), (by omega : m + 1 < 5)⟩),
      if_pos (show 1 ≤ m + 1 ∧ m + 1 < 5 by omega)]
    simp only [semSignalWord, Prog.lift, Prog.bind_op, Prog.bind_ret, Prog.pure_eq_ret, List.singleton_append, Nat.add_sub_cancel]
    iintro ⟨#Hr, Hslot, #HrR, #HrC, ⟨Ht, Hkeep⟩, HO⟩ Hk
    ihave ⟨Ht0, Ht⟩ := (Qs_pop h5) $$ Ht
    iapply (wp_sigK I .agC l c (pv l c) (pvD l c) (pvD_eq l c) (h := m) rfl rfl h5) $$ [Hslot HO Ht0]
    · isplitr; · iexact Hr
      isplitl [HO]; · iexact HO
      isplitl [Ht0]; · iexact Ht0
      isplitl [Hslot]
      · dsimp only [pay]
        rw [nx_pv]
        isplitl [Hslot]; · iexact Hslot
        iexact HrR
      iexact HrC
    iintro HO
    iapply Hk
    iframe
    iapply (Qs_nil (by omega) _) $$ Hr
  · rw [if_neg (show ¬ (1 ≤ (⟨m + 1, hh⟩ : Fin 7).val ∧ (⟨m + 1, hh⟩ : Fin 7).val < 5) from fun e => h5 (by have e2 : m + 1 < 5 := e.2; omega)),
      if_neg (show ¬ (1 ≤ m + 1 ∧ m + 1 < 5) by omega)]
    simp only [Prog.bind_ret, Prog.pure_eq_ret, List.nil_append, Nat.add_sub_cancel]
    iintro ⟨#Hr, Hslot, #HrR, #HrC, ⟨Ht, Hkeep⟩, HO⟩ Hk
    iapply Hk
    iframe
    isplitr; · iapply (Qs_nil (by omega) _) $$ Hr
    iapply (Qs_push (by omega))
    iframe

/-! ## Gathering steps and first sends -/

theorem pays_ag (c : Dev nD) (l : Fin 8) (h : ℕ) : pays c (h + 8) l
    = (if h < 6 then [due .agR l (nx l c) (h + 1)] else []) ++ (if 1 ≤ h ∧ h < 5 then [due .agC l (pv l c) (h - 1)] else []) := by
  unfold pays
  rw [if_neg (by omega), if_neg (by omega), Nat.add_sub_cancel]

theorem kGat_eq (l : Fin 8) (c : Dev nD) {h : ℕ} (hh : h < 7) : kGat l c ⟨h, hh⟩ = rk l c - Fin.ofNat 8 h := by
  unfold kGat
  congr 1
  exact Fin.ext (Nat.mod_eq_of_lt (by omega : h < 8)).symm

theorem credSrc (l : Fin 8) (h : Fin 7) : (agSrc l h).view.dmaCredit = NN := by
  unfold agSrc; split <;> rfl

theorem agHeld_succ (l : Fin 8) (c : Dev nD) {h : ℕ} (hh : h < 7) :
    iprop(stAny l c ∗ agAt l c h (if h = 6 then fullShare else fullShare.left) (gat I l h c)) ⊢ agHeld I l c (h + 1) := by
  unfold agHeld
  rw [if_neg (Nat.succ_ne_zero h), Nat.add_sub_cancel]
  by_cases h6 : h = 6
  · rw [if_pos h6, if_pos (by omega)]
    unfold agAny
    iintro ⟨H1, H2⟩
    isplitl [H1]; · iexact H1
    iexists _; iexact H2
  · rw [if_neg h6, if_neg (by omega)]

theorem wp_agStep (l : Fin 8) (c : Dev nD) {h : ℕ} (hh : h < 7) (V : Fin 8 → Fin 8 → FVec F S512x256 .f32) (hV : V l = outV I c l (h + 7)) :
    iprop(recs I ∗ stA I l c h ∗ owesL c (rem c (8 * (h + 8) + l.val)) ∗ outS c V)
      ⊢ WP c (agStep c ⟨h, hh⟩ l) fun _ =>
        iprop(stA I l c (h + 1) ∗ owesL c (rem c (8 * (h + 8) + l.val + 1)) ∗ outS c (Function.update V l (outV I c l (h + 7 + 1)))) := by
  have hx := rem_from c (8 * (h + 8) + l.val)
  rw [rem_step c (h + 8) (by omega) l, pays_ag c l h, List.append_assoc] at hx ⊢
  rw [outV_ag, ← hV]
  unfold stA agStep
  rw [show min (h + 1) 7 = h + 1 by omega, show min (h + 1 + 1) 7 = min (h + 2) 7 from rfl, Nat.add_sub_cancel]
  simp only [Prog.lift, Prog.bind_op, Prog.bind_ret, Prog.pure_eq_ret]
  iintro ⟨#Hr, ⟨⟨HpS0, HpS1, HpS2⟩, ⟨HpR0, HpR1, HpR2⟩, ⟨#HrS1, #HrS2⟩, ⟨#HrR1, #HrR2⟩, #HrC0, HcS, HcR, Hheld, Ho, Hb, Hdone⟩, HO, Hout⟩
  ihave ⟨HcS, -⟩ := (Qs_pop (by omega)) $$ HcS
  ihave ⟨HcR0, HcR⟩ := (Qs_pop (by omega)) $$ HcR
  iapply (wp_waitK I .agS l c (h := h) (credSrc l _) (wpE_waitDma2_eq 𝒱₀ (c : Thread nD τ) none Set.univ) hh
    (p := 2 + (8 * (h + 8) + l.val)) (by show 0 < _; omega) (by show 0 < _; omega) hx) $$ [HcS HO HpS0]
  · iframe; iexact Hr
  iintro ⟨HO, HpS3, #HrS3, Hpay⟩
  ihave ⟨Hst, Hback⟩ := (agHeld_join I l c hh) $$ [Hheld Hpay]
  · iframe
  iapply (wp_waitK I .agR l c (h := h) (credAg l _) (wpE_waitDma2_eq 𝒱₀ (c : Thread nD τ) none Set.univ) hh
    (p := 2 + (8 * (h + 8) + l.val)) (by show 58 + 8 * h + l.val < _; omega) (by show 58 + 8 * h + l.val < _; omega) hx) $$ [HcR0 HO HpR0]
  · iframe; iexact Hr
  iintro ⟨HO, HpR3, #HrR3, Hpay⟩
  dsimp only [pay, Kd.n]
  icases Hpay with ⟨Hslot, #HrC⟩
  iapply (wp_agNext I l c hh hx) $$ [Hslot Ho HO]
  · iframe
    isplitr; · iexact Hr
    iexact HrS1
  iintro ⟨HcS, Hslot, Ho, HO⟩
  iapply (wp_agFree I l c hh) $$ [Hback Hb HO]
  · iframe
    isplitr; · iexact Hr
    isplitr; · iexact HrR2
    iexact HrC0
  iintro ⟨Hb, HO⟩
  iapply (wp_load_ag l c h _ (gat I l h c)) $$ Hslot; iintro %b %hb Hslot
  have e := (agOff_eq l c ⟨h, hh⟩).trans (congrArg (fun k => tOff k l) (kGat_eq l c hh))
  iapply (wp_load_tile c e V) $$ Hout; iintro Hout
  iapply (wp_store_tile c e V _) $$ Hout; iintro Hout
  unfold WP; rw [wp_ret]; imodintro
  isplitr [HO Hout]
  rotate_left
  · isplitl [HO]; · iexact HO
    rw [hb]; iexact Hout
  ihave Hheld := (agHeld_succ I l c hh) $$ [Hst Hslot]
  · iframe
  isplitl [HpS1 HpS2 HpS3]; · iframe
  isplitl [HpR1 HpR2 HpR3]; · iframe
  isplitr
  · isplitr; · iexact HrS2
    iexact HrS3
  isplitr
  · isplitr; · iexact HrR2
    iexact HrR3
  isplitr; · iexact HrC
  iframe

theorem wp_rsStart (l : Fin 8) (c : Dev nD) (f : Vec F S4096x2048 .f32) (hf : tileRd (rk l c) l f = tileV I c l (rk l c)) :
    iprop(recs I ∗ stS l c ∗ owesL c (rem c (8 * 0 + l.val)) ∗ outF c f)
      ⊢ WP c (rsStart c l) fun _ => iprop(stR l c 0 ∗ owesL c (rem c (8 * 0 + l.val + 1)) ∗ outF c f) := by
  rw [rem_step c 0 (by omega) l, show pays c 0 l = [due .rsR l (nx l c) 0] from rfl, List.singleton_append]
  unfold stS rsStart
  rw [show (rsSend c l 0 : TcProg F PUnit) = rsSend c l 0 >>= fun _ => Prog.ret ⟨⟩ from rfl]
  simp only [Prog.lift, Prog.bind_op, Prog.bind_ret, Prog.pure_eq_ret]
  iintro ⟨#Hr, ⟨⟨HpS0, HpS1⟩, ⟨HpR0, HpR1⟩, ⟨HpC0, HpC1⟩, HcR, HcC, HtS, HtR, HtC, Hnx, Hst, Hag⟩, HO, Hout⟩
  ihave ⟨HtS0, HtS⟩ := (Qs_pop (by omega)) $$ HtS
  ihave ⟨HtR0, HtR⟩ := (Qs_pop (by omega)) $$ HtR
  ihave ⟨Hnx0, Hnx⟩ := (Qs_pop (by omega)) $$ Hnx
  iapply (wp_load_tileF c (ownOff_eq l c) f) $$ Hout; iintro Hout
  rw [hf, shapeCast_self]
  iapply (wp_stage l c _) $$ Hst; iintro Hst
  iapply (wp_rsSend I l c (h := 0) (by decide) rfl _ rfl) $$ [Hst HO HtS0 HtR0 Hnx0]
  · isplitr; · iexact Hr
    isplitl [Hst]; · iexact Hst
    isplitl [Hnx0]; · iexact Hnx0
    isplitr; · iapply (recs_rch I .rsC l c (h := 0) (by decide)) $$ Hr
    isplitl [HO]; · iexact HO
    isplitl [HtS0]; · iexact HtS0
    isplitr; · iapply (recs_rch I .rsS l c (h := 0) (by decide)) $$ Hr
    isplitl [HtR0]; · iexact HtR0
    iapply (recs_rch I .rsR l (nx l c) (h := 0) (by decide)) $$ Hr
  iintro ⟨Hc, HO⟩
  unfold WP; rw [wp_ret]; imodintro
  unfold stR rsOut rsBack
  iframe
  isplitr; · iapply (recs_rch I .rsS l c (h := 1) (by decide)) $$ Hr
  isplitr; · iapply (recs_rch I .rsR l c (h := 1) (by decide)) $$ Hr
  iapply (Qs_nil (by decide) _) $$ Hr

end Cert.Ring

end
-- ==== Proof.Loops.lean ====
/-
The loops over lanes and hops, from the rules of the steps.
-/
module

public import proofs.«01_k».proof.Proof.Lanes

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Cert.KernelIdeal.Facts₀ Cert.KernelIdeal.Facts

variable {F : FTy → Type} [FloatOps F]

local notation "𝕄" => MT nD τ sig ℕ (Elt F) ℕ UU ℕ

variable (I : Ins F)

/-! ## Steps in turn -/

theorem wp_seqL {ι : Type} (c : Dev nD) (f : ι → TcProg F PUnit) (A : ℕ → sProp 𝕄) :
    ∀ (xs : List ι) (n : ℕ), (∀ (i : ℕ) (hi : i < xs.length), A (n + i) ⊢ WP c (f xs[i]) fun _ => A (n + i + 1)) →
      A n ⊢ WP c (seqL f xs) fun _ => A (n + xs.length)
  | [], n, _ => by
    unfold seqL WP
    rw [Prog.pure_eq_ret, wp_ret]
    exact fupd_intro
  | x :: xs, n, h => by
    unfold seqL WP
    rw [wp_bind]
    refine BIBase.Entails.trans (h 0 (Nat.zero_lt_succ _)) (wp_mono _ _ _ fun _ => ?_)
    have := wp_seqL c f A xs (n + 0 + 1) (fun i hi => by
      have := h (i + 1) (Nat.succ_lt_succ hi)
      rw [show n + 0 + 1 + i = n + (i + 1) by omega]
      exact this)
    rw [show n + (x :: xs).length = n + 0 + 1 + xs.length by rw [List.length_cons]; omega]
    exact this

theorem wp_then (c : Dev nD) {α β : Type} {p : TcProg F α} {q : TcProg F β} {A B : sProp 𝕄} {C : β → sProp 𝕄}
    (h : A ⊢ WP c p fun _ => B) (h' : B ⊢ WP c q C) : A ⊢ WP c (p >>= fun _ => q) C := by
  unfold WP at *
  rw [wp_bind]
  exact BIBase.Entails.trans h (wp_mono _ _ _ fun _ => h')

theorem lanes_get : ∀ (i : ℕ) (hi : i < lanes.length), lanes[i] = ⟨i, hi⟩ := by
  intro i hi
  have : ∀ j : Fin 8, lanes[j.val]'(j.isLt) = j := by decide
  exact this ⟨i, hi⟩
theorem hops_get : ∀ (i : ℕ) (hi : i < hops.length), hops[i] = ⟨i, hi⟩ := by
  intro i hi
  have : ∀ j : Fin 7, hops[j.val]'(j.isLt) = j := by decide
  exact this ⟨i, hi⟩

/-- A step that takes lane `l` from `8 n + l` to `8 n + l + 1` gives the loop over the lanes. -/
theorem wp_lanes (c : Dev nD) (f : Fin 8 → TcProg F PUnit) (A : ℕ → sProp 𝕄) (n : ℕ)
    (h : ∀ l : Fin 8, A (8 * n + l.val) ⊢ WP c (f l) fun _ => A (8 * n + l.val + 1)) :
    A (8 * n) ⊢ WP c (seqL f lanes) fun _ => A (8 * (n + 1)) :=
  wp_seqL c f A lanes (8 * n) fun i hi => by rw [lanes_get]; exact h ⟨i, hi⟩

/-- The same for the hops, `n₀` phases in. -/
theorem wp_hops (c : Dev nD) (f : Fin 7 → TcProg F PUnit) (A : ℕ → sProp 𝕄) (n₀ : ℕ)
    (h : ∀ i : Fin 7, A (8 * (n₀ + i.val)) ⊢ WP c (f i) fun _ => A (8 * (n₀ + i.val + 1))) :
    A (8 * n₀) ⊢ WP c (seqL f hops) fun _ => A (8 * (n₀ + 7)) :=
  wp_seqL c f (fun n => A (8 * n)) hops n₀ fun i hi => by rw [hops_get]; exact h ⟨i, hi⟩

/-! ## All lanes -/

/-- A lane `n` phases in. -/
def lst (l : Fin 8) (c : Dev nD) (n : ℕ) : sProp 𝕄 := if n = 0 then stS l c else if n < 8 then stR l c (n - 1) else stA I l c (n - 8)

/-- All lanes before step `T`. -/
def lstT (c : Dev nD) (T : ℕ) : sProp 𝕄 := bigSep Finset.univ fun l : Fin 8 => lst I l c ((T + 7 - l.val) / 8)

/-- The lanes other than `l` do not move in its step. -/
theorem lstT_at (c : Dev nD) (n : ℕ) (l : Fin 8) : ∃ R : sProp 𝕄,
    lstT I c (8 * n + l.val) = iprop(lst I l c n ∗ R) ∧ lstT I c (8 * n + l.val + 1) = iprop(lst I l c (n + 1) ∗ R) := by
  have hl := l.isLt
  refine ⟨bigSep (Finset.univ.erase l) fun l' : Fin 8 => lst I l' c ((8 * n + l.val + 7 - l'.val) / 8), ?_, ?_⟩
  · unfold lstT
    rw [bigSep_univ_at _ l, show (8 * n + l.val + 7 - l.val) / 8 = n by omega]
  · unfold lstT
    rw [bigSep_univ_at _ l, show (8 * n + l.val + 1 + 7 - l.val) / 8 = n + 1 by omega]
    congr 1
    refine bigSep_congr fun l' hl' => ?_
    have hne : l'.val ≠ l.val := fun e => Finset.ne_of_mem_erase hl' (Fin.ext e)
    have := l'.isLt
    rw [show (8 * n + l.val + 1 + 7 - l'.val) / 8 = (8 * n + l.val + 7 - l'.val) / 8 by omega]

/-- The tiles before step `T` of the rings. -/
def VT (c : Dev nD) (T : ℕ) (l : Fin 8) : Fin 8 → FVec F S512x256 .f32 := outV I c l ((T + 7 - l.val) / 8 - 1)

theorem VT_at (c : Dev nD) (n : ℕ) (l : Fin 8) : VT I c (8 * n + l.val) l = outV I c l (n - 1) := by
  have hl := l.isLt
  unfold VT
  rw [show (8 * n + l.val + 7 - l.val) / 8 = n by omega]
theorem VT_succ (c : Dev nD) (n : ℕ) (l : Fin 8) : VT I c (8 * n + l.val + 1) = Function.update (VT I c (8 * n + l.val)) l (outV I c l n) := by
  have hl := l.isLt
  funext l'
  by_cases h : l' = l
  · subst h
    rw [Function.update_self]
    unfold VT
    rw [show (8 * n + l'.val + 1 + 7 - l'.val) / 8 = n + 1 by omega, Nat.add_sub_cancel]
  · have hne : l'.val ≠ l.val := fun e => h (Fin.ext e)
    have := l'.isLt
    rw [Function.update_of_ne h]
    unfold VT
    rw [show (8 * n + l.val + 1 + 7 - l'.val) / 8 = (8 * n + l.val + 7 - l'.val) / 8 by omega]

/-- The rings before step `T`. -/
def Sg (c : Dev nD) (T : ℕ) : sProp 𝕄 := iprop(recs I ∗ lstT I c T ∗ owesL c (rem c T) ∗ outS c (VT I c T))
/-- The first sends before step `T`, the result holding `f`. -/
def Sf (c : Dev nD) (f : Vec F S4096x2048 .f32) (T : ℕ) : sProp 𝕄 := iprop(recs I ∗ lstT I c T ∗ owesL c (rem c T) ∗ outF c f)

theorem Sg_step (c : Dev nD) (n : ℕ) (l : Fin 8) (p : TcProg F PUnit)
    (h : iprop(recs I ∗ lst I l c n ∗ owesL c (rem c (8 * n + l.val)) ∗ outS c (VT I c (8 * n + l.val)))
      ⊢ WP c p fun _ => iprop(lst I l c (n + 1) ∗ owesL c (rem c (8 * n + l.val + 1)) ∗ outS c (VT I c (8 * n + l.val + 1)))) :
    Sg I c (8 * n + l.val) ⊢ WP c p fun _ => Sg I c (8 * n + l.val + 1) := by
  obtain ⟨R, h1, h2⟩ := lstT_at I c n l
  unfold Sg
  rw [h1, h2]
  iintro ⟨#Hr, ⟨Hl, HR⟩, HO, Hout⟩
  iapply (wp_wand_r _ _ _)
  isplitl [Hl HO Hout]
  · iapply h
    iframe
    iexact Hr
  iintro %_ ⟨Hl, HO, Hout⟩
  iframe
  iexact Hr

theorem Sf_step (c : Dev nD) (f : Vec F S4096x2048 .f32) (l : Fin 8) (hf : tileRd (rk l c) l f = tileV I c l (rk l c)) :
    Sf I c f (8 * 0 + l.val) ⊢ WP c (rsStart c l) fun _ => Sf I c f (8 * 0 + l.val + 1) := by
  obtain ⟨R, h1, h2⟩ := lstT_at I c 0 l
  unfold Sf
  rw [h1, h2]
  unfold lst
  rw [if_pos rfl, if_neg (Nat.succ_ne_zero 0), if_pos (by decide)]
  iintro ⟨#Hr, ⟨Hl, HR⟩, HO, Hout⟩
  iapply (wp_wand_r _ _ _)
  isplitl [Hl HO Hout]
  · iapply (wp_rsStart I l c f hf)
    iframe
    iexact Hr
  iintro %_ ⟨Hl, HO, Hout⟩
  iframe
  iexact Hr

theorem Sg_rs (c : Dev nD) (h : Fin 7) (l : Fin 8) :
    Sg I c (8 * (1 + h.val) + l.val) ⊢ WP c (rsStep c h l) fun _ => Sg I c (8 * (1 + h.val) + l.val + 1) := by
  obtain ⟨h, hh⟩ := h
  refine Sg_step I c (1 + h) l _ ?_
  have hV := VT_at I c (1 + h) l
  rw [VT_succ, Nat.add_comm 1 h] at *
  rw [Nat.add_sub_cancel] at hV
  unfold lst
  rw [if_neg (Nat.succ_ne_zero h), if_pos (by omega), Nat.add_sub_cancel, if_neg (Nat.succ_ne_zero (h + 1))]
  by_cases h6 : h < 6
  · rw [if_pos (by omega), Nat.add_sub_cancel, outV_lt I c l h6, ← hV, Function.update_eq_self]
    exact wp_rsStep I l c h6 _ (hV.trans (outV_le I c l h (by omega)))
  · obtain rfl : h = 6 := by omega
    rw [if_neg (by decide)]
    exact wp_rsLast I l c _ hV

theorem Sg_ag (c : Dev nD) (h : Fin 7) (l : Fin 8) :
    Sg I c (8 * (8 + h.val) + l.val) ⊢ WP c (agStep c h l) fun _ => Sg I c (8 * (8 + h.val) + l.val + 1) := by
  obtain ⟨h, hh⟩ := h
  refine Sg_step I c (8 + h) l _ ?_
  have hV := VT_at I c (8 + h) l
  rw [VT_succ, Nat.add_comm 8 h] at *
  unfold lst
  rw [if_neg (by omega), if_neg (by omega), Nat.add_sub_cancel, if_neg (by omega), if_neg (by omega), show h + 8 + 1 - 8 = h + 1 by omega]
  exact wp_agStep I l c hh _ hV

theorem wp_starts (c : Dev nD) (f : Vec F S4096x2048 .f32) (hf : ∀ l, tileRd (rk l c) l f = tileV I c l (rk l c)) :
    Sf I c f 0 ⊢ WP c (seqL (rsStart c) lanes) fun _ => Sf I c f 8 :=
  wp_lanes c (rsStart c) (Sf I c f) 0 fun l => Sf_step I c f l (hf l)

theorem wp_rsRing (c : Dev nD) : Sg I c (8 * 1) ⊢ WP c (seqL (fun h => seqL (rsStep c h) lanes) hops) fun _ => Sg I c (8 * (1 + 7)) :=
  wp_hops c _ (Sg I c) 1 fun h => wp_lanes c (rsStep c h) (Sg I c) (1 + h.val) (Sg_rs I c h)

theorem wp_agRing (c : Dev nD) (n₀ : ℕ) (e : n₀ = 8) : Sg I c (8 * n₀) ⊢ WP c (seqL (fun h => seqL (agStep c h) lanes) hops) fun _ => Sg I c (8 * (n₀ + 7)) :=
  wp_hops c _ (Sg I c) n₀ fun h => wp_lanes c (agStep c h) (Sg I c) (n₀ + h.val) (by subst e; exact Sg_ag I c h)

theorem wp_rings (c : Dev nD) : Sg I c 8 ⊢ WP c (rings c) fun _ => Sg I c 120 := by
  have h1 := wp_rsRing I c
  have h2 := wp_agRing I c (1 + 7) (Nat.add_comm 1 7)
  unfold rings
  generalize seqL (fun h => seqL (rsStep (F := F) c h) lanes) hops = p at *
  generalize seqL (fun h => seqL (agStep (F := F) c h) lanes) hops = q at *
  exact wp_then c h1 h2

/-! ## The local product -/

def xF (c : Dev nD) : sProp 𝕄 := ((c : Thread nD τ).loc cc0_stg0_0) ↦{fullShare} (I.x c)

/-- The row chunks `D` of the result hold the local product. -/
def Gm (c : Dev nD) (D : Fin 8 → Prop) : sProp 𝕄 := iprop(∃ f, ⌜∀ k, D k → rowRd k f = rowV I c k⌝ ∗ outF c f)

/-- What the flag says. -/
def flag (b : BitVec 1) : Prop := Scalar.cmpi .ne (Scalar.extui b : BitVec 32) 0#32 = 1#1

theorem Gm_mono (c : Dev nD) {D D' : Fin 8 → Prop} (h : ∀ k, D' k → D k) : Gm I c D ⊢ Gm I c D' := by
  unfold Gm
  iintro ⟨%f, %hf, H⟩
  iexists f
  isplitr
  · ipureintro; exact fun k hk => hf k (h k hk)
  iexact H

theorem wp_gemmIf (c : Dev nD) (fl : BitVec 1) (k : Fin 8) (D : Fin 8 → Prop) {α : Type} (p : TcProg F α) (Q : α → sProp 𝕄) :
    iprop(xF I c ∗ Gm I c D) ⊢ iprop(((xF I c ∗ Gm I c (fun j => D j ∨ (flag fl ∧ j = k))) -∗ WP c p Q)
      -∗ WP c (gemmIf fl (scale I c) (wbf I c) k p) Q) := by
  unfold gemmIf
  by_cases hfl : flag fl
  · rw [dif_pos (show Scalar.cmpi .ne (Scalar.extui fl : BitVec 32) 0#32 = 1#1 from hfl)]
    simp only [Prog.lift, Prog.bind_op, Prog.bind_ret, Prog.pure_eq_ret]
    unfold xF Gm outF
    iintro ⟨Hx, ⟨%f, %hf, Hout⟩⟩ Hk
    iapply (wp_load_rect 𝒱₀ (c : Thread nD τ) none Set.univ (m := aX) (r := rX k) (Finset.subset_univ _)) $$ Hx; iintro Hx
    iapply (wp_load_rect 𝒱₀ (c : Thread nD τ) none Set.univ (m := aOut) (r := rRows k) (Finset.subset_univ _)) $$ Hout; iintro Hout
    iapply (wp_store 𝒱₀ (c : Thread nD τ) none Set.univ (m := aOut) (r := rRows k) (Mk := Finset.univ) (Finset.subset_univ _)) $$ Hout; iintro Hout
    iapply Hk
    isplitl [Hx]; · iexact Hx
    iexists _
    isplitr
    rotate_left
    · iexact Hout
    ipureintro
    intro j hj
    by_cases hjk : j = k
    · subst hjk
      exact rowRd_write_same j f _
    · rw [rowRd_write_other hjk]
      exact hf j (hj.resolve_right fun h => hjk h.2)
  · rw [dif_neg (show ¬ Scalar.cmpi .ne (Scalar.extui fl : BitVec 32) 0#32 = 1#1 from hfl)]
    simp only [Prog.bind_ret, Prog.pure_eq_ret]
    iintro ⟨Hx, Hout⟩ Hk
    iapply Hk
    isplitl [Hx]; · iexact Hx
    iapply (Gm_mono I c (fun j (hj : D j ∨ (flag fl ∧ j = k)) => hj.resolve_right fun h => hfl h.1)) $$ Hout

theorem wp_gemms (c : Dev nD) (fl : Fin 8 → BitVec 1) {α : Type} (p : TcProg F α) (Q : α → sProp 𝕄) : ∀ (cs : List (Fin 8)) (D : Fin 8 → Prop),
    iprop(xF I c ∗ Gm I c D) ⊢ iprop(((xF I c ∗ Gm I c (fun j => D j ∨ (flag (fl j) ∧ j ∈ cs))) -∗ WP c p Q)
      -∗ WP c (gemms fl (scale I c) (wbf I c) cs p) Q)
  | [], D => by
    unfold gemms
    iintro ⟨Hx, Hout⟩ Hk
    iapply Hk
    isplitl [Hx]; · iexact Hx
    iapply (Gm_mono I c (fun j (hj : D j ∨ (flag (fl j) ∧ j ∈ [])) => hj.resolve_right fun h => List.not_mem_nil h.2)) $$ Hout
  | k :: cs, D => by
    unfold gemms
    iintro H Hk
    iapply (wp_gemmIf I c (fl k) k D) $$ H
    iintro H
    iapply (wp_gemms c fl p Q cs _) $$ H
    iintro ⟨Hx, Hout⟩
    iapply Hk
    isplitl [Hx]; · iexact Hx
    iapply (Gm_mono I c (fun j (hj : D j ∨ (flag (fl j) ∧ j ∈ k :: cs)) => by
      rcases hj with hj | ⟨h1, h2⟩
      · exact Or.inl (Or.inl hj)
      · rcases List.mem_cons.mp h2 with rfl | h2
        · exact Or.inl (Or.inr ⟨h1, rfl⟩)
        · exact Or.inr ⟨h1, h2⟩)) $$ Hout

end Cert.Ring

end
-- ==== Proof.StructEq.lean ====
module

public import proofs.«01_k».proof.Proof.Struct

@[expose] public section

set_option maxRecDepth 100000

noncomputable section

namespace Cert.Ring

open Cert.KernelIdeal
open Idealize.ShloMosaic Idealize.ShloMosaic.TcCoe
open Idealize.SL Idealize.SL.Sem
open Cert.KernelIdeal.Facts₀ Cert.KernelIdeal.Facts

variable {F : FTy → Type} [FloatOps F]

theorem part3_eq (d : Dev nD) (s : F .f32) (w : FVec F S512x2048 .bf16) :
    k0_part3 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (rkCcw d) s w (isOwn d ⟨0, by decide⟩) (isOwn d ⟨1, by decide⟩) (isOwn d ⟨2, by decide⟩) (Scalar.cmpi .eq 3#32 (rkCw d)) =
      gemms (isOwn d) s w lanes (Prog.lift (.load aOut (rOwn ⟨0, by decide⟩ d).toLoadRect (View.loadsAt_vmem h_S512x256)) >>= fun v =>
        pure ⟨isOwn d ⟨3, by decide⟩, isOwn d ⟨4, by decide⟩, isOwn d ⟨5, by decide⟩, isOwn d ⟨6, by decide⟩, isOwn d ⟨7, by decide⟩, v⟩) := by
  chain_rfl

theorem part9_eq (d : Dev nD) (s : F .f32) (w : FVec F S512x2048 .bf16) :
    k0_part9 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 s w (isOwn d ⟨0, by decide⟩) (isOwn d ⟨1, by decide⟩) (isOwn d ⟨2, by decide⟩) (isOwn d ⟨3, by decide⟩) (isOwn d ⟨4, by decide⟩) (isOwn d ⟨5, by decide⟩) (isOwn d ⟨6, by decide⟩) (isOwn d ⟨7, by decide⟩) 1#1 =
      gemms (fun c => Scalar.xori (isOwn d c) 1#1) s w lanes (pure ⟨⟩) := by
  chain_rfl

/-- A place on the ring reduced to `0 … 7`, as the kernel computes it. -/
def wrap8 (x : BitVec 32) : BitVec 32 :=
  let v36 : BitVec 32 := Scalar.select (Scalar.cmpi .eq 8#32 0#32) 1#32 8#32
  let v37 : BitVec 32 := Scalar.remsi x v36
  Scalar.select (Scalar.andi (Scalar.xori (Scalar.cmpi .slt v37 0#32) (Scalar.cmpi .slt v36 0#32)) (Scalar.cmpi .ne v37 0#32)) (Scalar.addi v37 v36) v37
/-- The device at a place on the ring. -/
def devAt (r : BitVec 32) : BitVec 32 := Scalar.select (Scalar.cmpi .slt r 4#32) r (Scalar.subi 11#32 r)

/-- The first part of the body, then anything. -/
theorem part1_bind {β γ : Type} (T : (Σ' (d0 : Dev nD) (v5 : BitVec 32) (v19 : BitVec 32) (v33 : BitVec 32) (v34 : BitVec 32), BitVec 32) → TcProg F β) (K : β → TcProg F γ) :
    ((k0_part1 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 >>= T) >>= K) =
      (Prog.lift .deviceId >>= fun d => T ⟨d, rkCw d, (devAt (wrap8 (Scalar.addi (rkCw d) 1#32))), (devAt (wrap8 (Scalar.subi (rkCw d) 1#32))), Scalar.subi 8#32 (rkCw d), 8#32⟩ >>= K) := by
  chain_rfl

/-- The second part, then anything. -/
theorem part2_bind {β γ : Type} (d : Dev nD) (T : (Σ' (v44 : BitVec 32) (v54 : F .f32) (v57 : FVec F S512x2048 .bf16) (v60 : BitVec 1) (v63 : BitVec 1) (v66 : BitVec 1), BitVec 1) → TcProg F β) (K : β → TcProg F γ) :
    ((k0_part2 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (devAt (wrap8 (Scalar.addi (rkCw d) 1#32))) (devAt (wrap8 (Scalar.subi (rkCw d) 1#32))) (Scalar.subi 8#32 (rkCw d)) 8#32 >>= T) >>= K) =
      shake d (fun s w => T ⟨rkCcw d, s, w, (isOwn d ⟨0, by decide⟩), (isOwn d ⟨1, by decide⟩), (isOwn d ⟨2, by decide⟩), Scalar.cmpi .eq 3#32 (rkCw d)⟩ >>= K) := by
  chain_rfl

/-- The third part's products first, then its load and anything. -/
theorem part3_bind {β γ : Type} (d : Dev nD) (s : F .f32) (w : FVec F S512x2048 .bf16) (T : (Σ' (v69 : BitVec 1) (v72 : BitVec 1) (v75 : BitVec 1) (v78 : BitVec 1) (v81 : BitVec 1), Vec F S512x256 .f32) → TcProg F β) (K : β → TcProg F γ) :
    ((k0_part3 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (rkCcw d) s w (isOwn d ⟨0, by decide⟩) (isOwn d ⟨1, by decide⟩) (isOwn d ⟨2, by decide⟩) (Scalar.cmpi .eq 3#32 (rkCw d)) >>= T) >>= K) =
      gemms (isOwn d) s w lanes (Prog.lift (.load aOut (rOwn ⟨0, by decide⟩ d).toLoadRect (View.loadsAt_vmem h_S512x256)) >>= fun v =>
        T ⟨(isOwn d ⟨3, by decide⟩), (isOwn d ⟨4, by decide⟩), (isOwn d ⟨5, by decide⟩), (isOwn d ⟨6, by decide⟩), (isOwn d ⟨7, by decide⟩), v⟩ >>= K) := by
  rw [part3_eq, gemms_bind, gemms_bind]
  rfl

/-- The first sends of the lanes and the remaining products, then anything. -/
theorem part8_bind {β γ : Type} (d : Dev nD) (s : F .f32) (w : FVec F S512x2048 .bf16) (T5 : (Σ' (v156 : FVec F S512x256 .bf16), Vec F S1x512x256 .bf16) → TcProg F β) (T8 : BitVec 1 → TcProg F β)
    (R : TcProg F β) (K : β → TcProg F γ)
    (h5 : ∀ a b, T5 ⟨a, b⟩ = (k0_part6 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (devAt (wrap8 (Scalar.addi (rkCw d) 1#32))) (devAt (wrap8 (Scalar.subi (rkCw d) 1#32))) a b >>= fun _ => k0_part7 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (devAt (wrap8 (Scalar.subi (rkCw d) 1#32))) (rkCcw d) >>= fun _ =>
      k0_part8 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (devAt (wrap8 (Scalar.addi (rkCw d) 1#32))) (devAt (wrap8 (Scalar.subi (rkCw d) 1#32))) (rkCcw d) >>= T8))
    (h8 : T8 1#1 = (k0_part9 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 s w (isOwn d ⟨0, by decide⟩) (isOwn d ⟨1, by decide⟩) (isOwn d ⟨2, by decide⟩) (isOwn d ⟨3, by decide⟩) (isOwn d ⟨4, by decide⟩) (isOwn d ⟨5, by decide⟩) (isOwn d ⟨6, by decide⟩) (isOwn d ⟨7, by decide⟩) 1#1 >>= fun _ => R)) :
    (Prog.lift (.load aOut (rOwn ⟨0, by decide⟩ d).toLoadRect (View.loadsAt_vmem h_S512x256)) >>= fun v =>
        (k0_part4 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (devAt (wrap8 (Scalar.addi (rkCw d) 1#32))) (devAt (wrap8 (Scalar.subi (rkCw d) 1#32))) (rkCcw d) v >>= fun _ => k0_part5 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (devAt (wrap8 (Scalar.addi (rkCw d) 1#32))) (rkCcw d) >>= T5) >>= K) =
      (seqL (rsStart d) lanes >>= fun _ => gemms (fun c => Scalar.xori (isOwn d c) 1#1) s w lanes (R >>= K)) := by
  obtain rfl : T5 = fun x => (k0_part6 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (devAt (wrap8 (Scalar.addi (rkCw d) 1#32))) (devAt (wrap8 (Scalar.subi (rkCw d) 1#32))) x.1 x.2 >>= fun _ => k0_part7 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (rkCw d) (devAt (wrap8 (Scalar.subi (rkCw d) 1#32))) (rkCcw d) >>= fun _ =>
      k0_part8 aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 d (devAt (wrap8 (Scalar.addi (rkCw d) 1#32))) (devAt (wrap8 (Scalar.subi (rkCw d) 1#32))) (rkCcw d) >>= T8) := funext fun x => h5 x.1 x.2
  refine Eq.trans (b := seqL (rsStart d) lanes >>= fun _ => (T8 1#1 >>= K)) (by chain_rfl) ?_
  rw [h8, part9_eq, gemms_bind, gemms_bind]
  rfl

theorem body_eq : cc0_body (F := F) aX (Memref.isWhole_whole _) aW (Memref.isWhole_whole _) aSx (Memref.isWhole_whole _) aSw (Memref.isWhole_whole _) aOut (Memref.isWhole_whole _) aSt (Memref.isWhole_whole _) aRs (Memref.isWhole_whole _) cc0_scratch2 cc0_scratch3 cc0_scratch4 aAg (Memref.isWhole_whole _) cc0_scratch6 cc0_scratch7 cc0_scratch8 = kbody := by
  unfold cc0_body k0_part219
  rw [part1_bind]
  unfold kbody
  congr 1
  funext d
  refine (part2_bind d _ _).trans ?_
  refine congrArg (shake d) (funext fun s => funext fun w => ?_)
  refine (part3_bind d s w _ _).trans ?_
  refine congrArg (gemms _ s w lanes) ?_
  refine (part8_bind d s w _ _ _ _ (fun a b => rfl) rfl).trans ?_
  refine congrArg (seqL (rsStart d) lanes >>= ·) (funext fun _ => congrArg (gemms _ s w lanes) ?_)
  chain_rfl

end Cert.Ring

end
-- ==== Proof.Body.lean ====
/-
One device's whole run: the handshake, the products, the rings, and the semaphores closed at the end.
-/
module

public import proofs.«01_k».proof.Proof.Loops
public import proofs.«01_k».proof.Proof.StructEq

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Idealize.ShloMosaic.SiteBlocks (L lv mem_L' mayWait_of)
open Cert.KernelIdeal.Facts₀ Cert.KernelIdeal.Facts

variable {F : FTy → Type} [FloatOps F]

local notation "𝕄" => MT nD τ sig ℕ (Elt F) ℕ UU ℕ

variable (I : Ins F)

/-! ## The result -/

theorem tile_ex (j : S4096x2048.Idx) : ∃ x : Fin 8 × Fin 8 × S512x256.Idx, (rT x.1 x.2.1).emb x.2.2 = j := by
  have j0 : (j 0 : Nat) < 4096 := (j 0).isLt
  have j1 : (j 1 : Nat) < 2048 := (j 1).isLt
  obtain ⟨l, hl⟩ : ∃ l : Fin 8, col l = ⟨(j 1 : Nat) / 256, by omega⟩ :=
    (by decide : ∀ n : Fin 8, ∃ l : Fin 8, col l = n) _
  have hl' : (col l).val = (j 1 : Nat) / 256 := congrArg Fin.val hl
  refine ⟨(⟨(j 0 : Nat) / 512, by omega⟩, l, Fin.cons ⟨(j 0 : Nat) % 512, Nat.mod_lt _ (by decide)⟩
    (Fin.cons ⟨(j 1 : Nat) % 256, Nat.mod_lt _ (by decide)⟩ fun a => a.elim0)), ?_⟩
  funext a
  refine Fin.ext ?_
  rw [Rect.emb_apply]
  fin_cases a
  · show 512 * ((j 0 : Nat) / 512) + 1 * ((j 0 : Nat) % 512) = (j 0 : Nat); omega
  · show 256 * (col l).val + 1 * ((j 1 : Nat) % 256) = (j 1 : Nat); omega

/-- The tile an element of the result lies in, and where. -/
def tileOf (j : S4096x2048.Idx) : Fin 8 × Fin 8 × S512x256.Idx := (tile_ex j).choose
theorem tileOf_emb (k l : Fin 8) (i : S512x256.Idx) : tileOf ((rT k l).emb i) = (k, l, i) := by
  have h := (tile_ex ((rT k l).emb i)).choose_spec
  unfold tileOf
  generalize (tile_ex ((rT k l).emb i)).choose = x at *
  obtain ⟨k', l', i'⟩ := x
  replace h : (rT k' l').emb i' = (rT k l).emb i := h
  have hkl : k = k' ∧ l = l' := by
    by_contra hne
    have h1 : (rT k l).emb i ∈ (aOut.access (rT k l)).set := Finset.mem_map.mpr ⟨i, Finset.mem_univ _, rfl⟩
    have h2 : (rT k l).emb i ∈ (aOut.access (rT k' l')).set := Finset.mem_map.mpr ⟨i', Finset.mem_univ _, h⟩
    exact Finset.disjoint_left.mp (tile_disjoint (k := k) (l := l) (k' := k') (l' := l') hne) h1 h2
  obtain ⟨rfl, rfl⟩ := hkl
  rw [(rT k l).emb.injective h]

/-- Device `c`'s result. -/
def res (c : Dev nD) : Vec F S4096x2048 .f32 := fun j => outV I c (tileOf j).2.1 14 (tileOf j).1 (tileOf j).2.2
theorem tileRd_res (c : Dev nD) (k l : Fin 8) : tileRd k l (res I c) = outV I c l 14 k := by
  funext i
  unfold tileRd res
  rw [tileOf_emb]

/-! ## The handshake -/

/-- The staged inputs of device `c`. -/
def inp (c : Dev nD) : sProp 𝕄 :=
  iprop(xF I c ∗ (((c : Thread nD τ).loc cc0_stg1_0) ↦{fullShare} (I.w c)) ∗ (((c : Thread nD τ).loc cc0_stg2_0) ↦{fullShare} (I.sx c))
    ∗ (((c : Thread nD τ).loc cc0_stg3_0) ↦{fullShare} (I.sw c)))

/-- What device `c` needs for the handshake. -/
def shakeRes (c : Dev nD) : sProp 𝕄 :=
  iprop(atPos ER (barCell c) 0 ∅ 0 ∗ cred (tallyAt (barCell c) 1 2) ∗ dutyTok ER (barCell (pv 0 c)) 0 true ∗ dutyTok ER (barCell (nx 0 c)) 0 false
    ∗ bigSep Finset.univ fun l => bufs l c)

theorem half_pv : ∀ (c : Dev nD), ∀ l ∈ half true, nx l (pv 0 c) = c := by decide
theorem half_nx : ∀ (c : Dev nD), ∀ l ∈ half false, nx l (nx 0 c) = c := by decide

theorem bufs_halves (c : Dev nD) : (bigSep Finset.univ fun l => bufs (F := F) l c) ⊢ iprop(barPay (F := F) (pv 0 c) true ∗ barPay (F := F) (nx 0 c) false) := by
  unfold barPay
  rw [bigSep_congr (fun l hl => by rw [half_pv c l hl] : ∀ l ∈ half true, bufs (F := F) l (nx l (pv 0 c)) = bufs l c),
    bigSep_congr (fun l hl => by rw [half_nx c l hl] : ∀ l ∈ half false, bufs (F := F) l (nx l (nx 0 c)) = bufs l c),
    ← show half true ∪ half false = Finset.univ by decide, bigSep_union (by decide)]
  exact Entails.refl _

theorem dev1_eq : ∀ c : Dev nD, (⟨k0_dev1 c, k0_dev1_lt c⟩ : Dev nD) = pv 0 c := by decide +kernel
theorem dev2_eq : ∀ c : Dev nD, (⟨k0_dev2 c, k0_dev2_lt c⟩ : Dev nD) = nx 0 c := by decide +kernel

theorem wp_barSig (c c' n : Dev nD) (hn : n = c') (d : Bool) {xs : List (Pay nD τ sig)} {α : Type} {f : PUnit → TcProg F α} {Q : α → sProp 𝕄} :
    iprop(recs I ∗ owesL c ((barCell c', 1, 1) :: xs) ∗ dutyTok ER (barCell c') 0 d ∗ barPay c' d)
      ⊢ iprop((owesL c xs -∗ WP c (f ⟨⟩) Q) -∗ WP c (semSignalWord n bar 1#32 >>= f) Q) := by
  subst hn
  simp only [semSignalWord, Prog.lift, Prog.bind_op, Prog.bind_ret, Prog.pure_eq_ret]
  unfold owesL
  iintro ⟨#Hr, ⟨%W, HO⟩, Ht, Hp⟩ Hk
  ihave ⟨Hi, #Hq⟩ := (recs_bar I n) $$ Hr
  unfold Inv
  icases Hi with ⟨%κ, #Hi⟩
  iapply (Rounds.wp_signal 𝒱₀ ER (Rd I) (c : Thread nD τ) none (dst := (n : Thread nD τ)) (κ := κ) (r := 0) (O₀ := tallyL ((barCell n, 1, 1) :: xs)) (W := W)
      (d := d) (by rw [duties_bar]; exact Finset.mem_univ _) (show 1 = (1#32).toNat by decide) 1 (tallyL xs)
      (by rw [tallyL_cons, add_comm]; rfl)) $$ [HO Ht Hp]
  · isplitr; · iexact Hi
    isplitl [HO]; · iexact HO
    isplitl [Ht]; · iexact Ht
    isplitl [Hp]; · rw [payload_bar]; iexact Hp
    iexact Hq
  iintro HO
  iapply Hk
  iexists W; iexact HO

theorem wp_barWait (c : Dev nD) {xs : List (Pay nD τ sig)} (hx : From 2 xs) {α : Type} {f : PUnit → TcProg F α} {Q : α → sProp 𝕄} :
    iprop(recs I ∗ owesL c xs ∗ atPos ER (barCell c) 0 ∅ 0 ∗ cred (tallyAt (barCell c) 1 2))
      ⊢ iprop(((owesL c xs ∗ atPos ER (barCell c) 1 ∅ 0 ∗ bigSep Finset.univ fun l => bufs (F := F) l (nx l c)) -∗ WP c (f ⟨⟩) Q)
        -∗ WP c (semWaitWord bar 2#32 >>= f) Q) := by
  simp only [semWaitWord, Prog.lift, Prog.bind_op, Prog.bind_ret, Prog.pure_eq_ret]
  unfold owesL
  iintro ⟨#Hr, ⟨%W, HO⟩, Hp, Hc⟩ Hk
  ihave ⟨Hi, -⟩ := (recs_bar I c) $$ Hr
  unfold Inv
  icases Hi with ⟨%κ, #Hi⟩
  iapply (Rounds.wp_wait_rest_token 𝒱₀ ER (Rd I) (c : Thread nD τ) none (κ := κ)
      (wpE_semWait_eq 𝒱₀ (c : Thread nD τ) none Set.univ) (Set.mem_univ _) 1 (O := tallyL xs) (W := W)
      (R := 0) (m := 0) (T := ∅) (by rw [expect_bar]; decide)) $$ [Hc HO Hp]
  · isplitr; · iexact Hi
    isplitl [Hc]; · iexact Hc
    isplitl [HO]; · iexact HO
    isplitr
    · iapply (mayWait c (.reg bar) (show 1 < 2 by decide) (by decide) hx)
      iapply (recs_lev I) $$ Hr
    iexact Hp
  iintro ⟨HO, Hp, -, Hpay⟩
  iapply Hk
  isplitl [HO]; · iexists _; iexact HO
  isplitl [Hp]; · iexact Hp
  iapply (Entails.of_eq (rest_bar I c)) $$ Hpay

theorem hz1 : (![0] : Fin 1 → Nat) = fun _ => 0 := funext fun a => by fin_cases a; rfl
theorem hz2 : (![0, 0] : Fin 2 → Nat) = fun _ => 0 := funext fun a => by fin_cases a <;> rfl

theorem wp_shake (c : Dev nD) {α : Type} (k : F .f32 → FVec F S512x2048 .bf16 → TcProg F α) (Q : α → sProp 𝕄) :
    iprop(recs I ∗ shakeRes c ∗ owesL c (dueL c) ∗ inp I c)
      ⊢ iprop(((owesL c (rem c 0) ∗ atPos ER (barCell c) 1 ∅ 0 ∗ (bigSep Finset.univ fun l => bufs (F := F) l (nx l c)) ∗ inp I c)
          -∗ WP c (k (scale I c) (wbf I c)) Q) -∗ WP c (shake c k) Q) := by
  unfold shake shakeRes dueL inp
  iintro ⟨#Hr, ⟨Hp, Hc, Ht, Hf, Hb⟩, HO, Hx, Hw, Hsx, Hsw⟩ Hk
  ihave ⟨Hbt, Hbf⟩ := (bufs_halves c) $$ Hb
  iapply (wp_barSig I c (pv 0 c) _ (dev1_eq c) true) $$ [HO Ht Hbt]
  · iframe; iexact Hr
  iintro HO
  iapply (wp_barSig I c (nx 0 c) _ (dev2_eq c) false) $$ [HO Hf Hbf]
  · iframe; iexact Hr
  iintro HO
  iapply (wp_barWait I c (rem_from c 0)) $$ [HO Hp Hc]
  · iframe; iexact Hr
  iintro ⟨HO, Hp, Hb⟩
  simp only [Prog.lift, Prog.bind_op, Prog.bind_ret, Prog.pure_eq_ret]
  iapply (wp_load 𝒱₀ (c : Thread nD τ) none Set.univ (m := aSx) (Finset.subset_univ _)) $$ Hsx; iintro Hsx
  iapply (wp_load 𝒱₀ (c : Thread nD τ) none Set.univ (m := aSw) (Finset.subset_univ _)) $$ Hsw; iintro Hsw
  iapply (wp_load 𝒱₀ (c : Thread nD τ) none Set.univ (m := aW) (Finset.subset_univ _)) $$ Hw; iintro Hw
  rw [show (aSx.view.readAt (Elt F) (Rect.unit (s := S1) ![0] S1.size inb_S1_S1_0).toLoadRect (I.sx c)) = I.sx c from Memref.readAt_unit_zero (Elt F) cc0_stg2_0 hz1 _ _,
    show (aSw.view.readAt (Elt F) (Rect.unit (s := S1) ![0] S1.size inb_S1_S1_0).toLoadRect (I.sw c)) = I.sw c from Memref.readAt_unit_zero (Elt F) cc0_stg3_0 hz1 _ _,
    show (aW.view.readAt (Elt F) (Rect.unit (s := S512x2048) ![0, 0] S512x2048.size inb_S512x2048_S512x2048_0_0).toLoadRect (I.w c)) = I.w c from
      Memref.readAt_unit_zero (Elt F) cc0_stg1_0 hz2 _ _]
  iapply Hk
  iframe

/-! ## A lane's holdings at launch and at the end -/

/-- The uses of a lane: a kind and a use of it. -/
abbrev CL : Type := (k : Kd) × Fin k.len

theorem kd_eq (Φ : Kd → sProp 𝕄) : bigSep Finset.univ Φ = iprop(Φ .rsS ∗ Φ .rsR ∗ Φ .rsC ∗ Φ .agS ∗ Φ .agR ∗ Φ .agC) := by
  rw [bigSep_univ_eq_bigSepL [Kd.rsS, .rsR, .rsC, .agS, .agR, .agC] (by decide) (by decide) Φ]
  rfl
theorem fin_Qs (n : ℕ) (f : ℕ → sProp 𝕄) : (bigSep Finset.univ fun i : Fin n => f i.val) = Qs f 0 n := by
  unfold Qs
  rw [show Finset.Ico 0 n = Finset.univ.map Fin.valEmbedding by rw [Fin.map_valEmbedding_univ (n := n)]; ext i; simp, bigSep_map]
  rfl
theorem Qs_two (f : ℕ → sProp 𝕄) (a : ℕ) : Qs f a (a + 2) = iprop(f a ∗ f (a + 1)) := by
  unfold Qs
  rw [bigSep_Ico_succ_bot (by omega), bigSep_Ico_one]
theorem Qs_three (f : ℕ → sProp 𝕄) (a : ℕ) : Qs f a (a + 3) = iprop(f a ∗ f (a + 1) ∗ f (a + 2)) := by
  unfold Qs
  rw [bigSep_Ico_succ_bot (by omega), bigSep_Ico_succ_bot (by omega), bigSep_Ico_one]

/-- A holding per slot, written out; -/
theorem ck_eq (Φ : Kd → ℕ → sProp 𝕄) : (bigSep Finset.univ fun x : CK => Φ x.1 x.2.val)
    = iprop((Φ .rsS 0 ∗ Φ .rsS 1) ∗ (Φ .rsR 0 ∗ Φ .rsR 1) ∗ (Φ .rsC 0 ∗ Φ .rsC 1)
      ∗ (Φ .agS 0 ∗ Φ .agS 1 ∗ Φ .agS 2) ∗ (Φ .agR 0 ∗ Φ .agR 1 ∗ Φ .agR 2) ∗ (Φ .agC 0 ∗ Φ .agC 1 ∗ Φ .agC 2)) := by
  rw [Pipeline.bigSep_univ_sigma, bigSep_congr (fun k _ => fin_Qs k.n (Φ k)), kd_eq]
  simp only [Kd.n]
  rw [Qs_two (Φ .rsS) 0, Qs_two (Φ .rsR) 0, Qs_two (Φ .rsC) 0, Qs_three (Φ .agS) 0, Qs_three (Φ .agR) 0, Qs_three (Φ .agC) 0]
/-- and per use. -/
theorem cl_eq (Φ : Kd → ℕ → sProp 𝕄) : (bigSep Finset.univ fun x : CL => Φ x.1 x.2.val)
    = iprop(Qs (Φ .rsS) 0 7 ∗ Qs (Φ .rsR) 0 7 ∗ Qs (Φ .rsC) 0 5 ∗ Qs (Φ .agS) 0 7 ∗ Qs (Φ .agR) 0 7 ∗ Qs (Φ .agC) 0 4) := by
  rw [Pipeline.bigSep_univ_sigma, bigSep_congr (fun k _ => fin_Qs k.len (Φ k)), kd_eq]
  rfl

/-- Whose cell device `c` pays for a use. -/
def tgt (k : Kd) (l : Fin 8) (c : Dev nD) : Dev nD := match k with
  | .rsS => c | .agS => c | .rsR => nx l c | .agR => nx l c | .rsC => pv l c | .agC => pv l c

/-- What a lane has at launch. -/
def lane0 (l : Fin 8) (c : Dev nD) : sProp 𝕄 :=
  iprop((bigSep Finset.univ fun x : CK => pos x.1 l c x.2.val) ∗ (bigSep Finset.univ fun x : CL => tok x.1 l (tgt x.1 l c) x.2.val)
    ∗ (Qs (crd .rsR l c) 0 7 ∗ Qs (crd .rsC l c) 0 5 ∗ Qs (crd .agR l c) 0 7 ∗ Qs (crd .agC l c) 0 4) ∗ stAny l c)

theorem lane0_stS (l : Fin 8) (c : Dev nD) : iprop(lane0 l c ∗ bufs (F := F) l (nx l c)) ⊢ stS l c := by
  unfold lane0 bufs
  rw [ck_eq (fun k h => pos k l c h), cl_eq (fun k h => tok k l (tgt k l c) h)]
  unfold stS agInit tgt
  rw [Qs_two (rsAny l (nx l c)) 0, Qs_three (agAny l (nx l c)) 0]
  iintro ⟨⟨⟨P1, P2, P3, P4, P5, P6⟩, ⟨T1, T2, T3, T4, T5, T6⟩, ⟨C1, C2, C3, C4⟩, S⟩, B1, B2, B3, B4, B5⟩
  iframe

/-- A lane's cells with their counters at zero. -/
def lane1 (l : Fin 8) (c : Dev nD) : sProp 𝕄 := bigSep Finset.univ fun x : CK => semVal (cell x.1 l c x.2.val) 0

theorem close (k : Kd) (l : Fin 8) (c : Dev nD) (h s : ℕ) (hh : k.len ≤ h) (hs : h % k.n = s) :
    iprop(recs I ∗ pos k l c h) ⊢ |={Set.univ}=> (semVal (cell k l c s) 0 : sProp 𝕄) := by
  subst hs
  rw [show cell k l c (h % k.n) = cell k l c h by unfold cell; rw [sm_mod]]
  iintro ⟨#Hr, Hp⟩
  ihave Hi := (recs_inv I k l c h) $$ Hr
  unfold Inv pos
  icases Hi with ⟨%κ, #Hi⟩
  iapply (Rounds.cell_close ER (Rd I) (Set.mem_univ κ) (fun h => h) (R := h / k.n) (fun r hr => duties_after I k l c hh r hr))
  isplitr; · iexact Hi
  iexact Hp

theorem close_bar (c : Dev nD) : iprop(recs I ∗ atPos ER (barCell c) 1 ∅ 0) ⊢ |={Set.univ}=> (semVal (barCell c) 0 : sProp 𝕄) := by
  iintro ⟨#Hr, Hp⟩
  ihave ⟨Hi, -⟩ := (recs_bar I c) $$ Hr
  unfold Inv
  icases Hi with ⟨%κ, #Hi⟩
  iapply (Rounds.cell_close ER (Rd I) (Set.mem_univ κ) (fun h => h) (R := 1) (fun r hr => duties_bar_after I c r hr))
  isplitr; · iexact Hi
  iexact Hp

theorem close2 (k : Kd) (l : Fin 8) (c : Dev nD) (h s s' : ℕ) (hh : k.len ≤ h) (hs : h % k.n = s) (hs' : (h + 1) % k.n = s') :
    iprop(recs I ∗ pos k l c h ∗ pos k l c (h + 1)) ⊢ |={Set.univ}=> iprop(semVal (cell k l c s) 0 ∗ semVal (cell k l c s') 0 : sProp 𝕄) := by
  iintro ⟨#Hr, H1, H2⟩
  imod (close I k l c h s hh hs) $$ [H1] with H1
  · isplitr; · iexact Hr
    iexact H1
  imod (close I k l c (h + 1) s' (by omega) hs') $$ [H2] with H2
  · isplitr; · iexact Hr
    iexact H2
  imodintro
  iframe

theorem close3 (k : Kd) (l : Fin 8) (c : Dev nD) (h s s' s'' : ℕ) (hh : k.len ≤ h) (hs : h % k.n = s) (hs' : (h + 1) % k.n = s') (hs'' : (h + 2) % k.n = s'') :
    iprop(recs I ∗ pos k l c h ∗ pos k l c (h + 1) ∗ pos k l c (h + 2))
      ⊢ |={Set.univ}=> iprop(semVal (cell k l c s) 0 ∗ semVal (cell k l c s') 0 ∗ semVal (cell k l c s'') 0 : sProp 𝕄) := by
  iintro ⟨#Hr, H1, H2, H3⟩
  imod (close2 I k l c h s s' hh hs hs') $$ [H1 H2] with ⟨H1, H2⟩
  · isplitr; · iexact Hr
    iframe
  imod (close I k l c (h + 2) s'' (by omega) hs'') $$ [H3] with H3
  · isplitr; · iexact Hr
    iexact H3
  imodintro
  iframe

theorem lane_end (l : Fin 8) (c : Dev nD) : iprop(recs I ∗ stA I l c 7) ⊢ |={Set.univ}=> iprop(lane1 l c ∗ stAny l c ∗ bufs (F := F) l c) := by
  unfold lane1
  rw [ck_eq (fun k h => semVal (cell k l c h) 0)]
  unfold stA agHeld agOut agBack rsDone bufs
  rw [if_neg (by decide), if_pos rfl, Qs_two (rsAny l c) 5, Qs_two (agAny l c) 4]
  iintro ⟨#Hr, P4, P5, -, -, -, -, -, ⟨S, A6⟩, ⟨P6, -⟩, ⟨-, A4, A5⟩, P1, P2, P3, R5, R6⟩
  imod (close2 I .rsS l c 7 1 0 (by decide) rfl rfl) $$ [P1] with ⟨a1, a0⟩
  · isplitr; · iexact Hr
    iexact P1
  imod (close2 I .rsR l c 7 1 0 (by decide) rfl rfl) $$ [P2] with ⟨b1, b0⟩
  · isplitr; · iexact Hr
    iexact P2
  imod (close2 I .rsC l c 5 1 0 (by decide) rfl rfl) $$ [P3] with ⟨d1, d0⟩
  · isplitr; · iexact Hr
    iexact P3
  imod (close3 I .agS l c 7 1 2 0 (by decide) rfl rfl rfl) $$ [P4] with ⟨e1, e2, e0⟩
  · isplitr; · iexact Hr
    iexact P4
  imod (close3 I .agR l c 7 1 2 0 (by decide) rfl rfl rfl) $$ [P5] with ⟨g1, g2, g0⟩
  · isplitr; · iexact Hr
    iexact P5
  imod (close3 I .agC l c 4 1 2 0 (by decide) rfl rfl rfl) $$ [P6] with ⟨i1, i2, i0⟩
  · isplitr; · iexact Hr
    iexact P6
  imodintro
  isplitl [a0 a1 b0 b1 d0 d1 e0 e1 e2 g0 g1 g2 i0 i1 i2]; · iframe
  isplitl [S]; · iexact S
  isplitl [R6]; · iexact R6
  isplitl [R5]; · iexact R5
  isplitl [A6]; · iexact A6
  isplitl [A4]; · iexact A4
  iexact A5

/-! ## The body -/

theorem lstT_zero (c : Dev nD) : lstT I c 0 = bigSep Finset.univ fun l => stS l c := by
  unfold lstT
  refine bigSep_congr fun l _ => ?_
  have := l.isLt
  rw [show (0 + 7 - l.val) / 8 = 0 by omega]
  rfl
theorem lstT_end (c : Dev nD) : lstT I c 120 = bigSep Finset.univ fun l => stA I l c 7 := by
  unfold lstT
  refine bigSep_congr fun l _ => ?_
  have := l.isLt
  rw [show (120 + 7 - l.val) / 8 = 15 by omega]
  rfl
theorem VT_start (c : Dev nD) : VT I c 8 = tileV I c := by
  funext l
  have := l.isLt
  unfold VT
  rw [show (8 + 7 - l.val) / 8 - 1 = 0 by omega]
  rfl
theorem VT_end (c : Dev nD) (l : Fin 8) : VT I c 120 l = outV I c l 14 := by
  have := l.isLt
  unfold VT
  rw [show (120 + 7 - l.val) / 8 - 1 = 14 by omega]

theorem mem_lanes : ∀ j : Fin 8, j ∈ lanes := by decide

/-- What a device starts from, -/
def bodyIn (c : Dev nD) : sProp 𝕄 :=
  iprop(recs I ∗ shakeRes c ∗ (bigSep Finset.univ fun l => lane0 l c) ∗ owesL c (dueL c) ∗ inp I c ∗ ∃ f, outF c f)
/-- and what it ends with. -/
def bodyOut (c : Dev nD) : sProp 𝕄 :=
  iprop((bigSep Finset.univ fun l => lane1 l c) ∗ semVal (barCell c) 0 ∗ (bigSep Finset.univ fun l => iprop(stAny l c ∗ bufs (F := F) l c))
    ∗ owesL c [] ∗ inp I c ∗ outF c (res I c))

theorem lanes_end (c : Dev nD) : iprop(recs I ∗ bigSep Finset.univ fun l => stA I l c 7)
    ⊢ |={Set.univ}=> iprop((bigSep Finset.univ fun l => lane1 l c) ∗ bigSep Finset.univ fun l => iprop(stAny l c ∗ bufs (F := F) l c)) := by
  rw [← bigSep_sep']
  exact ((sep_mono_left (BI.bigSep_of_persistent Finset.univ (recs I))).trans (by rw [← bigSep_sep']; exact bigSep_mono fun l _ => lane_end I l c)).trans
    (bigSep_fupd _ _)

theorem outS_res (c : Dev nD) : outS c (VT I c 120) ⊢ outF c (res I c) := by
  unfold outS
  iintro ⟨%f, %hf, H⟩
  have : f = res I c := ext_tiles fun k l => by rw [hf l k, VT_end, tileRd_res]
  subst this
  iexact H

theorem own_tiles (c : Dev nD) {f : Vec F S4096x2048 .f32} (hf : ∀ k, (False ∨ (flag (isOwn c k) ∧ k ∈ lanes)) → rowRd k f = rowV I c k) (l : Fin 8) :
    tileRd (rk l c) l f = tileV I c l (rk l c) := by
  rw [tileRd_sub, hf (rk l c) (Or.inr ⟨(own_flag c (rk l c)).mpr (rk_own l c), mem_lanes _⟩)]
  rfl

theorem all_tiles (c : Dev nD) (k : Fin 8) : (False ∨ (flag (isOwn c k) ∧ k ∈ lanes)) ∨ (flag (Scalar.xori (isOwn c k) 1#1) ∧ k ∈ lanes) := by
  by_cases h : flag (isOwn c k)
  · exact Or.inl (Or.inr ⟨h, mem_lanes k⟩)
  · exact Or.inr ⟨(other_flag c k).mpr (fun h' => h ((own_flag c k).mpr h')), mem_lanes k⟩

theorem wp_body (c : Dev nD) : bodyIn I c ⊢ WP c (kbody (F := F)) fun _ => bodyOut I c := by
  refine BIBase.Entails.trans ?_ (wp_fupd _ _ _ _ _)
  unfold bodyIn kbody
  simp only [Prog.lift, Prog.bind_op, Prog.bind_ret, wp_deviceId]
  iintro ⟨#Hr, Hs, Hl, HO, Hi, ⟨%f, Hf⟩⟩
  iapply (wp_shake I c _ _) $$ [Hs HO Hi]
  · iframe; iexact Hr
  iintro ⟨HO, Hb, Hn, Hi⟩
  unfold inp
  icases Hi with ⟨Hx, Hi⟩
  iapply (wp_gemms I c _ _ _ lanes (fun _ => False)) $$ [Hx Hf]
  · isplitl [Hx]; · iexact Hx
    unfold Gm
    iexists f
    isplitr; · ipureintro; exact fun k hk => hk.elim
    iexact Hf
  unfold Gm
  iintro ⟨Hx, ⟨%g, %hg, Hf⟩⟩
  unfold WP
  rw [wp_bind]
  iapply (wp_wand_r _ _ _)
  isplitl [Hl HO Hn Hf]
  · iapply (wp_starts I c g (own_tiles I c hg))
    unfold Sf
    isplitr; · iexact Hr
    isplitl [Hl Hn]
    · rw [lstT_zero]
      iapply (show iprop((bigSep Finset.univ fun l => lane0 l c) ∗ (bigSep Finset.univ fun l => bufs (F := F) l (nx l c))) ⊢ _ from by
        rw [← bigSep_sep']; exact bigSep_mono fun l _ => lane0_stS l c)
      iframe
    iframe
  unfold Sf
  iintro %_ ⟨-, Hl, HO, Hf⟩
  iapply (wp_gemms I c _ _ _ lanes _) $$ [Hx Hf]
  · isplitl [Hx]; · iexact Hx
    unfold Gm
    iexists g
    isplitr; · ipureintro; exact hg
    iexact Hf
  unfold Gm
  iintro ⟨Hx, ⟨%g', %hg', Hf⟩⟩
  iapply (wp_wand_r _ _ _)
  isplitl [Hl HO Hf]
  · iapply (wp_rings I c)
    unfold Sg
    isplitr; · iexact Hr
    isplitl [Hl]; · iexact Hl
    isplitl [HO]; · iexact HO
    unfold outS
    iexists g'
    isplitr
    · ipureintro
      intro l k
      rw [VT_start, tileRd_sub, hg' k (all_tiles c k)]
      rfl
    iexact Hf
  unfold Sg
  rw [lstT_end, rem_end]
  iintro %_ ⟨-, Hl, HO, Hf⟩
  imod (lanes_end I c) $$ [Hl] with ⟨Hl, Hb'⟩
  · isplitr; · iexact Hr
    iexact Hl
  imod (close_bar I c) $$ [Hb] with Hb
  · isplitr; · iexact Hr
    iexact Hb
  imodintro
  unfold bodyOut inp
  ihave Hf := (outS_res I c) $$ Hf
  iframe

end Cert.Ring

end
-- ==== Proof.Slots.lean ====
/-
The scratch buffers as slots: a buffer held whole is its slots, and the slots join to it.
-/
module

public import proofs.«01_k».proof.Proof.Body
public import Idealize.ShloMosaic.Lib.Ring
public import Idealize.ShloMosaic.Lib.Pipeline.ValueKit.Geometry

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Facts₀ Cert.KernelIdeal.Facts

variable {F : FTy → Type} [FloatOps F]

local notation "𝕄" => MT nD τ sig ℕ (Elt F) ℕ UU ℕ

/-! ## The slots' elements -/

/-- The elements of a slot of each buffer. -/
def kSt (l : Fin 8) : Finset S8x512x256.Idx := (aSt.access (rSt l)).set
def kRs (x : Fin 8 × Fin 2) : Finset S8x2x512x256.Idx := (aRs.access (rRs x.1 x.2)).set
def kAg (x : Fin 8 × Fin 3) : Finset S8x3x512x256.Idx := (aAg.access (rAg x.1 x.2)).set

theorem mem_st (l : Fin 8) (j : S8x512x256.Idx) : j ∈ kSt l ↔ (j 0).val = l.val := by
  have h0 : (j 0).val < 8 := (j 0).isLt
  have h1 : (j 1).val < 512 := (j 1).isLt
  have h2 : (j 2).val < 256 := (j 2).isLt
  constructor
  · intro h
    obtain ⟨x, -, e⟩ := Finset.mem_map.mp h
    have e' : (rSt l).emb x = j := e
    have e0 := congrArg (fun z : S8x512x256.Idx => (z 0).val) e'
    simp only [Rect.emb_apply] at e0
    have x0 : (x 0 : Nat) < 1 := (x 0).isLt
    replace e0 : l.val + 1 * (x 0 : Nat) = (j 0).val := e0
    omega
  · intro h
    refine Finset.mem_map.mpr ⟨Fin.cons ⟨0, Nat.one_pos⟩ (Fin.cons ⟨(j 1).val, h1⟩ (Fin.cons ⟨(j 2).val, h2⟩ fun a => a.elim0)), Finset.mem_univ _, ?_⟩
    show (rSt l).emb _ = j
    funext a
    refine Fin.ext ?_
    rw [Rect.emb_apply]
    fin_cases a
    · show l.val + 1 * 0 = (j 0).val; omega
    · show 0 + 1 * (j 1).val = (j 1).val; omega
    · show 0 + 1 * (j 2).val = (j 2).val; omega

theorem mem_rs (l : Fin 8) (s : Fin 2) (j : S8x2x512x256.Idx) : j ∈ kRs (l, s) ↔ ((j 0).val = l.val ∧ (j 1).val = s.val) := by
  have h2 : (j 2).val < 512 := (j 2).isLt
  have h3 : (j 3).val < 256 := (j 3).isLt
  constructor
  · intro h
    obtain ⟨x, -, e⟩ := Finset.mem_map.mp h
    have e' : (rRs l s).emb x = j := e
    have e0 := congrArg (fun z : S8x2x512x256.Idx => (z 0).val) e'
    have e1 := congrArg (fun z : S8x2x512x256.Idx => (z 1).val) e'
    simp only [Rect.emb_apply] at e0 e1
    have x0 : (x 0 : Nat) < 1 := (x 0).isLt
    have x1 : (x 1 : Nat) < 1 := (x 1).isLt
    replace e0 : l.val + 1 * (x 0 : Nat) = (j 0).val := e0
    replace e1 : s.val + 1 * (x 1 : Nat) = (j 1).val := e1
    omega
  · intro h
    refine Finset.mem_map.mpr ⟨Fin.cons ⟨0, Nat.one_pos⟩ (Fin.cons ⟨0, Nat.one_pos⟩ (Fin.cons ⟨(j 2).val, h2⟩ (Fin.cons ⟨(j 3).val, h3⟩ fun a => a.elim0))), Finset.mem_univ _, ?_⟩
    show (rRs l s).emb _ = j
    funext a
    refine Fin.ext ?_
    rw [Rect.emb_apply]
    fin_cases a
    · show l.val + 1 * 0 = (j 0).val; omega
    · show s.val + 1 * 0 = (j 1).val; omega
    · show 0 + 1 * (j 2).val = (j 2).val; omega
    · show 0 + 1 * (j 3).val = (j 3).val; omega

theorem mem_ag (l : Fin 8) (s : Fin 3) (j : S8x3x512x256.Idx) : j ∈ kAg (l, s) ↔ ((j 0).val = l.val ∧ (j 1).val = s.val) := by
  have h2 : (j 2).val < 512 := (j 2).isLt
  have h3 : (j 3).val < 256 := (j 3).isLt
  constructor
  · intro h
    obtain ⟨x, -, e⟩ := Finset.mem_map.mp h
    have e' : (rAg l s).emb x = j := e
    have e0 := congrArg (fun z : S8x3x512x256.Idx => (z 0).val) e'
    have e1 := congrArg (fun z : S8x3x512x256.Idx => (z 1).val) e'
    simp only [Rect.emb_apply] at e0 e1
    have x0 : (x 0 : Nat) < 1 := (x 0).isLt
    have x1 : (x 1 : Nat) < 1 := (x 1).isLt
    replace e0 : l.val + 1 * (x 0 : Nat) = (j 0).val := e0
    replace e1 : s.val + 1 * (x 1 : Nat) = (j 1).val := e1
    omega
  · intro h
    refine Finset.mem_map.mpr ⟨Fin.cons ⟨0, Nat.one_pos⟩ (Fin.cons ⟨0, Nat.one_pos⟩ (Fin.cons ⟨(j 2).val, h2⟩ (Fin.cons ⟨(j 3).val, h3⟩ fun a => a.elim0))), Finset.mem_univ _, ?_⟩
    show (rAg l s).emb _ = j
    funext a
    refine Fin.ext ?_
    rw [Rect.emb_apply]
    fin_cases a
    · show l.val + 1 * 0 = (j 0).val; omega
    · show s.val + 1 * 0 = (j 1).val; omega
    · show 0 + 1 * (j 2).val = (j 2).val; omega
    · show 0 + 1 * (j 3).val = (j 3).val; omega

theorem st_disj (l l' : Fin 8) (h : l ≠ l') : Disjoint (kSt l) (kSt l') :=
  Finset.disjoint_left.mpr fun j hj hj' => h (Fin.ext (((mem_st l j).mp hj).symm.trans ((mem_st l' j).mp hj')))
theorem st_cover : Finset.univ.biUnion kSt = Finset.univ := by
  ext j
  simp only [Finset.mem_biUnion, Finset.mem_univ, true_and, iff_true]
  exact ⟨⟨(j 0).val, (j 0).isLt⟩, (mem_st _ j).mpr rfl⟩

theorem rs_disj (x y : Fin 8 × Fin 2) (h : x ≠ y) : Disjoint (kRs x) (kRs y) :=
  Finset.disjoint_left.mpr fun j hj hj' => h (by
    obtain ⟨a, b⟩ := (mem_rs x.1 x.2 j).mp hj
    obtain ⟨a', b'⟩ := (mem_rs y.1 y.2 j).mp hj'
    exact Prod.ext (Fin.ext (a.symm.trans a')) (Fin.ext (b.symm.trans b')))
theorem rs_cover : Finset.univ.biUnion kRs = Finset.univ := by
  ext j
  simp only [Finset.mem_biUnion, Finset.mem_univ, true_and, iff_true]
  exact ⟨(⟨(j 0).val, (j 0).isLt⟩, ⟨(j 1).val, (j 1).isLt⟩), (mem_rs _ _ j).mpr ⟨rfl, rfl⟩⟩

theorem ag_disj (x y : Fin 8 × Fin 3) (h : x ≠ y) : Disjoint (kAg x) (kAg y) :=
  Finset.disjoint_left.mpr fun j hj hj' => h (by
    obtain ⟨a, b⟩ := (mem_ag x.1 x.2 j).mp hj
    obtain ⟨a', b'⟩ := (mem_ag y.1 y.2 j).mp hj'
    exact Prod.ext (Fin.ext (a.symm.trans a')) (Fin.ext (b.symm.trans b')))
theorem ag_cover : Finset.univ.biUnion kAg = Finset.univ := by
  ext j
  simp only [Finset.mem_biUnion, Finset.mem_univ, true_and, iff_true]
  exact ⟨(⟨(j 0).val, (j 0).isLt⟩, ⟨(j 1).val, (j 1).isLt⟩), (mem_ag _ _ j).mpr ⟨rfl, rfl⟩⟩

/-! ## Splitting and joining -/

/-- A slot held at some contents of its buffer. -/
abbrev slot (c : Dev nD) (b : Ref sig .tc) (S : Finset (Idx ((c : Thread nD τ).loc b))) : sProp 𝕄 := iprop(∃ f, ((c : Thread nD τ).loc b) ↦[S]{fullShare} f)

theorem owns_slot_mp (c : Dev nD) (v : Memref sig .tc .vmem S512x256 .bf16) :
    iprop(∃ X, owns (c : Thread nD τ) v fullShare X) ⊢ slot (F := F) c v.view.ref v.view.set := by
  unfold owns
  iintro ⟨%X, %f, -, H⟩
  iexists f; iexact H
theorem owns_slot_mpr (c : Dev nD) (v : Memref sig .tc .vmem S512x256 .bf16) :
    slot (F := F) c v.view.ref v.view.set ⊢ iprop(∃ X, owns (c : Thread nD τ) v fullShare X) := by
  unfold owns
  iintro ⟨%f, H⟩
  iexists _; iexists f
  isplitr; · ipureintro; rfl
  iexact H
theorem owns_slot (c : Dev nD) (v : Memref sig .tc .vmem S512x256 .bf16) :
    iprop(∃ X, owns (c : Thread nD τ) v fullShare X) = slot (F := F) c v.view.ref v.view.set :=
  Idealize.SL.BI.Entails.antisymm (owns_slot_mp c v) (owns_slot_mpr c v)

theorem slot_intro {c : Dev nD} {b : Ref sig .tc} (S : Finset (Idx ((c : Thread nD τ).loc b))) (f : Buf (Elt F) ((c : Thread nD τ).loc b)) :
    iprop(((c : Thread nD τ).loc b) ↦[S]{fullShare} f) ⊢ slot (F := F) c b S := by
  iintro H
  iexists f; iexact H
theorem whole_split {c : Dev nD} {b : Ref sig .tc} {B : Type} [Fintype B] [DecidableEq B] (K : B → Finset (Idx ((c : Thread nD τ).loc b)))
    (hd : ∀ x y, x ≠ y → Disjoint (K x) (K y)) (hc : Finset.univ.biUnion K = Finset.univ) :
    iprop(∃ f, ((c : Thread nD τ).loc b) ↦{fullShare} f) ⊢ bigSep Finset.univ fun x => slot (F := F) c b (K x) := by
  iintro ⟨%f, H⟩
  ihave H := (Entails.of_eq (Ring.pointsTo_blocks K hd hc f)) $$ H
  iapply (show (bigSep Finset.univ fun x => iprop(((c : Thread nD τ).loc b) ↦[K x]{fullShare} f)) ⊢ bigSep Finset.univ fun x => slot (F := F) c b (K x) from
    bigSep_mono fun x _ => slot_intro (K x) f) $$ H

theorem whole_eq {c : Dev nD} {b : Ref sig .tc} {B : Type} [Fintype B] [DecidableEq B] (K : B → Finset (Idx ((c : Thread nD τ).loc b)))
    (hd : ∀ x y, x ≠ y → Disjoint (K x) (K y)) (hc : Finset.univ.biUnion K = Finset.univ) (f₀ : Buf (Elt F) ((c : Thread nD τ).loc b)) :
    iprop(∃ f, ((c : Thread nD τ).loc b) ↦{fullShare} f) = bigSep Finset.univ fun x => slot (F := F) c b (K x) :=
  Idealize.SL.BI.Entails.antisymm (whole_split K hd hc) (Ring.pointsTo_blocks_join_exists K hd hc f₀)

theorem stAny_slot (l : Fin 8) (c : Dev nD) : stAny (F := F) l c = slot c cc0_scratch0 (kSt l) := by
  unfold stAny stAt
  rw [owns_slot, ← set_st]; rfl
theorem rsAny_slot (l : Fin 8) (c : Dev nD) (h : ℕ) : rsAny (F := F) l c h = slot c cc0_scratch1 (kRs (l, sl2 h)) := by
  unfold rsAny rsAt
  rw [owns_slot, ← set_rs]; rfl
theorem agAny_slot (l : Fin 8) (c : Dev nD) (h : ℕ) : agAny (F := F) l c h = slot c cc0_scratch5 (kAg (l, sl3 h)) := by
  unfold agAny agAt
  rw [owns_slot, ← set_ag]; rfl

theorem both {P Q : sProp 𝕄} (h : P ⊢ Q) (h' : Q ⊢ P) : P = Q := Idealize.SL.BI.Entails.antisymm h h'
theorem sep_pack (A B C D E X : sProp 𝕄) : iprop(A ∗ B ∗ C ∗ D ∗ E ∗ X) = iprop(A ∗ (B ∗ C) ∗ D ∗ E ∗ X) :=
  both (by iintro ⟨A, B, C, D⟩; iframe) (by iintro ⟨A, ⟨B, C⟩, D⟩; iframe)

theorem bufs_eq (c : Dev nD) : (bigSep Finset.univ fun l => iprop(stAny (F := F) l c ∗ bufs l c))
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch5), ((c : Thread nD τ).loc cc0_scratch5) ↦{fullShare} f)) := by
  rw [whole_eq (c := c) (b := cc0_scratch0) kSt st_disj st_cover (fun _ => default),
    whole_eq (c := c) (b := cc0_scratch1) kRs rs_disj rs_cover (fun _ => default),
    whole_eq (c := c) (b := cc0_scratch5) kAg ag_disj ag_cover (fun _ => default),
    bigSep_univ_prod, bigSep_univ_prod]
  have e2 : ∀ l : Fin 8, (bigSep Finset.univ fun s : Fin 2 => slot (F := F) c cc0_scratch1 (kRs (l, s))) = iprop(rsAny l c 0 ∗ rsAny l c 1) := fun l => by
    rw [bigSep_univ_eq_bigSepL [0, 1] (by decide) (by decide), rsAny_slot, rsAny_slot]; rfl
  have e3 : ∀ l : Fin 8, (bigSep Finset.univ fun s : Fin 3 => slot (F := F) c cc0_scratch5 (kAg (l, s))) = iprop(agAny l c 0 ∗ agAny l c 1 ∗ agAny l c 2) := fun l => by
    rw [bigSep_univ_eq_bigSepL [0, 1, 2] (by decide) (by decide), agAny_slot, agAny_slot, agAny_slot]; rfl
  rw [bigSep_congr (fun l _ => e2 l), bigSep_congr (fun l _ => e3 l), bigSep_congr (fun l _ => (stAny_slot (F := F) l c).symm), ← bigSep_sep', ← bigSep_sep']
  refine bigSep_congr fun l _ => ?_
  unfold bufs
  rw [sep_pack]

end Cert.Ring

end
-- ==== Proof.Credits.lean ====
/-
What all devices owe at launch is what all devices wait for, so each starts with the credit of its own waits.
-/
module

public import proofs.«01_k».proof.Proof.Slots
public import Mathlib.Algebra.BigOperators.Intervals

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Idealize.ShloMosaic.SiteBlocks (L lv mem_L' mayWait_of)
open Cert.KernelIdeal.Facts₀ Cert.KernelIdeal.Facts

variable {F : FTy → Type} [FloatOps F]

local notation "𝕄" => MT nD τ sig ℕ (Elt F) ℕ UU ℕ

/-- The credit of one use. -/
abbrev one (k : Kd) (l : Fin 8) (c : Dev nD) (h : ℕ) : CellTallies nD τ sig ℕ := tallyAt (cell k l c h) (lvl k l h) k.amt

/-- A lane's uses of a kind on a device. -/
def uses (k : Kd) (n : ℕ) (l : Fin 8) (c : Dev nD) : CellTallies nD τ sig ℕ := ∑ h ∈ Finset.Ico 0 n, one k l c h

/-- What device `c` waits for: the handshake's two units, and on every lane its arrivals and credits. -/
def waitsFor (c : Dev nD) : CellTallies nD τ sig ℕ :=
  tallyAt (barCell c) 1 2 + ∑ l : Fin 8, (uses .rsR 7 l c + uses .rsC 5 l c + uses .agR 7 l c + uses .agC 4 l c)

theorem tallyL_flatMap {α : Type} (f : α → List (Pay nD τ sig)) (xs : List α) :
    tallyL (xs.flatMap f) = (xs.map fun x => tallyL (f x)).sum := by
  induction xs with
  | nil => rfl
  | cons x xs ih => rw [List.flatMap_cons, TalkSites.tallyL_append, List.map_cons, List.sum_cons, ih]

theorem sum_steps (f : ℕ → CellTallies nD τ sig ℕ) (n : ℕ) : ((List.range' 0 (8 * n)).map f).sum = ∑ k ∈ Finset.range n, ∑ l : Fin 8, f (8 * k + l.val) := by
  induction n with
  | zero => rfl
  | succ n ih =>
    rw [Finset.sum_range_succ, ← ih, Nat.mul_succ, ← List.range'_append_1, List.map_append, List.sum_append, Fin.sum_univ_eight]
    congr 1
    rw [Nat.zero_add]
    show f (8 * n) + (f (8 * n + 1) + (f (8 * n + 2) + (f (8 * n + 3) + (f (8 * n + 4) + (f (8 * n + 5) + (f (8 * n + 6) + (f (8 * n + 7) + 0))))))) = _
    rw [add_zero]
    simp only [← add_assoc]
    rfl

/-- All a device pays, lane by lane. -/
theorem rem_lanes (c : Dev nD) : tallyL (rem c 0) = ∑ l : Fin 8, ∑ n ∈ Finset.range 15, tallyL (pays c n l) := by
  unfold rem
  rw [tallyL_flatMap, show 120 - 0 = 8 * 15 from rfl, sum_steps, Finset.sum_comm]
  refine Finset.sum_congr rfl fun l _ => Finset.sum_congr rfl fun n _ => ?_
  have hl := l.isLt
  rw [show (8 * n + l.val) / 8 = n by omega, show Fin.ofNat 8 (8 * n + l.val) = l from Fin.ext (by show (8 * n + l.val) % 8 = l.val; omega)]

/-- A stretch of the phases, counted from its start. -/
theorem pick (f : ℕ → CellTallies nD τ sig ℕ) (a k : ℕ) (h : a + k ≤ 15) :
    (∑ n ∈ Finset.range 15, if a ≤ n ∧ n < a + k then f (n - a) else 0) = ∑ h ∈ Finset.Ico 0 k, f h := by
  rw [← Finset.sum_filter, show (Finset.range 15).filter (fun n => a ≤ n ∧ n < a + k) = Finset.Ico a (a + k) from by
    ext n; simp only [Finset.mem_filter, Finset.mem_range, Finset.mem_Ico]; omega,
    Finset.sum_Ico_eq_sum_range, Nat.add_sub_cancel_left, ← Finset.range_eq_Ico]
  exact Finset.sum_congr rfl fun n _ => by rw [Nat.add_sub_cancel_left]

theorem tallyL_ite (p : Prop) [Decidable p] (x : Pay nD τ sig) : tallyL (if p then [x] else []) = if p then x.tally else 0 := by
  split
  · exact add_zero _
  · rfl

/-- What a phase pays, kind by kind. -/
theorem pays_kinds (c : Dev nD) (l : Fin 8) (n : ℕ) (hn : n < 15) : tallyL (pays c n l)
    = (if 0 ≤ n ∧ n < 0 + 7 then one .rsR l (nx l c) (n - 0) else 0) + (if 1 ≤ n ∧ n < 1 + 5 then one .rsC l (pv l c) (n - 1) else 0)
      + (if 7 ≤ n ∧ n < 7 + 7 then one .agR l (nx l c) (n - 7) else 0) + (if 9 ≤ n ∧ n < 9 + 4 then one .agC l (pv l c) (n - 9) else 0) := by
  unfold pays
  by_cases h7 : n < 7
  · rw [if_pos h7, tallyL_cons, tallyL_ite, if_pos (by omega : 0 ≤ n ∧ n < 0 + 7), if_neg (by omega : ¬ (7 ≤ n ∧ n < 7 + 7)), if_neg (by omega : ¬ (9 ≤ n ∧ n < 9 + 4)),
      add_zero, add_zero]
    rfl
  rw [if_neg h7, if_neg (by omega : ¬ (0 ≤ n ∧ n < 0 + 7)), if_neg (by omega : ¬ (1 ≤ n ∧ n < 1 + 5)), zero_add, zero_add]
  by_cases e7 : n = 7
  · subst e7
    rfl
  rw [if_neg e7, TalkSites.tallyL_append, tallyL_ite, tallyL_ite]
  refine congrArg₂ (· + ·) ?_ ?_
  · by_cases h : n - 8 < 6
    · rw [if_pos h, if_pos (by omega), show n - 8 + 1 = n - 7 by omega]
    · rw [if_neg h, if_neg (by omega)]
  · by_cases h : 1 ≤ n - 8 ∧ n - 8 < 5
    · rw [if_pos h, if_pos (by omega), show n - 8 - 1 = n - 9 by omega]
    · rw [if_neg h, if_neg (by omega)]

/-- A lane's payments are its sends to the next device and its credits to the previous one. -/
theorem lane_pays (c : Dev nD) (l : Fin 8) : ∑ n ∈ Finset.range 15, tallyL (pays c n l)
    = uses .rsR 7 l (nx l c) + uses .rsC 5 l (pv l c) + uses .agR 7 l (nx l c) + uses .agC 4 l (pv l c) := by
  rw [Finset.sum_congr rfl fun n hn => pays_kinds c l n (Finset.mem_range.mp hn), Finset.sum_add_distrib, Finset.sum_add_distrib, Finset.sum_add_distrib,
    pick (one .rsR l (nx l c)) 0 7 (by decide), pick (one .rsC l (pv l c)) 1 5 (by decide), pick (one .agR l (nx l c)) 7 7 (by decide), pick (one .agC l (pv l c)) 9 4 (by decide)]
  rfl

theorem sum_bij (f : Dev nD → CellTallies nD τ sig ℕ) (l : Fin 8) : ∑ d, f (nx l d) = ∑ d, f d :=
  Equiv.sum_comp (⟨nx l, pv l, pv_nx l, nx_pv l⟩ : Dev nD ≃ Dev nD) f
theorem sum_bij' (f : Dev nD → CellTallies nD τ sig ℕ) (l : Fin 8) : ∑ d, f (pv l d) = ∑ d, f d :=
  Equiv.sum_comp (⟨pv l, nx l, nx_pv l, pv_nx l⟩ : Dev nD ≃ Dev nD) f

theorem sum_next (f : Fin 8 → Dev nD → CellTallies nD τ sig ℕ) : ∑ d, ∑ l, f l (nx l d) = ∑ d, ∑ l, f l d := by
  rw [Finset.sum_comm, Finset.sum_congr rfl fun l _ => sum_bij (f l) l, Finset.sum_comm]
theorem sum_prev (f : Fin 8 → Dev nD → CellTallies nD τ sig ℕ) : ∑ d, ∑ l, f l (pv l d) = ∑ d, ∑ l, f l d := by
  rw [Finset.sum_comm, Finset.sum_congr rfl fun l _ => sum_bij' (f l) l, Finset.sum_comm]

theorem owed_eq (c : Dev nD) : tallyL (dueL c) = tallyAt (barCell (pv 0 c)) 1 1 + (tallyAt (barCell (nx 0 c)) 1 1
    + ∑ l : Fin 8, (uses .rsR 7 l (nx l c) + uses .rsC 5 l (pv l c) + uses .agR 7 l (nx l c) + uses .agC 4 l (pv l c))) := by
  unfold dueL
  rw [tallyL_cons, tallyL_cons, rem_lanes, Finset.sum_congr rfl fun l _ => lane_pays c l]

/-- Owed and awaited agree. -/
theorem owed_awaited : (∑ d, tallyL (dueL d)) = ∑ d, waitsFor d := by
  unfold waitsFor
  rw [Finset.sum_congr rfl fun d _ => owed_eq d]
  simp only [Finset.sum_add_distrib]
  rw [sum_next (uses .rsR 7), sum_prev (uses .rsC 5), sum_next (uses .agR 7), sum_prev (uses .agC 4),
    sum_bij (fun d => tallyAt (barCell d) 1 1) 0, sum_bij' (fun d => tallyAt (barCell d) 1 1) 0, ← add_assoc, ← Finset.sum_add_distrib]
  rw [Finset.sum_congr rfl fun d _ => tallyAt_add (barCell d) 1 1 1]

/-- A tally of one device's cells. -/
def On (c : Dev nD) (T : CellTallies nD τ sig ℕ) : Prop := ∀ g, T g ≠ 0 → g.1 = (c : Thread nD τ)
theorem On.add {c : Dev nD} {T T' : CellTallies nD τ sig ℕ} (h : On c T) (h' : On c T') : On c (T + T') := fun g hg => by
  by_contra hn
  refine hg ?_
  rw [Pi.add_apply, Classical.not_not.mp fun e => hn (h g e), Classical.not_not.mp fun e => hn (h' g e), add_zero]
theorem On.zero (c : Dev nD) : On c 0 := fun g hg => absurd rfl hg
theorem On.sum {c : Dev nD} {α : Type} (s : Finset α) {f : α → CellTallies nD τ sig ℕ} (h : ∀ a, On c (f a)) : On c (∑ a ∈ s, f a) := by
  classical
  induction s using Finset.induction_on with
  | empty => rw [Finset.sum_empty]; exact On.zero c
  | insert a s ha ih => rw [Finset.sum_insert ha]; exact (h a).add ih
theorem On.at (c : Dev nD) (s : SemLoc sig) (i n : ℕ) : On c (tallyAt ((c : Thread nD τ), s) i n) := fun g hg => by
  by_contra hn
  refine hg ?_
  have hne : g ≠ ((c : Thread nD τ), s) := fun e => hn (congrArg Prod.fst e)
  exact tallyAt_ne_cell hne i n
theorem On.uses (k : Kd) (n : ℕ) (l : Fin 8) (c : Dev nD) : On c (uses k n l c) := On.sum _ fun h => On.at c _ _ _

theorem cred_plus (a b : CellTallies nD τ sig ℕ) : (cred (a + b) : sProp 𝕄) = iprop(cred a ∗ cred b) :=
  Idealize.SL.BI.Entails.antisymm (cred_add _ _).1 (cred_add _ _).2

theorem cred_uses (k : Kd) (n : ℕ) (l : Fin 8) (c : Dev nD) : (cred (uses k n l c) : sProp 𝕄) = Qs (crd k l c) 0 n := by
  unfold uses; rw [Pipeline.cred_finsetSum]; rfl

/-- The credit a lane starts with. -/
def laneCred (l : Fin 8) (c : Dev nD) : sProp 𝕄 :=
  iprop(Qs (crd .rsR l c) 0 7 ∗ Qs (crd .rsC l c) 0 5 ∗ Qs (crd .agR l c) 0 7 ∗ Qs (crd .agC l c) 0 4)

theorem laneCred_eq (l : Fin 8) (c : Dev nD) : (cred (uses .rsR 7 l c + uses .rsC 5 l c + uses .agR 7 l c + uses .agC 4 l c) : sProp 𝕄) ⊢ laneCred l c := by
  unfold laneCred
  rw [cred_plus, cred_plus, cred_plus, cred_uses, cred_uses, cred_uses, cred_uses]
  iintro ⟨⟨⟨A, B⟩, C⟩, D⟩
  iframe

theorem creds (c : Dev nD) : (Pipeline.launchCred (fun d => tallyL (dueL d)) c : sProp 𝕄)
    ⊢ iprop(cred (tallyAt (barCell c) 1 2) ∗ bigSep Finset.univ fun l => laneCred l c) := by
  refine (Entails.of_eq (Pipeline.launchCred_of_sum (fun d => tallyL (dueL d)) waitsFor owed_awaited
    (fun d => (On.at d _ _ _).add (On.sum _ fun l => (((On.uses _ _ _ _).add (On.uses _ _ _ _)).add (On.uses _ _ _ _)).add (On.uses _ _ _ _))) c)).trans ?_
  unfold waitsFor
  rw [cred_plus, Pipeline.cred_finsetSum]
  exact sep_mono_right (bigSep_mono fun l _ => laneCred_eq l c)

end Cert.Ring

end
-- ==== Proof.Deal.lean ====
/-
The launch's ghost state: minted cell by cell, its invariants shared by all, its tokens dealt to the devices that pay with
them.
-/
module

public import proofs.«01_k».proof.Proof.Credits
public import proofs.«01_k».proof.Proof.Gen.KernelIdeal.Launch

@[expose] public section

noncomputable section

namespace Cert.Ring

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Idealize.ShloMosaic.SiteBlocks (L lv mem_L' mayWait_of)
open Cert.KernelIdeal.Facts₀ Cert.KernelIdeal.Facts

variable {F : FTy → Type} [FloatOps F]

local notation "𝕄" => MT nD τ sig ℕ (Elt F) ℕ UU ℕ

variable (I : Ins F)

/-! ## Cells and tokens, enumerated -/

/-- A lane's cells on one device, as the kernel owns them. -/
def osem (x : Fin 8 × CK) : SemLoc sig := sm x.2.1 x.1 x.2.2.val
/-- All the cells of a device: the handshake's and the lanes'. -/
def csem : Unit ⊕ (Fin 8 × CK) → SemLoc sig | .inl _ => .reg bar | .inr x => osem x
def kcell (y : Dev nD × (Unit ⊕ (Fin 8 × CK))) : GSem nD τ sig := ((y.1 : Thread nD τ), csem y.2)

theorem osem_inj : Function.Injective osem := by
  rintro ⟨l, k, s⟩ ⟨l', k', s'⟩ h
  have e := congrArg dec h
  unfold osem at e
  rw [dec_sm, dec_sm] at e
  simp only [Option.some.injEq, Prod.mk.injEq] at e
  obtain ⟨rfl, rfl, e⟩ := e
  rw [Nat.mod_eq_of_lt s.isLt, Nat.mod_eq_of_lt s'.isLt] at e
  rw [Fin.ext e]
theorem csem_inj : Function.Injective csem := by
  rintro (⟨⟩ | x) (⟨⟩ | y) h
  · rfl
  · exact absurd h.symm (sm_ne_bar _ _ _)
  · exact absurd h (sm_ne_bar _ _ _)
  · exact congrArg Sum.inr (osem_inj h)
theorem kcell_inj : Function.Injective kcell := by
  rintro ⟨c, x⟩ ⟨c', y⟩ h
  have h1 : c = c' := congrArg (fun g : GSem nD τ sig => g.1.1) h
  have h2 : x = y := csem_inj (congrArg Prod.snd h)
  rw [h1, h2]
def ringCells : Finset (GSem nD τ sig) := Finset.univ.map ⟨kcell, kcell_inj⟩

/-- The tokens: two of each handshake cell, one of each use. -/
def tokOf (y : Dev nD × (Bool ⊕ (Fin 8 × CL))) : GSem nD τ sig × ℕ × Bool := match y.2 with
  | .inl d => (barCell y.1, 0, d)
  | .inr x => (cell x.2.1 x.1 y.1 x.2.2.val, x.2.2.val / x.2.1.n, false)
theorem tokOf_inj : Function.Injective tokOf := by
  rintro ⟨c, x⟩ ⟨c', y⟩ h
  have h1 : c = c' := by
    have := congrArg (fun g : GSem nD τ sig × ℕ × Bool => g.1.1.1) h
    rcases x with _ | _ <;> rcases y with _ | _ <;> exact this
  subst h1
  refine congrArg (Prod.mk c) ?_
  have h2 := congrArg (fun g : GSem nD τ sig × ℕ × Bool => g.1.2) h
  have h3 := congrArg (fun g : GSem nD τ sig × ℕ × Bool => g.2) h
  rcases x with d | ⟨l, k, s⟩ <;> rcases y with d' | ⟨l', k', s'⟩
  · exact congrArg Sum.inl (congrArg Prod.snd h3)
  · exact absurd h2.symm (sm_ne_bar _ _ _)
  · exact absurd h2 (sm_ne_bar _ _ _)
  · replace h2 : sm k l s.val = sm k' l' s'.val := h2
    have e := congrArg dec h2
    rw [dec_sm, dec_sm] at e
    simp only [Option.some.injEq, Prod.mk.injEq] at e
    obtain ⟨rfl, rfl, e⟩ := e
    have e' : s.val / k.n = s'.val / k.n := congrArg Prod.fst h3
    have a := Nat.div_add_mod s.val k.n
    rw [e, e', Nat.div_add_mod] at a
    rw [Fin.ext a.symm]
def ringToks : Finset (GSem nD τ sig × ℕ × Bool) := Finset.univ.map ⟨tokOf, tokOf_inj⟩

def u₀ : UU :=
  (initOf (Pipeline.cells Cert.KernelIdeal.cfgs Cert.KernelIdeal.Gen.cellOf_inj) (Pipeline.launchToks Cert.KernelIdeal.cfgs Cert.KernelIdeal.Gen.cellOf_inj), initOf ringCells ringToks)

/-! ## What is minted, per device -/

/-- Something at each cell of device `c`. -/
def perCell (Φ : GSem nD τ sig → sProp 𝕄) (c : Dev nD) : sProp 𝕄 :=
  iprop(Φ (barCell c) ∗ bigSep Finset.univ fun x : Fin 8 × CK => Φ (cell x.2.1 x.1 c x.2.2.val))
/-- The tokens of device `c`'s own cells, -/
def toks (c : Dev nD) : sProp 𝕄 :=
  iprop((dutyTok ER (barCell c) 0 false ∗ dutyTok ER (barCell c) 0 true) ∗ bigSep Finset.univ fun x : Fin 8 × CL => tok x.2.1 x.1 c x.2.2.val)
/-- and of the payments it makes. -/
def payToks (c : Dev nD) : sProp 𝕄 :=
  iprop((dutyTok ER (barCell (nx 0 c)) 0 false ∗ dutyTok ER (barCell (pv 0 c)) 0 true) ∗ bigSep Finset.univ fun x : Fin 8 × CL => tok x.2.1 x.1 (tgt x.2.1 x.1 c) x.2.2.val)

/-- What the launch mints for device `c`, -/
def G (c : Dev nD) : sProp 𝕄 :=
  iprop(perCell (fun g => roundState ER (Rd I) g 0) c ∗ perCell (fun g => atPos ER g 0 ∅ 0) c ∗ perCell (fun g => reached ER g 0) c ∗ toks c)
/-- what every device knows of it, -/
def known : sProp 𝕄 :=
  iprop((bigSep Finset.univ fun c : Dev nD => iprop(Inv I (barCell c) ∗ reached ER (barCell c) 0))
    ∗ (bigSep Finset.univ fun x : Dev nD × Fin 8 × CK => iprop(Inv I (cell x.2.2.1 x.2.1 x.1 x.2.2.2.val) ∗ reached ER (cell x.2.2.1 x.2.1 x.1 x.2.2.2.val) 0)))
instance known_persistent : BI.Persistent (known I) := by unfold known; infer_instance
/-- and what device `c` starts with. -/
def G' (c : Dev nD) : sProp 𝕄 := iprop(known I ∗ perCell (fun g => atPos ER g 0 ∅ 0) c ∗ payToks c)

theorem cells_eq (Φ : GSem nD τ sig → sProp 𝕄) : bigSep ringCells Φ = bigSep Finset.univ fun c : Dev nD => perCell Φ c := by
  unfold ringCells perCell
  rw [bigSep_map, bigSep_univ_prod]
  refine bigSep_congr fun c _ => ?_
  rw [bigSep_univ_sum, bigSep_univ_eq_bigSepL [()] (by decide) (by decide), bigSepL_singleton]
  rfl
theorem toks_eq : bigSep ringToks (fun x => (dutyTok ER x.1 x.2.1 x.2.2 : sProp 𝕄)) = bigSep Finset.univ fun c : Dev nD => toks c := by
  unfold ringToks toks
  rw [bigSep_map, bigSep_univ_prod]
  refine bigSep_congr fun c _ => ?_
  rw [bigSep_univ_sum, bigSep_univ_eq_bigSepL [false, true] (by decide) (by decide), bigSepL_cons_cons, bigSepL_singleton]
  rfl

theorem mint : BI.own (ER (initOf ringCells ringToks)) ⊢ (|==> bigSep Finset.univ (G I) : sProp 𝕄) := by
  iintro HX
  imod (Rounds.fund ER (Rd I) ringCells ringToks) $$ HX with ⟨Hst, Hr, Hat, Htok⟩
  imodintro
  ihave Hst := (Entails.of_eq (cells_eq fun g => roundState ER (Rd I) g 0)) $$ Hst
  ihave Hat := (Entails.of_eq (cells_eq fun g => atPos ER g 0 ∅ 0)) $$ Hat
  ihave Hr := (Entails.of_eq (cells_eq fun g => reached ER g 0)) $$ Hr
  ihave Htok := (Entails.of_eq toks_eq) $$ Htok
  unfold G
  simp only [bigSep_sep']
  iframe

/-! ## The cells' invariants -/

theorem ownSemFacts : Pipeline.OwnSemFacts Cert.KernelIdeal.cfg0.spec osem := ⟨by decide +kernel, osem_inj, by decide +kernel⟩

theorem unscoped_eq (c : Dev nD) : (unscopedSems0 c : sProp 𝕄) = semVal (barCell c) 0 := by
  unfold unscopedSems0; rw [bigSep_eq_bigSepL_of_eq [SemLoc.reg bar] (by decide) (by decide)]; rfl

theorem own_eq (c : Dev nD) : (Pipeline.ownSems0 (Ix := ℕ) (Name := ℕ) (U := UU) (Lvl := ℕ) (Val := Elt F) (τ := τ) osem c : sProp 𝕄)
    = bigSep Finset.univ fun l => lane1 l c := by
  unfold Pipeline.ownSems0 lane1
  rw [bigSep_univ_prod]
  rfl

theorem inv_new (g : GSem nD τ sig) : iprop(semVal g 0 ∗ roundState ER (Rd I) g 0) ⊢ |={Set.univ}=> Inv I g :=
  (Rounds.body_intro ER (Rd I) g).trans inv_alloc

theorem perCell_new (c : Dev nD) : iprop(perCell (fun g => semVal g 0) c ∗ perCell (fun g => roundState ER (Rd I) g 0) c)
    ⊢ |={Set.univ}=> perCell (fun g => Inv I g) c := by
  unfold perCell
  iintro ⟨⟨A, B⟩, C, D⟩
  imod (inv_new I (barCell c)) $$ [A C] with H
  · iframe
  imod (show iprop((bigSep Finset.univ fun x : Fin 8 × CK => (semVal (cell x.2.1 x.1 c x.2.2.val) 0 : sProp 𝕄)) ∗ (bigSep Finset.univ fun x : Fin 8 × CK => roundState ER (Rd I) (cell x.2.1 x.1 c x.2.2.val) 0))
      ⊢ |={Set.univ}=> bigSep Finset.univ fun x : Fin 8 × CK => Inv I (cell x.2.1 x.1 c x.2.2.val) from by
    rw [← bigSep_sep']
    exact (bigSep_mono fun x _ => inv_new I _).trans (bigSep_fupd _ _)) $$ [B D] with K
  · iframe
  imodintro
  iframe

theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop(perCell (fun g => iprop(Inv I g ∗ reached ER g 0)) c ∗ perCell (fun g => atPos ER g 0 ∅ 0) c ∗ toks c) := by
  rw [unscoped_eq]
  unfold G
  iintro ⟨Ho, Hu, Hst, Hat, Hr, Htok⟩
  imod (perCell_new I c) $$ [Ho Hu Hst] with Hi
  · isplitl [Ho Hu]
    · unfold perCell Pipeline.ownSems0 osem
      isplitl [Hu]; · iexact Hu
      iexact Ho
    iexact Hst
  imodintro
  isplitl [Hi Hr]
  · unfold perCell
    rw [bigSep_sep']
    icases Hi with ⟨A, B⟩
    icases Hr with ⟨C, D⟩
    isplitl [A C]
    · isplitl [A]; · iexact A
      iexact C
    isplitl [B]; · iexact B
    iexact D
  iframe

/-- The tokens, dealt to the payers. -/
def shift : Dev nD × Fin 8 × CL ≃ Dev nD × Fin 8 × CL where
  toFun y := (tgt y.2.2.1 y.2.1 y.1, y.2)
  invFun y := ((match y.2.2.1 with | .rsS => y.1 | .agS => y.1 | .rsR => pv y.2.1 y.1 | .agR => pv y.2.1 y.1 | .rsC => nx y.2.1 y.1 | .agC => nx y.2.1 y.1), y.2)
  left_inv y := by
    rcases y with ⟨c, l, k, h⟩
    cases k <;> simp only [tgt, pv_nx, nx_pv]
  right_inv y := by
    rcases y with ⟨c, l, k, h⟩
    cases k <;> simp only [tgt, pv_nx, nx_pv]

theorem toks_deal : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv (⟨nx 0, pv 0, pv_nx 0, nx_pv 0⟩ : Dev nD ≃ Dev nD) (fun c : Dev nD => (dutyTok ER (barCell c) 0 false : sProp 𝕄)),
    bigSep_univ_equiv (⟨pv 0, nx 0, nx_pv 0, pv_nx 0⟩ : Dev nD ≃ Dev nD) (fun c : Dev nD => (dutyTok ER (barCell c) 0 true : sProp 𝕄)),
    ← bigSep_univ_prod (fun y : Dev nD × Fin 8 × CL => (tok y.2.2.1 y.2.1 y.1 y.2.2.2.val : sProp 𝕄)),
    bigSep_univ_equiv shift, bigSep_univ_prod]
  exact BIBase.Entails.rfl

theorem regroup : (bigSep Finset.univ fun c : Dev nD => iprop(perCell (fun g => iprop(Inv I g ∗ reached ER g 0)) c ∗ perCell (fun g => atPos ER g 0 ∅ 0) c ∗ toks c) : sProp 𝕄)
    ⊢ bigSep Finset.univ (G' I) := by
  rw [bigSep_sep', bigSep_sep']
  have e : (bigSep Finset.univ fun c : Dev nD => perCell (fun g => iprop(Inv I g ∗ reached ER g 0)) c) = known I := by
    unfold perCell known
    rw [bigSep_sep', ← bigSep_univ_prod (fun x : Dev nD × Fin 8 × CK => iprop(Inv I (cell x.2.2.1 x.2.1 x.1 x.2.2.2.val) ∗ reached ER (cell x.2.2.1 x.2.1 x.1 x.2.2.2.val) 0))]
  rw [e]
  unfold G'
  rw [bigSep_sep', bigSep_sep']
  iintro ⟨#Hk, Hat, Htok⟩
  isplitr
  · iapply (BI.bigSep_of_persistent Finset.univ (known I)); iexact Hk
  isplitl [Hat]; · iexact Hat
  iapply (toks_deal) $$ Htok

theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Cert.Ring

end
-- ==== Proof.Launch.lean ====
/-
The launch: every device's kernel over the protocol of the lanes, from any memory to the end of the run.
-/
module

public import proofs.«01_k».proof.Proof.Deal
public import proofs.«01_k».proof.Proof.StructEq
public import proofs.«01_k».proof.Proof.Gen.KernelIdeal.Frame
public import Idealize.ShloMosaic.Lib.Pipeline.CollectiveSegs

@[expose] public section

noncomputable section

namespace Cert.Ring

open Cert.KernelIdeal
open Cert.KernelIdeal.Gen (bigSep_W0 fin_N0 t0_0 scopedRest0_eq unscopedRest0_eq winFacts0 arr_whole0 stage_whole0 cellOf_inj)
open Idealize.ShloMosaic.Pipeline (Dat Cfg Window BodyObligation cellOf)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.TalkSites (Pay tallyL tallyL_pos)
open Idealize.ShloMosaic.SiteBlocks (L lv mem_L' mayWait_of)
open Cert.KernelIdeal.Facts₀ Cert.KernelIdeal.Facts

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The inputs: what each device's blocks of the argument arrays hold. -/
def insOf : Ins F where
  x c := (win0_0.blk (0 : Fin 1)).view.read (Elt F) (m ((c : Thread nD τ).loc main_arg0))
  w c := (win0_1.blk (0 : Fin 1)).view.read (Elt F) (m ((c : Thread nD τ).loc main_arg1))
  sx c := (win0_2.blk (0 : Fin 1)).view.read (Elt F) (m ((c : Thread nD τ).loc main_arg2))
  sw c := (win0_3.blk (0 : Fin 1)).view.read (Elt F) (m ((c : Thread nD τ).loc main_arg3))

/-- The ghost state device `c`'s body starts from. -/
def start (c : Dev nD) : sProp 𝕄 :=
  iprop(G' (insOf m) c ∗ levAts (L 140) lv ∗ cred (tallyAt (barCell c) 1 2) ∗ bigSep Finset.univ fun l => laneCred l c)

/-- The scratch buffers, slot by slot. -/
def slots (c : Dev nD) : sProp 𝕄 := bigSep Finset.univ fun l => iprop(stAny (F := F) l c ∗ bufs l c)

/-- After the point: the slots, and every semaphore at zero. -/
def Φ₁ (c : Dev nD) : sProp 𝕄 := iprop((bigSep Finset.univ fun l => lane1 (F := F) l c) ∗ semVal (barCell c) 0 ∗ slots c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (insOf m).x c
    | ⟨1, _⟩ => (insOf m).w c
    | ⟨2, _⟩ => (insOf m).sx c
    | ⟨3, _⟩ => (insOf m).sw c
    | ⟨4, _⟩ => res (insOf m) c
  Φ t := match t with
    | ⟨0, _⟩ => iprop(start m c ∗ slots c)
    | ⟨_ + 1, _⟩ => Φ₁ c
  q _ := fullShare
  owed t := match t with
    | ⟨0, _⟩ => tallyL (dueL c)
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body at the point -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((start m c ∗ slots c) ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt 0 t0_0.succ ∗ stg c cc0_stg0_0 ((insOf m).x c) ∗ stg c cc0_stg1_0 ((insOf m).w c)
    ∗ stg c cc0_stg2_0 ((insOf m).sx c) ∗ stg c cc0_stg3_0 ((insOf m).sw c) ∗ stg c cc0_stg4_0 (res (insOf m) c))

theorem pos_slot (x : CK) (l : Fin 8) (c : Dev nD) : (pos x.1 l c x.2.val : sProp 𝕄) = atPos ER (cell x.1 l c x.2.val) 0 ∅ 0 := by
  unfold pos; rw [Nat.div_eq_of_lt x.2.isLt]

theorem start_lanes (c : Dev nD) : iprop(start m c ∗ slots c)
    ⊢ iprop(recs (insOf m) ∗ shakeRes c ∗ bigSep Finset.univ fun l => lane0 (F := F) l c) := by
  unfold start slots G' known recs shakeRes lane0 perCell payToks laneCred
  simp only [pos_slot, bigSep_sep', bigSep_univ_prod (α := Fin 8)]
  iintro ⟨⟨⟨⟨⟨Kb, Kb'⟩, Kc, Kc'⟩, ⟨Pb, Pc⟩, ⟨Tn, Tp⟩, Tc⟩, Lv, Cb, C1, C2, C3, C4⟩, S, B⟩
  isplitl [Kb Kb' Kc Kc' Lv]
  · isplitl [Kb Kb']
    · isplitl [Kb]; · iexact Kb
      iexact Kb'
    isplitl [Kc Kc']
    · isplitl [Kc]; · iexact Kc
      iexact Kc'
    iexact Lv
  isplitl [Pb Cb Tp Tn B]
  · isplitl [Pb]; · iexact Pb
    isplitl [Cb]; · iexact Cb
    isplitl [Tp]; · iexact Tp
    isplitl [Tn]; · iexact Tn
    iexact B
  isplitl [Pc]; · iexact Pc
  isplitl [Tc]; · iexact Tc
  isplitl [C1 C2 C3 C4]
  · isplitl [C1]; · iexact C1
    isplitl [C2]; · iexact C2
    isplitl [C3]; · iexact C3
    iexact C4
  iexact S

theorem owes_in (c : Dev nD) : (dats m ρ 0 c).owesAt 0 t0_0.castSucc ⊢ owesL (F := F) c (dueL c) := by
  unfold Dat.owesAt Pipeline.owesWithin owesL
  rw [show (dats m ρ 0 c).owed t0_0.castSucc = tallyL (dueL c) from rfl]
  iintro ⟨%W, -, H⟩
  iexists W; iexact H
theorem owes_out (c : Dev nD) : owesL (F := F) c [] ⊢ (dats m ρ 0 c).owesAt 0 t0_0.succ := by
  unfold Dat.owesAt Pipeline.owesWithin owesL
  rw [show (dats m ρ 0 c).owed t0_0.succ = tallyL [] from rfl]
  iintro ⟨%W, H⟩
  iexists W
  isplitr; · ipureintro; exact fun _ _ => Or.inl trivial
  iexact H

theorem body_in (c : Dev nD) : bodyPre m ρ c ⊢ bodyIn (insOf m) c := by
  unfold bodyPre bodyIn inp xF outF
  iintro ⟨Hs, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = (insOf m).x c := by rw [h0]; unfold Dat.before; rw [if_pos (show (cfg0.win (0 : Fin 5)).fetch t0_0 = true from rfl)]; rfl
  have e1 : g1 = (insOf m).w c := by rw [h1]; unfold Dat.before; rw [if_pos (show (cfg0.win (1 : Fin 5)).fetch t0_0 = true from rfl)]; rfl
  have e2 : g2 = (insOf m).sx c := by rw [h2]; unfold Dat.before; rw [if_pos (show (cfg0.win (2 : Fin 5)).fetch t0_0 = true from rfl)]; rfl
  have e3 : g3 = (insOf m).sw c := by rw [h3]; unfold Dat.before; rw [if_pos (show (cfg0.win (3 : Fin 5)).fetch t0_0 = true from rfl)]; rfl
  subst e0 e1 e2 e3
  ihave Hs := (start_lanes m c) $$ Hs
  ihave Ho := (owes_in m ρ c) $$ Ho
  icases Hs with ⟨A, B, C⟩
  isplitl [A]; · iexact A
  isplitl [B]; · iexact B
  isplitl [C]; · iexact C
  isplitl [Ho]; · iexact Ho
  isplitl [H0 H1 H2 H3]
  · isplitl [H0]; · iexact H0
    isplitl [H1]; · iexact H1
    isplitl [H2]; · iexact H2
    iexact H3
  iexists _; iexact H4

theorem stg_intro (c : Dev nD) (b : Ref sig .tc) (X : b.ty.Contents (Elt F)) : ((((c : Thread nD τ).loc b) ↦{fullShare} X) : sProp 𝕄) ⊢ stg c b X := by
  iintro H
  iexists _
  isplitr; · ipureintro; rfl
  iexact H

theorem body_out (c : Dev nD) : bodyOut (insOf m) c ⊢ bodyPost m ρ c := by
  unfold bodyPost bodyOut inp xF outF Φ₁ slots
  iintro ⟨A, B, C, Ho, ⟨H0, H1, H2, H3⟩, H4⟩
  isplitl [A B C]
  · isplitl [A]; · iexact A
    isplitl [B]; · iexact B
    iexact C
  isplitl [Ho]; · iapply (owes_out m ρ c) $$ Ho
  isplitl [H0]; · iapply (stg_intro c cc0_stg0_0 _) $$ H0
  isplitl [H1]; · iapply (stg_intro c cc0_stg1_0 _) $$ H1
  isplitl [H2]; · iapply (stg_intro c cc0_stg2_0 _) $$ H2
  isplitl [H3]; · iapply (stg_intro c cc0_stg3_0 _) $$ H3
  iapply (stg_intro c cc0_stg4_0 _) $$ H4

theorem body_run (c : Dev nD) : bodyPre m ρ c ⊢ WP c (kbody (F := F)) fun _ => bodyPost m ρ c :=
  (body_in m ρ c).trans ((wp_body (insOf m) c).trans (wp_mono _ _ _ fun _ => body_out m ρ c))

theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  have e := body_run (F := F) m ρ c
  rw [← body_eq] at e
  exact e

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts (L 140) lv
        ∗ Pipeline.launchCred (fun d => tallyL (dueL d)) c ∗ prngReg c (ρ c) ∗ G' (insOf m) c)
      ⊢ |={Set.univ}=> iprop(start m c ∗ emp) := by
  iintro ⟨-, Hlev, Hcr, -, HG⟩
  ihave Hc := (creds (F := F) c) $$ Hcr
  icases Hc with ⟨H1, H2⟩
  imodintro
  unfold start
  isplitl
  · isplitl [HG]; · iexact HG
    isplitl [Hlev]; · iexact Hlev
    isplitl [H1]; · iexact H1
    iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ slots c) from rfl, scopedRest0_eq]
  unfold slots
  rw [bufs_eq]
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, unscoped_eq]
  unfold Φ₁ slots
  rw [bufs_eq]
  iintro ⟨A, B, C⟩
  isplitl [B]; · iexact B
  isplitl [A]; · iexact A
  iexact C

theorem dueL_from (c : Dev nD) : From 1 (dueL c) :=
  From.cons rfl (le_refl _) (by show 1 < 140; decide) (From.cons rfl (le_refl _) (by show 1 < 140; decide) ((rem_from c 0).mono (by decide)))

theorem mayWait_stage (c : Dev nD) (q : SemLoc sig) (O : CellTallies nD τ sig ℕ) (hO : O = tallyL (dueL c) ∨ O = 0) :
    (levAts (L 140) lv : sProp 𝕄) ⊢ MayWait (c : Thread nD τ) q 0 O := by
  rcases hO with rfl | rfl
  · exact mayWait c q (i := 0) (p := 1) (by decide) (by decide) (dueL_from c)
  · rw [MayWait_zero]; iintro -; iempintro

theorem waits (c : Dev nD) : (levAts (L 140) lv : sProp 𝕄) ⊢ Pipeline.cellsWaits cfgs (dats m ρ) 0 0 c :=
  Pipeline.cellsWaits_intro cfgs (dats m ρ) 0 0 c fun w s t =>
    mayWait_stage c _ _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution terminates, with every window's array
    at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => tallyL (dueL d)) (howed₀ := fun _ => rfl) (howedN := fun _ => rfl)
    (L := L 140) (lv := lv) (hL := SiteBlocks.hL 140) (hwaits := waits m ρ)
    (G := G (insOf m)) (G' := G' (insOf m)) (u₀ := u₀)
    (hu₀ := by
      unfold u₀
      iintro Hu
      ihave H := (ownU_pair _ _) $$ Hu
      icases H with ⟨HP, HX⟩
      imod (mint (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Frames.lean ====
/-
The claims about one run: the kernel ends with every counter at zero and its arguments as they were, and the result
array holds what the lanes computed; the reference ends with its result array at the whole product.
-/
module

public import proofs.«01_k».proof.Defs
public import proofs.«01_k».proof.Proof.Launch
public import proofs.«01_k».proof.Proof.Gen.Kernel
public import proofs.«01_k».proof.Proof.Gen.ReferenceIdeal.Value

@[expose] public section

noncomputable section

namespace Cert.Ring

open Cert.KernelIdeal
open Cert.KernelIdeal.Gen (t0_0)
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An argument's array ends as it was launched: no window writes it. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats m ρ 0 c).arrAt_in (0 : Fin 5) rfl _), (h c (1 : Fin 5)).trans ((dats m ρ 0 c).arrAt_in (1 : Fin 5) rfl _),
    (h c (2 : Fin 5)).trans ((dats m ρ 0 c).arrAt_in (2 : Fin 5) rfl _), (h c (3 : Fin 5)).trans ((dats m ρ 0 c).arrAt_in (3 : Fin 5) rfl _)⟩

theorem emb_out : ∀ j : S4096x2048.Idx, (win0_4.blk (0 : Fin 1)).view.emb j = j := by
  intro j
  funext a; apply Fin.ext
  match a with
  | ⟨0, _⟩ => show 0 * 4096 + 1 * (j 0).val = (j 0).val; omega
  | ⟨1, _⟩ => show 0 * 2048 + 1 * (j 1).val = (j 1).val; omega

/-- The result's array ends holding what the lanes computed. -/
theorem final_out (c : Dev nD) : finalA m ρ c (4 : Fin 5) = res (insOf m) c := by
  have h : (win0_4.blk (0 : Fin 1)).view.read (Elt F) (finalA m ρ c (4 : Fin 5)) = res (insOf m) c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  funext j
  have := congrFun h j
  rwa [View.read_apply, emb_out] at this

/-- The run with the result's array and the arguments named. -/
theorem run_out : θ_run defs (onTc (τ := τ) (main (F := F))) ⟨m, fun _ => 0, ρ⟩ fun r => ∀ c : Dev nD,
    r.2.mem ((c.tc : Thread nD τ).loc main_v1) = res (insOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c (4 : Fin 5)).trans (final_out m ρ c), args_kept m ρ h.1 c⟩) (run_main m ρ)

/-- The arguments as they were and every counter at zero, for any float values. -/
theorem run_frame : θ_run defs (onTc (τ := τ) (main (F := F))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => args_kept m ρ h.1 c, h.2⟩) (run_main m ρ)

theorem frame_kernelIdeal : Cert.quiescent_KernelIdeal := fun m ρ _ => run_frame (F := Ideal) m ρ

/-- The two kernels' body tables are the same. -/
theorem defs₀_same : Cert.Kernel.defs₀ (F := F) = defs₀ (F := F) := by
  unfold Cert.Kernel.defs₀ defs₀
  refine congrArg Defs.onTc (funext fun l => funext fun a => ?_)
  match l, a with
  | ⟨0, _⟩, ⟨t, s⟩ => rfl

theorem defs_same : Cert.Kernel.defs (F := F) = defs (F := F) := congrArg (Pipeline.defs pcfgs) defs₀_same

theorem frame_kernel : Cert.quiescent_Kernel := by
  intro m ρ _
  have h := run_frame (F := Bits) m ρ
  rw [← defs_same] at h
  exact h

theorem frame_reference : Cert.quiescent_ReferenceIdeal := fun m ρ _ => Cert.ReferenceIdeal.Gen.frame m ρ

end Cert.Ring

end
-- ==== Proof.Ring.lean ====
/-
What the two rings compute over the extended reals, where a format change leaves a value alone: after the reduction a
tile is the sum over all the devices of their tiles of that chunk, and after the gathering every device holds that sum
for every chunk.
-/
module

public import proofs.«01_k».proof.Proof.Vals
public import Idealize.ShloMosaic.PureOps.Ideal.Laws

@[expose] public section

noncomputable section

namespace Cert.Ring

open Cert.KernelIdeal
open Idealize.ShloMosaic Idealize.ShloMosaic.TcCoe
open Cert.KernelIdeal.Facts₀ Cert.KernelIdeal.Facts

/-- The devices met going back along a ring are all the devices, once each. -/
theorem back_injective : ∀ (l : Fin 8) (c : Dev nD) (i j : Fin 8), (pv l)^[i.val] c = (pv l)^[j.val] c → i = j := by
  decide +kernel

/-- So a sum along a ring is a sum over the devices. -/
theorem sum_back {M : Type} [AddCommMonoid M] (l : Fin 8) (c : Dev nD) (f : Dev nD → M) :
    ∑ t ∈ Finset.range 8, f ((pv l)^[t] c) = ∑ d, f d := by
  rw [Finset.sum_range fun t => f ((pv l)^[t] c)]
  have hb : Function.Bijective fun i : Fin 8 => (pv l)^[i.val] c :=
    (Fintype.bijective_iff_injective_and_card _).mpr ⟨fun i j h => back_injective l c i j h, rfl⟩
  exact hb.sum_comp f

theorem sub_zeroth : ∀ q : Fin 8, q - Fin.ofNat 8 0 = q := by decide

theorem rk_back (l : Fin 8) (n : ℕ) (c : Dev nD) : rk l ((pv l)^[n] c) = rk l c - Fin.ofNat 8 n := by
  induction n generalizing c with
  | zero => exact (sub_zeroth _).symm
  | succ n ih =>
    rw [Function.iterate_succ_apply, ih, rk_pv]
    apply Fin.ext
    simp only [Fin.sub_def, Fin.ofNat]
    omega

variable (I : Ins Ideal)

/-- The finished tile of chunk `k` and lane `l`. -/
def full (l k : Fin 8) : FVec Ideal S512x256 .f32 := fun i => ∑ d : Dev nD, tileV I d l k i

/-- What is sent at hop `h` is the sum over the last `h + 1` devices of their tiles of the chunk under way. -/
theorem sent_sum (l : Fin 8) (h : ℕ) (c : Dev nD) (i : S512x256.Idx) :
    sent I l h c i = ∑ t ∈ Finset.range (h + 1), tileV I ((pv l)^[t] c) l (rk l c - Fin.ofNat 8 h) i := by
  induction h generalizing c with
  | zero =>
    rw [Finset.sum_range_one, show rk l c - Fin.ofNat 8 0 = rk l c from sub_zeroth _]
    rfl
  | succ h ih =>
    have e : rk l (pv l c) - Fin.ofNat 8 h = rk l c - Fin.ofNat 8 (h + 1) := by
      rw [← Function.iterate_one (pv l), rk_back]
      apply Fin.ext
      simp only [Fin.sub_def, Fin.ofNat]
      omega
    rw [Finset.sum_range_succ']
    show tileV I c l (rk l c - Fin.ofNat 8 (h + 1)) i + sent I l h (pv l c) i = _
    rw [ih, e, add_comm]
    rfl

/-- At hop 7 that is the finished tile. -/
theorem sent_full (l : Fin 8) (c : Dev nD) (i : S512x256.Idx) : sent I l 7 c i = full I l (rk l c - 7) i := by
  rw [sent_sum]
  exact sum_back l c fun d => tileV I d l (rk l c - 7) i

theorem gat_eq (l : Fin 8) (h : ℕ) (c : Dev nD) : gat I l h c = sent I l 7 ((pv l)^[h + 1] c) := by
  induction h generalizing c with
  | zero => rfl
  | succ h ih => exact ih (pv l c)

/-- What a device receives at hop `h` of the gathering is the finished tile of the chunk `h` places behind its own. -/
theorem gat_full (l : Fin 8) (h : ℕ) (c : Dev nD) (i : S512x256.Idx) : gat I l h c i = full I l (rk l c - Fin.ofNat 8 h) i := by
  rw [gat_eq, sent_full, rk_back]
  congr 1
  apply Fin.ext
  simp only [Fin.sub_def, Fin.ofNat]
  show (8 - 7 + _) % 8 = _
  omega

/-- After the reduction and `n` hops of the gathering, the chunks dealt with hold their finished tiles. -/
theorem outV_full (c : Dev nD) (l : Fin 8) (n : ℕ) (k : Fin 8) (hk : k = rk l c - 7 ∨ ∃ h < n, k = rk l c - Fin.ofNat 8 h) :
    outV I c l (n + 7) k = full I l k := by
  induction n with
  | zero =>
    obtain rfl | ⟨h, hh, -⟩ := hk
    · rw [Nat.zero_add, outV_six, Function.update_self]
      funext i
      exact sent_full I l c i
    · exact absurd hh (Nat.not_lt_zero h)
  | succ n ih =>
    rw [show n + 1 + 7 = n + 7 + 1 by omega, outV_ag]
    by_cases e : k = rk l c - Fin.ofNat 8 n
    · subst e
      rw [Function.update_self]
      funext i
      exact gat_full I l n c i
    · rw [Function.update_of_ne e]
      refine ih (hk.imp id ?_)
      rintro ⟨h, hh, rfl⟩
      exact ⟨h, lt_of_le_of_ne (Nat.le_of_lt_succ hh) fun e' => e (by rw [e']), rfl⟩

theorem chunk_cases : ∀ q k : Fin 8, k = q - 7 ∨ ∃ h < 7, k = q - Fin.ofNat 8 h := by decide

/-- At the end every chunk does. -/
theorem outV_end (c : Dev nD) (l k : Fin 8) : outV I c l 14 k = full I l k :=
  outV_full I c l 7 k (chunk_cases (rk l c) k)

end Cert.Ring

end
-- ==== Proof.Product.lean ====
/-
The local products over the extended reals: an element of a device's row chunk is a sum of 512 products times the
scale; the devices' sums are the stretches of the reference's sum of 4096; and a scale that is neither negative nor
infinite passes through the sum over the devices, whatever the summands.
-/
module

public import proofs.«01_k».proof.Proof.Vals
public import proofs.«01_k».proof.Proof.Gen.ReferenceIdeal.Skeleton
public import Idealize.ShloMosaic.Lib.MatmulPlain
public import Idealize.ShloMosaic.Lib.Layout
public import Idealize.ShloMosaic.Lib.Pipeline.ValueKit.Acc

@[expose] public section

noncomputable section

namespace Cert.Ring

open Cert.KernelIdeal
open Idealize.ShloMosaic Idealize.ShloMosaic.TcCoe Idealize.ShloMosaic.ValueIdx
open Cert.KernelIdeal.Facts₀ Cert.KernelIdeal.Facts

/-- A factor that is neither negative nor infinite distributes over any finite sum of extended reals. -/
theorem sum_mul_scale {ι : Type} (t : Finset ι) (a : ι → EReal) {s : EReal} (h0 : 0 ≤ s) (ht : s ≠ ⊤) :
    ∑ i ∈ t, a i * s = (∑ i ∈ t, a i) * s := by
  classical
  induction t using Finset.induction_on with
  | empty => rw [Finset.sum_empty, Finset.sum_empty, zero_mul]
  | insert i t hi ih =>
    rw [Finset.sum_insert hi, Finset.sum_insert hi, ih, EReal.right_distrib_of_nonneg_of_ne_top h0 ht]

/-- The word of positive zero is zero. -/
theorem word_zero : Ideal.ofBits .f32 0x00000000#32 = 0 := by simp [Ideal.ofBits, Ideal.ieee]

variable (I : Ins Ideal)

/-- An element of a row chunk of a device's product. -/
theorem row_apply (c : Dev nD) (k : Fin 8) (r : Fin 512) (q : Fin 2048) (hr : 512 * k.val + r.val < 4096) :
    rowV I c k (ix2 r q) = (∑ κ : Fin 512, I.x c (ix2 ⟨512 * k.val + r.val, hr⟩ κ) * I.w c (ix2 κ q)) * scale I c := by
  unfold rowV gemmVal wbf
  rw [shapeCast_self, shapeCast_self]
  show FloatOps.matmul (DotDims.plain 512 512 2048) none _ _ _ (ix2 r q) * scale I c = _
  rw [Ideal.matmul_plain_apply]
  congr 1
  refine (congrArg (· + _) word_zero).trans ((zero_add _).trans (Finset.sum_congr rfl fun κ _ => ?_))
  refine congrArg (fun z => I.x c z * I.w c (ix2 κ q)) ?_
  funext a
  apply Fin.ext
  match a with
  | ⟨0, _⟩ => show 512 * k.val + 1 * r.val = 512 * k.val + r.val; omega
  | ⟨1, _⟩ => show 0 + 1 * κ.val = κ.val; omega

/-- The scale the reference computes. -/
def refScale (a2 a3 : FVec Ideal S1 .f32) : EReal :=
  Scalar.mulf (F := Ideal) (φ := .f32) (extractAt ![0] a2 inpos_S1_p0) (extractAt ![0] a3 inpos_S1_p0)

/-- An element of the reference's result. -/
theorem ref_apply (X : Vec Ideal ⟨2, ![4096, 4096]⟩ .fp8e4m3) (W : Vec Ideal ⟨2, ![4096, 2048]⟩ .fp8e4m3) (a2 a3 : Vec Ideal S1 .f32)
    (r : Fin 4096) (q : Fin 2048) :
    Cert.ReferenceIdeal.Gen.k0_pay1 X W a2 a3 (ix2 r q) = (∑ κ : Fin 4096, X (ix2 r κ) * W (ix2 κ q)) * refScale a2 a3 := by
  show FloatOps.matmul (F := Ideal) (DotDims.plain 4096 4096 2048) none _ _ _ (ix2 r q) * refScale a2 a3 = _
  rw [Ideal.matmul_plain_apply]
  congr 1
  exact (congrArg (· + _) word_zero).trans (zero_add _)

variable (X : Vec Ideal ⟨2, ![4096, 4096]⟩ .fp8e4m3) (W : Vec Ideal ⟨2, ![4096, 2048]⟩ .fp8e4m3) (a2 a3 : Vec Ideal S1 .f32)

/-- The devices' row chunks add up to the reference's rows. -/
theorem sum_rows (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W)
    (hs : ∀ c, scale I c = refScale a2 a3) (h0 : 0 ≤ refScale a2 a3) (ht : refScale a2 a3 ≠ ⊤)
    (k : Fin 8) (r : Fin 512) (q : Fin 2048) (hr : 512 * k.val + r.val < 4096) :
    ∑ c : Dev nD, rowV I c k (ix2 r q) = Cert.ReferenceIdeal.Gen.k0_pay1 X W a2 a3 (ix2 ⟨512 * k.val + r.val, hr⟩ q) := by
  rw [ref_apply]
  have : ∀ c : Dev nD, rowV I c k (ix2 r q)
      = (∑ κ : Fin 512, I.x c (ix2 ⟨512 * k.val + r.val, hr⟩ κ) * I.w c (ix2 κ q)) * refScale a2 a3 := fun c => by
    rw [row_apply I c k r q hr, hs]
  rw [Finset.sum_congr rfl fun c _ => this c, sum_mul_scale _ _ h0 ht]
  congr 1
  refine Fin.sum_mul_add_congr (S := 8) (n := 512) (fun c κ hl => ?_)
  rw [hx, hw, Layout.block_apply, Layout.block_apply]
  congr 2
  · funext a
    apply Fin.ext
    match a with
    | ⟨0, _⟩ => rfl
    | ⟨1, _⟩ => rfl
  · funext a
    apply Fin.ext
    match a with
    | ⟨0, _⟩ => rfl
    | ⟨1, _⟩ => rfl

/-- So every finished tile is the reference's. -/
theorem sum_tiles (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W)
    (hs : ∀ c, scale I c = refScale a2 a3) (h0 : 0 ≤ refScale a2 a3) (ht : refScale a2 a3 ≠ ⊤)
    (l k : Fin 8) (i : S512x256.Idx) :
    ∑ c : Dev nD, tileV I c l k i = tileRd k l (Cert.ReferenceIdeal.Gen.k0_pay1 X W a2 a3) i := by
  have i0 : (i 0 : Nat) < 512 := (i 0).isLt
  have i1 : (i 1 : Nat) < 256 := (i 1).isLt
  have hc := (col l).isLt
  have e : (rSub l).emb i = ix2 (⟨i 0, i0⟩ : Fin 512) (⟨256 * (col l).val + i 1, by omega⟩ : Fin 2048) := by
    funext a
    apply Fin.ext
    match a with
    | ⟨0, _⟩ => show 0 + 1 * (i 0 : Nat) = i 0; omega
    | ⟨1, _⟩ => show 256 * (col l).val + 1 * (i 1 : Nat) = 256 * (col l).val + i 1; omega
  have hr : 512 * k.val + (i 0 : Nat) < 4096 := by omega
  refine (Finset.sum_congr rfl fun c _ => congrArg (rowV I c k) e).trans
    ((sum_rows I X W a2 a3 hx hw hs h0 ht k _ _ hr).trans (congrArg (Cert.ReferenceIdeal.Gen.k0_pay1 X W a2 a3) ?_))
  funext a
  apply Fin.ext
  match a with
  | ⟨0, _⟩ => show 512 * k.val + (i 0 : Nat) = 512 * k.val + 1 * (i 0 : Nat); omega
  | ⟨1, _⟩ => show 256 * (col l).val + (i 1 : Nat) = 256 * (col l).val + 1 * (i 1 : Nat); omega

end Cert.Ring

end
-- ==== Proof.Value.lean ====
/-
The value claim: on every device the result the rings leave is the reference's result, over the extended reals, when
the product of the two scales is neither negative nor infinite.
-/
module

public import proofs.«01_k».proof.Defs
public import proofs.«01_k».proof.Proof.Frames
public import proofs.«01_k».proof.Proof.Ring
public import proofs.«01_k».proof.Proof.Product
public import proofs.«01_k».proof.Proof.Gen.ReferenceIdeal.Value

@[expose] public section

noncomputable section

namespace Cert.Ring

open Cert.KernelIdeal
open Idealize.ShloMosaic Idealize.ShloMosaic.TcCoe Idealize.SL.Sem
open Cert.KernelIdeal.Facts₀ Cert.KernelIdeal.Facts

theorem facts_pre_kernel : Cert.Pre_scale_nonneg_KernelIdeal.Facts := ⟨by decide⟩
theorem facts_pre_reference : Cert.Pre_scale_nonneg_ReferenceIdeal.Facts := ⟨by decide⟩

/-! ## The arguments as the region's windows read them -/

variable (m : (ℓ : Loc nD τ sig) → Buf (Elt Ideal) ℓ) (c : Dev nD)

theorem emb_x : ∀ j : S4096x512.Idx, (win0_0.blk (0 : Fin 1)).view.emb j = j := by
  intro j
  funext a; apply Fin.ext
  match a with
  | ⟨0, _⟩ => show 0 * 4096 + 1 * (j 0).val = (j 0).val; omega
  | ⟨1, _⟩ => show 0 * 512 + 1 * (j 1).val = (j 1).val; omega
theorem emb_w : ∀ j : S512x2048.Idx, (win0_1.blk (0 : Fin 1)).view.emb j = j := by
  intro j
  funext a; apply Fin.ext
  match a with
  | ⟨0, _⟩ => show 0 * 512 + 1 * (j 0).val = (j 0).val; omega
  | ⟨1, _⟩ => show 0 * 2048 + 1 * (j 1).val = (j 1).val; omega
theorem emb_sx : ∀ j : S1.Idx, (win0_2.blk (0 : Fin 1)).view.emb j = j := by decide
theorem emb_sw : ∀ j : S1.Idx, (win0_3.blk (0 : Fin 1)).view.emb j = j := by decide

theorem ins_x : (insOf m).x c = m ((c.tc : Thread nD τ).loc main_arg0) :=
  funext fun j => congrArg (m ((c.tc : Thread nD τ).loc main_arg0)) (emb_x j)
theorem ins_w : (insOf m).w c = m ((c.tc : Thread nD τ).loc main_arg1) :=
  funext fun j => congrArg (m ((c.tc : Thread nD τ).loc main_arg1)) (emb_w j)
theorem ins_sx : (insOf m).sx c = m ((c.tc : Thread nD τ).loc main_arg2) :=
  funext fun j => congrArg (m ((c.tc : Thread nD τ).loc main_arg2)) (emb_sx j)
theorem ins_sw : (insOf m).sw c = m ((c.tc : Thread nD τ).loc main_arg3) :=
  funext fun j => congrArg (m ((c.tc : Thread nD τ).loc main_arg3)) (emb_sw j)

theorem ins_scale : scale (insOf m) c = refScale (m ((c.tc : Thread nD τ).loc main_arg2)) (m ((c.tc : Thread nD τ).loc main_arg3)) := by
  unfold scale refScale
  rw [ins_sx, ins_sw]

/-! ## The precondition -/

/-- The word of positive infinity is the top element. -/
theorem word_top : Ideal.ofBits .f32 0x7F800000#32 = ⊤ := by simp [Ideal.ofBits, Ideal.ieee]

theorem scale_of_pre [Cert.Pre_scale_nonneg_KernelIdeal.Facts] (x : Vec Ideal S4096x512 .fp8e4m3) (w : Vec Ideal S512x2048 .fp8e4m3)
    (a2 a3 : Vec Ideal S1 .f32) (h : Cert.Pre_scale_nonneg_KernelIdeal.fn (F := Ideal) x w a2 a3 = fun _ => 1#1) :
    0 ≤ refScale a2 a3 ∧ refScale a2 a3 ≠ ⊤ := by
  have h1 := congrFun h (fun a => ⟨(![0] : Fin 1 → ℕ) a, inpos_S1_p0 a⟩)
  replace h1 : Ideal.cmp .oge (refScale a2 a3) (Ideal.ofBits .f32 0x00000000#32)
      &&& Ideal.cmp .olt (refScale a2 a3) (Ideal.ofBits .f32 0x7F800000#32) = 1#1 := h1
  rw [word_zero, word_top] at h1
  by_cases p : 0 ≤ refScale a2 a3 <;> by_cases q : refScale a2 a3 < ⊤
  · exact ⟨p, q.ne⟩
  all_goals simp [Ideal.cmp, p, q] at h1

/-! ## The claim -/

/-- On each device the result is the reference's. -/
theorem res_eq (X : Vec Ideal ⟨2, ![4096, 4096]⟩ .fp8e4m3) (W : Vec Ideal ⟨2, ![4096, 2048]⟩ .fp8e4m3) (a2 a3 : Vec Ideal S1 .f32)
    (I : Ins Ideal) (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W)
    (hs : ∀ c, scale I c = refScale a2 a3) (h0 : 0 ≤ refScale a2 a3) (ht : refScale a2 a3 ≠ ⊤) :
    res I c = Cert.ReferenceIdeal.Gen.k0_pay1 X W a2 a3 := by
  refine ext_tiles fun k l => ?_
  rw [tileRd_res, outV_end]
  funext i
  exact sum_tiles I X W a2 a3 hx hw hs h0 ht l k i

theorem algebraic [Cert.Pre_scale_nonneg_KernelIdeal.Facts] :
    Cert.algebraic_KernelIdeal_ReferenceIdeal_pre_scale_nonneg_KernelIdeal := by
  intro m g m' g' hpre hin
  have hs : ∀ c, scale (insOf m) c = refScale (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := fun c => by
    rw [ins_scale, (hin c).2.2.1, (hin c).2.2.2]
  have hp := scale_of_pre _ _ _ _ (hpre (0 : Dev nD))
  rw [(hin 0).2.2.1, (hin 0).2.2.2] at hp
  refine ⟨_, (θ_run _ _ _).mono (fun r h c => ?_) (run_out (F := Ideal) m g),
    (θ_run _ _ _).mono (fun r h => h 0) (Cert.ReferenceIdeal.Value.run (F := Ideal) m' g')⟩
  refine ⟨(h c).1.trans ?_, (h c).2⟩
  exact res_eq c _ _ _ _ (insOf m) (fun c => (ins_x m c).trans (hin c).1) (fun c => (ins_w m c).trans (hin c).2.1) hs hp.1 hp.2

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.facts_pre_kernel, Cert.Ring.facts_pre_reference,
  Cert.Ring.frame_kernel, Cert.Ring.frame_kernelIdeal, fun m ρ _ => Cert.Ring.frame_kernelIdeal m ρ trivial,
  Cert.Ring.frame_reference, fun m ρ _ => Cert.Ring.frame_reference m ρ trivial,
  trivial, @Cert.Ring.algebraic Cert.Ring.facts_pre_kernel⟩

end Cert.Proof

end
